-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_rows [hPre_finite_rows : Cert.Pre_finite_rows.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_rows [hPre_finite_rows : Cert.Pre_finite_rows.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_rows.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_keys [hPre_finite_keys : Cert.Pre_finite_keys.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_keys [hPre_finite_keys : Cert.Pre_finite_keys.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite_rows [hKernel4Ideal : Cert.Kernel4Ideal.Facts] [hPre_finite_rows : Cert.Pre_finite_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_rows m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite_rows [hReference4Ideal : Cert.Reference4Ideal.Facts] [hPre_finite_rows : Cert.Pre_finite_rows.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_rows m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_keys [hKernel5Ideal : Cert.Kernel5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_keys m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_keys [hReference5Ideal : Cert.Reference5Ideal.Facts] [hPre_finite_keys : Cert.Pre_finite_keys.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_keys m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v17)) (v5 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v17) = v4 c
          ∧ r.2.mem ((c.tc : Thread Cert.Kernel2Ideal.nD Cert.Kernel2Ideal.τ).loc Cert.Kernel2Ideal.main_v18) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v35) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v15)) (v4 : (c : Dev Cert.Kernel3Ideal.nD) → Buf (Elt Ideal) ((c.tc : Thread Cert.Kernel3Ideal.nD Cert.Kernel3Ideal.τ).loc Cert.Kernel3Ideal.main_v16)) (v5 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v15) = v3 c
          ∧ r.2.mem ((c.tc : Thread Cert.Kernel3Ideal.nD Cert.Kernel3Ideal.τ).loc Cert.Kernel3Ideal.main_v16) = v4 c
          ∧ r.2.mem ((c.tc : Thread Cert.Kernel3Ideal.nD Cert.Kernel3Ideal.τ).loc Cert.Kernel3Ideal.main_v17) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_v33) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_rows [hKernel4Ideal : Cert.Kernel4Ideal.Facts] [hReference4Ideal : Cert.Reference4Ideal.Facts] [hPre_finite_rows : Cert.Pre_finite_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_rows m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_finite_keys [hKernel5Ideal : Cert.Kernel5Ideal.Facts] [hReference5Ideal : Cert.Reference5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_keys m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)) (v3 : (c : Dev Cert.Kernel6Ideal.nD) → Buf (Elt Ideal) ((c.tc : Thread Cert.Kernel6Ideal.nD Cert.Kernel6Ideal.τ).loc Cert.Kernel6Ideal.main_v33_3)) (v4 : (c : Dev Cert.Kernel6Ideal.nD) → Buf (Elt Ideal) ((c.tc : Thread Cert.Kernel6Ideal.nD Cert.Kernel6Ideal.τ).loc Cert.Kernel6Ideal.main_v33_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_v33_3) = v3 c
          ∧ r.2.mem ((c.tc : Thread Cert.Kernel6Ideal.nD Cert.Kernel6Ideal.τ).loc Cert.Kernel6Ideal.main_v33_6) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v65) = v2 c
          ∧ r.2.mem ((c.tc : Thread Cert.Reference6Ideal.nD Cert.Reference6Ideal.τ).loc Cert.Reference6Ideal.main_v67) = v3 c
          ∧ r.2.mem ((c.tc : Thread Cert.Reference6Ideal.nD Cert.Reference6Ideal.τ).loc Cert.Reference6Ideal.main_v68) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_rows : Cert.Pre_finite_rows.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_rows (hKernel4Ideal := hKernel4Ideal) (hPre_finite_rows := hPre_finite_rows)
    ∧ quiescent_Reference4Ideal (hReference4Ideal := hReference4Ideal)
    ∧ quiescent_Reference4Ideal_pre_finite_rows (hReference4Ideal := hReference4Ideal) (hPre_finite_rows := hPre_finite_rows)
    ∧ quiescent_Kernel5 (hKernel5 := hKernel5)
    ∧ quiescent_Kernel5Ideal (hKernel5Ideal := hKernel5Ideal)
    ∧ quiescent_Kernel5Ideal_pre_finite_keys (hKernel5Ideal := hKernel5Ideal) (hPre_finite_keys := hPre_finite_keys)
    ∧ quiescent_Reference5Ideal (hReference5Ideal := hReference5Ideal)
    ∧ quiescent_Reference5Ideal_pre_finite_keys (hReference5Ideal := hReference5Ideal) (hPre_finite_keys := hPre_finite_keys)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_rows (hKernel4Ideal := hKernel4Ideal) (hReference4Ideal := hReference4Ideal) (hPre_finite_rows := hPre_finite_rows)
    ∧ preserves_Kernel5_Kernel5Ideal
    ∧ algebraic_Kernel5Ideal_Reference5Ideal_pre_finite_keys (hKernel5Ideal := hKernel5Ideal) (hReference5Ideal := hReference5Ideal) (hPre_finite_keys := hPre_finite_keys)
    ∧ preserves_Kernel6_Kernel6Ideal
    ∧ algebraic_Kernel6Ideal_Reference6Ideal (hKernel6Ideal := hKernel6Ideal) (hReference6Ideal := hReference6Ideal)
-- ==== Pre_finite_keys.lean ====
abbrev S512x1536 : Shape := ⟨2, ![512, 1536]⟩
abbrev S16x8x512x64 : Shape := ⟨4, ![16, 8, 512, 64]⟩
abbrev S8x257 : Shape := ⟨2, ![8, 257]⟩
abbrev S512x1024 : Shape := ⟨2, ![512, 1024]⟩
abbrev S_ : Shape := ⟨0, ![]⟩

class Facts : Prop where
  slices_S512x1536_S512x1024_0_0 : S512x1536.Slices ![0, 0] S512x1024
  bcast_S_S512x1024 : S_.BroadcastsInDim S512x1024 (![] : Fin 0 → Fin S512x1024.rank)
  bcast_S_S16x8x512x64 : S_.BroadcastsInDim S16x8x512x64 (![] : Fin 0 → Fin S16x8x512x64.rank)
  bcast_S_S8x257 : S_.BroadcastsInDim S8x257 (![] : Fin 0 → Fin S8x257.rank)

variable [Facts]

def fn {F : FTy → Type} [FloatOps F] (main_arg0 : FVec F S512x1536 .f32) (main_arg1 : FVec F S16x8x512x64 .f32) (main_arg2 : FVec F S16x8x512x64 .f32) (main_arg3 : FVec F S8x257 .f32) : IVec S512x1024 1 × IVec S16x8x512x64 1 × IVec S8x257 1 :=
  let main_v0 : FVec F S512x1024 .f32 := (extractStridedSlice S512x1024 ![0, 0] · slices_S512x1536_S512x1024_0_0) main_arg0
  let main_v1 : FVec F S512x1024 .f32 := Host.absf main_v0
  let main_cst : FVec F S_ .f32 := constant S_ .f32 0x7F800000#32
  let main_v2 : FVec F S512x1024 .f32 := broadcastInDim S512x1024 ![] bcast_S_S512x1024 main_cst
  let main_v3 : IVec S512x1024 1 := cmpf .olt main_v1 main_v2
  let main_v4 : FVec F S16x8x512x64 .f32 := Host.absf main_arg1
  let main_cst_0 : FVec F S_ .f32 := constant S_ .f32 0x7F800000#32
  let main_v5 : FVec F S16x8x512x64 .f32 := broadcastInDim S16x8x512x64 ![] bcast_S_S16x8x512x64 main_cst_0
  let main_v6 : IVec S16x8x512x64 1 := cmpf .olt main_v4 main_v5
  let main_v7 : FVec F S8x257 .f32 := Host.absf main_arg3
  let main_cst_1 : FVec F S_ .f32 := constant S_ .f32 0x7F800000#32
  let main_v8 : FVec F S8x257 .f32 := broadcastInDim S8x257 ![] bcast_S_S8x257 main_cst_1
  let main_v9 : IVec S8x257 1 := cmpf .olt main_v7 main_v8
  (main_v3, main_v6, main_v9)
-- ==== Pre_finite_rows.lean ====
abbrev S2x16384x1024 : Shape := ⟨3, ![2, 16384, 1024]⟩
abbrev S32768x512 : Shape := ⟨2, ![32768, 512]⟩
abbrev S4x128x2x128x128 : Shape := ⟨5, ![4, 128, 2, 128, 128]⟩
abbrev S32768x2048 : Shape := ⟨2, ![32768, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S2048x1024 : Shape := ⟨2, ![2048, 1024]⟩
abbrev S_ : Shape := ⟨0, ![]⟩

class Facts : Prop where
  bcast_S_S4x128x2x128x128 : S_.BroadcastsInDim S4x128x2x128x128 (![] : Fin 0 → Fin S4x128x2x128x128.rank)

variable [Facts]

def fn {F : FTy → Type} [FloatOps F] (main_arg0 : FVec F S2x16384x1024 .f32) (main_arg1 : FVec F S32768x512 .f32) (main_arg2 : FVec F S4x128x2x128x128 .f32) (main_arg3 : FVec F S32768x512 .f32) (main_arg4 : FVec F S32768x512 .f32) (main_arg5 : FVec F S32768x2048 .f32) (main_arg6 : FVec F S1x512 .f32) (main_arg7 : FVec F S1x512 .f32) (main_arg8 : FVec F S1x512x1024 .f32) (main_arg9 : FVec F S1x512x1024 .f32) (main_arg10 : FVec F S1x1024x1024 .f32) (main_arg11 : FVec F S1x1024 .f32) (main_arg12 : FVec F S2048x1024 .f32) : IVec S4x128x2x128x128 1 :=
  let main_v0 : FVec F S4x128x2x128x128 .f32 := Host.absf main_arg2
  let main_cst : FVec F S_ .f32 := constant S_ .f32 0x7F800000#32
  let main_v1 : FVec F S4x128x2x128x128 .f32 := broadcastInDim S4x128x2x128x128 ![] bcast_S_S4x128x2x128x128 main_cst
  let main_v2 : IVec S4x128x2x128x128 1 := cmpf .olt main_v0 main_v1
  main_v2
-- ==== Pre_finite_scores.lean ====
abbrev S32768x1536 : Shape := ⟨2, ![32768, 1536]⟩
abbrev S8x257 : Shape := ⟨2, ![8, 257]⟩
abbrev S32768x1024 : Shape := ⟨2, ![32768, 1024]⟩
abbrev S_ : Shape := ⟨0, ![]⟩

class Facts : Prop where
  slices_S32768x1536_S32768x1024_0_0 : S32768x1536.Slices ![0, 0] S32768x1024
  bcast_S_S32768x1024 : S_.BroadcastsInDim S32768x1024 (![] : Fin 0 → Fin S32768x1024.rank)
  bcast_S_S8x257 : S_.BroadcastsInDim S8x257 (![] : Fin 0 → Fin S8x257.rank)

variable [Facts]

def fn {F : FTy → Type} [FloatOps F] (main_arg0 : FVec F S32768x1536 .f32) (main_arg1 : FVec F S8x257 .f32) : IVec S32768x1024 1 × IVec S8x257 1 :=
  let main_v0 : FVec F S32768x1024 .f32 := (extractStridedSlice S32768x1024 ![0, 0] · slices_S32768x1536_S32768x1024_0_0) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S32768x1536 : Shape := ⟨2, ![32768, 1536]⟩
abbrev S8x257 : Shape := ⟨2, ![8, 257]⟩
abbrev S64 : Shape := ⟨1, ![64]⟩
abbrev S64x1 : Shape := ⟨2, ![64, 1]⟩
abbrev S_ : Shape := ⟨0, ![]⟩
abbrev S192 : Shape := ⟨1, ![192]⟩
abbrev S1x192 : Shape := ⟨2, ![1, 192]⟩
abbrev S64x192 : Shape := ⟨2, ![64, 192]⟩
abbrev S64x192x1 : Shape := ⟨3, ![64, 192, 1]⟩
abbrev S8x64x192 : Shape := ⟨3, ![8, 64, 192]⟩
abbrev S8x1 : Shape := ⟨2, ![8, 1]⟩
abbrev S8 : Shape := ⟨1, ![8]⟩
abbrev S8x1x1 : Shape := ⟨3, ![8, 1, 1]⟩
abbrev S8x64x384 : Shape := ⟨3, ![8, 64, 384]⟩
abbrev S8x64x576 : Shape := ⟨3, ![8, 64, 576]⟩
abbrev S8x64x1024 : Shape := ⟨3, ![8, 64, 1024]⟩
abbrev S8x512x1024 : Shape := ⟨3, ![8, 512, 1024]⟩
abbrev S32768x512 : Shape := ⟨2, ![32768, 512]⟩
abbrev S512x512 : Shape := ⟨2, ![512, 512]⟩
abbrev S512x64 : Shape := ⟨2, ![512, 64]⟩
abbrev S1x512x512 : Shape := ⟨3, ![1, 512, 512]⟩
abbrev S512 : Shape := ⟨1, ![512]⟩
abbrev S512x1 : Shape := ⟨2, ![512, 1]⟩

abbrev nBuf : Space → Nat
  | .hbm => 66
  | .vmem => 13
  | .smem => 0
  | _ => 0

abbrev bufTy : (tb : Table) → Fin (tcTables nBuf tb) → BufTy
  | .hbm, ⟨0, _⟩ => ⟨S32768x1536, .f32⟩
  | .hbm, ⟨1, _⟩ => ⟨S8x257, .f32⟩
  | .hbm, ⟨2, _⟩ => ⟨S64, .i32⟩
  | .hbm, ⟨3, _⟩ => ⟨S64x1, .i32⟩
  | .hbm, ⟨4, _⟩ => ⟨S_, .i32⟩
  | .hbm, ⟨5, _⟩ => ⟨S64x1, .i32⟩
  | .hbm, ⟨6, _⟩ => ⟨S64x1, .i32⟩
  | .hbm, ⟨7, _⟩ => ⟨S192, .i32⟩
  | .hbm, ⟨8, _⟩ => ⟨S_, .i32⟩
  | .hbm, ⟨9, _⟩ => ⟨S192, .i32⟩
  | .hbm, ⟨10, _⟩ => ⟨S192, .i32⟩
  | .hbm, ⟨11, _⟩ => ⟨S1x192, .i32⟩
  | .hbm, ⟨12, _⟩ => ⟨S64x192, .i32⟩
  | .hbm, ⟨13, _⟩ => ⟨S64x192, .i32⟩
  | .hbm, ⟨14, _⟩ => ⟨S64x192, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64x192, .i32⟩
  | .hbm, ⟨19, _⟩ => ⟨S64x192, .i32⟩
  | .hbm, ⟨20, _⟩ => ⟨S_, .i32⟩
  | .hbm, ⟨21, _⟩ => ⟨S64x192, .i32⟩
  | .hbm, ⟨22, _⟩ => ⟨S64x192, .i32⟩
  | .hbm, ⟨23, _⟩ => ⟨S_, .i32⟩
  | .hbm, ⟨24, _⟩ => ⟨S64x192, .i32⟩
  | .hbm, ⟨25, _⟩ => ⟨S64x192, .i32⟩
  | .hbm, ⟨26, _⟩ => ⟨S_, .i32⟩
  | .hbm, ⟨27, _⟩ => ⟨S64x192, .i32⟩
  | .hbm, ⟨28, _⟩ => ⟨S64x192, .i1⟩
  | .hbm, ⟨29, _⟩ => ⟨S_, .i32⟩
  | .hbm, ⟨30, _⟩ => ⟨S64x192, .i32⟩
  | .hbm, ⟨31, _⟩ => ⟨S64x192, .i32⟩
  | .hbm, ⟨32, _⟩ => ⟨S64x192, .i32⟩
  | .hbm, ⟨33, _⟩ => ⟨S64x192x1, .i32⟩
  | .hbm, ⟨34, _⟩ => ⟨S8x64x192, .f32⟩
  | .hbm, ⟨35, _⟩ => ⟨S8x1, .f32⟩
  | .hbm, ⟨36, _⟩ => ⟨S8, .f32⟩
  | .hbm, ⟨37, _⟩ => ⟨S8x1x1, .f32⟩
  | .hbm, ⟨38, _⟩ => ⟨S8x64x384, .f32⟩
  | .hbm, ⟨39, _⟩ => ⟨S8x64x576, .f32⟩
  | .hbm, ⟨40, _⟩ => ⟨S_, .f32⟩
  | .hbm, ⟨41, _⟩ => ⟨S_, .f32⟩
  | .hbm, ⟨42, _⟩ => ⟨S8x64x1024, .f32⟩
  | .hbm, ⟨43, _⟩ => ⟨S_, .f32⟩
  | .hbm, ⟨44, _⟩ => ⟨S_, .f32⟩
  | .hbm, ⟨45, _⟩ => ⟨S8x64x1024, .f32⟩
  | .hbm, ⟨46, _⟩ => ⟨S_, .f32⟩
  | .hbm, ⟨47, _⟩ => ⟨S_, .f32⟩
  | .hbm, ⟨48, _⟩ => ⟨S8x64x1024, .f32⟩
  | .hbm, ⟨49, _⟩ => ⟨S_, .f32⟩
  | .hbm, ⟨50, _⟩ => ⟨S_, .f32⟩
  | .hbm, ⟨51, _⟩ => ⟨S8x64x1024, .f32⟩
  | .hbm, ⟨52, _⟩ => ⟨S_, .f32⟩
  | .hbm, ⟨53, _⟩ => ⟨S_, .f32⟩
  | .hbm, ⟨54, _⟩ => ⟨S8x64x1024, .f32⟩
  | .hbm, ⟨55, _⟩ => ⟨S_, .f32⟩
  | .hbm, ⟨56, _⟩ => ⟨S_, .f32⟩
  | .hbm, ⟨57, _⟩ => ⟨S8x64x1024, .f32⟩
  | .hbm, ⟨58, _⟩ => ⟨S_, .f32⟩
  | .hbm, ⟨59, _⟩ => ⟨S_, .f32⟩
  | .hbm, ⟨60, _⟩ => ⟨S8x64x1024, .f32⟩
  | .hbm, ⟨61, _⟩ => ⟨S_, .f32⟩
  | .hbm, ⟨62, _⟩ => ⟨S_, .f32⟩
  | .hbm, ⟨63, _⟩ => ⟨S8x64x1024, .f32⟩
  | .hbm, ⟨64, _⟩ => ⟨S8x512x1024, .f32⟩
  | .hbm, ⟨65, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x512x1024, .f32⟩
  | .local _ .vmem, ⟨11, _⟩ => ⟨S512x512, .f32⟩
  | .local _ .vmem, ⟨12, _⟩ => ⟨S512x512, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call1_v0 : Ref sig .tc := ⟨.hbm, 41, rfl⟩
abbrev main_v26 : Ref sig .tc := ⟨.hbm, 42, rfl⟩
abbrev main_cst_6 : Ref sig .tc := ⟨.hbm, 43, rfl⟩
abbrev main_call2_v0 : Ref sig .tc := ⟨.hbm, 44, rfl⟩
abbrev main_v27 : Ref sig .tc := ⟨.hbm, 45, rfl⟩
abbrev main_cst_7 : Ref sig .tc := ⟨.hbm, 46, rfl⟩
abbrev main_call3_v0 : Ref sig .tc := ⟨.hbm, 47, rfl⟩
abbrev main_v28 : Ref sig .tc := ⟨.hbm, 48, rfl⟩
abbrev main_cst_8 : Ref sig .tc := ⟨.hbm, 49, rfl⟩
abbrev main_call4_v0 : Ref sig .tc := ⟨.hbm, 50, rfl⟩
abbrev main_v29 : Ref sig .tc := ⟨.hbm, 51, rfl⟩
abbrev main_cst_9 : Ref sig .tc := ⟨.hbm, 52, rfl⟩
abbrev main_call5_v0 : Ref sig .tc := ⟨.hbm, 53, rfl⟩
abbrev main_v30 : Ref sig .tc := ⟨.hbm, 54, rfl⟩
abbrev main_cst_10 : Ref sig .tc := ⟨.hbm, 55, rfl⟩
abbrev main_call6_v0 : Ref sig .tc := ⟨.hbm, 56, rfl⟩
abbrev main_v31 : Ref sig .tc := ⟨.hbm, 57, rfl⟩
abbrev main_cst_11 : Ref sig .tc := ⟨.hbm, 58, rfl⟩
abbrev main_call7_v0 : Ref sig .tc := ⟨.hbm, 59, rfl⟩
abbrev main_v32 : Ref sig .tc := ⟨.hbm, 60, rfl⟩
abbrev main_cst_12 : Ref sig .tc := ⟨.hbm, 61, rfl⟩
abbrev main_call8_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S8x257 : Shape := ⟨2, ![8, 257]⟩
abbrev S2x16384x1536 : Shape := ⟨3, ![2, 16384, 1536]⟩
abbrev S2x16384x512 : Shape := ⟨3, ![2, 16384, 512]⟩
abbrev S2x16384x8x64 : Shape := ⟨4, ![2, 16384, 8, 64]⟩
abbrev S2x256x64x8x64 : Shape := ⟨5, ![2, 256, 64, 8, 64]⟩
abbrev S_ : Shape := ⟨0, ![]⟩
abbrev S2x264x64x8x64 : Shape := ⟨5, ![2, 264, 64, 8, 64]⟩
abbrev S2x256x576x8x64 : Shape := ⟨5, ![2, 256, 576, 8, 64]⟩
abbrev S2x8x256x64x576 : Shape := ⟨5, ![2, 8, 256, 64, 576]⟩
abbrev S64 : Shape := ⟨1, ![64]⟩
abbrev S9 : Shape := ⟨1, ![9]⟩
abbrev S64x1x1 : Shape := ⟨3, ![64, 1, 1]⟩
abbrev S1x9x1 : Shape := ⟨3, ![1, 9, 1]⟩
abbrev S64x9x1 : Shape := ⟨3, ![64, 9, 1]⟩
abbrev S1x1x64 : Shape := ⟨3, ![1, 1, 64]⟩
abbrev S64x9x64 : Shape := ⟨3, ![64, 9, 64]⟩
abbrev S64x9x64x1 : Shape := ⟨4, ![64, 9, 64, 1]⟩
abbrev S8x64x9x64 : Shape := ⟨4, ![8, 64, 9, 64]⟩
abbrev S8x64x576 : Shape := ⟨3, ![8, 64, 576]⟩
abbrev S256 : Shape := ⟨1, ![256]⟩
abbrev S256x1 : Shape := ⟨2, ![256, 1]⟩
abbrev S1x9 : Shape := ⟨2, ![1, 9]⟩
abbrev S256x9 : Shape := ⟨2, ![256, 9]⟩
abbrev S256x9x64 : Shape := ⟨3, ![256, 9, 64]⟩
abbrev S256x576 : Shape := ⟨2, ![256, 576]⟩
abbrev S1x1x256x1x576 : Shape := ⟨5, ![1, 1, 256, 1, 576]⟩
abbrev S1x8x1x64x576 : Shape := ⟨5, ![1, 8, 1, 64, 576]⟩
abbrev S2x8x256x64 : Shape := ⟨4, ![2, 8, 256, 64]⟩
abbrev S2x8x256x64x1 : Shape := ⟨5, ![2, 8, 256, 64, 1]⟩
abbrev S2x256x8x64x64 : Shape := ⟨5, ![2, 256, 8, 64, 64]⟩
abbrev S32768x512 : Shape := ⟨2, ![32768, 512]⟩

abbrev nBuf : Space → Nat
  | .hbm => 120
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S8x257, .f32⟩
  | .hbm, ⟨2, _⟩ => ⟨S2x16384x1536, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x8x64, .f32⟩
  | .hbm, ⟨7, _⟩ => ⟨S2x16384x8x64, .f32⟩
  | .hbm, ⟨8, _⟩ => ⟨S2x16384x8x64, .f32⟩
  | .hbm, ⟨9, _⟩ => ⟨S2x256x64x8x64, .f32⟩
  | .hbm, ⟨10, _⟩ => ⟨S2x256x64x8x64, .f32⟩
  | .hbm, ⟨11, _⟩ => ⟨S_, .i32⟩
  | .hbm, ⟨12, _⟩ => ⟨S_, .f32⟩
  | .hbm, ⟨13, _⟩ => ⟨S2x264x64x8x64, .f32⟩
  | .hbm, ⟨14, _⟩ => ⟨S2x256x64x8x64, .f32⟩
  | .hbm, ⟨15, _⟩ => ⟨S_, .i32⟩
  | .hbm, ⟨16, _⟩ => ⟨S_, .f32⟩
  | .hbm, ⟨17, _⟩ => ⟨S2x264x64x8x64, .f32⟩
  | .hbm, ⟨18, _⟩ => ⟨S2x256x64x8x64, .f32⟩
  | .hbm, ⟨19, _⟩ => ⟨S2x256x64x8x64, .f32⟩
  | .hbm, ⟨20, _⟩ => ⟨S2x256x64x8x64, .f32⟩
  | .hbm, ⟨21, _⟩ => ⟨S2x256x64x8x64, .f32⟩
  | .hbm, ⟨22, _⟩ => ⟨S2x256x64x8x64, .f32⟩
  | .hbm, ⟨23, _⟩ => ⟨S2x256x64x8x64, .f32⟩
  | .hbm, ⟨24, _⟩ => ⟨S2x256x64x8x64, .f32⟩
  | .hbm, ⟨25, _⟩ => ⟨S2x256x64x8x64, .f32⟩
  | .hbm, ⟨26, _⟩ => ⟨S2x256x64x8x64, .f32⟩
  | .hbm, ⟨27, _⟩ => ⟨S2x256x576x8x64, .f32⟩
  | .hbm, ⟨28, _⟩ => ⟨S2x256x64x8x64, .f32⟩
  | .hbm, ⟨29, _⟩ => ⟨S2x256x64x8x64, .f32⟩
  | .hbm, ⟨30, _⟩ => ⟨S2x256x64x8x64, .f32⟩
  | .hbm, ⟨31, _⟩ => ⟨S2x256x64x8x64, .f32⟩
  | .hbm, ⟨32, _⟩ => ⟨S2x256x64x8x64, .f32⟩
  | .hbm, ⟨33, _⟩ => ⟨S2x256x64x8x64, .f32⟩
  | .hbm, ⟨34, _⟩ => ⟨S2x256x64x8x64, .f32⟩
  | .hbm, ⟨35, _⟩ => ⟨S2x256x64x8x64, .f32⟩
  | .hbm, ⟨36, _⟩ => ⟨S2x256x64x8x64, .f32⟩
  | .hbm, ⟨37, _⟩ => ⟨S2x256x576x8x64, .f32⟩
  | .hbm, ⟨38, _⟩ => ⟨S2x8x256x64x576, .f32⟩
  | .hbm, ⟨39, _⟩ => ⟨S_, .f32⟩
  | .hbm, ⟨40, _⟩ => ⟨S2x8x256x64x576, .f32⟩
  | .hbm, ⟨41, _⟩ => ⟨S2x8x256x64x576, .f32⟩
  | .hbm, ⟨42, _⟩ => ⟨S64, .i32⟩
  | .hbm, ⟨43, _⟩ => ⟨S9, .i32⟩
  | .hbm, ⟨44, _⟩ => ⟨S64x1x1, .i32⟩
  | .hbm, ⟨45, _⟩ => ⟨S_, .i32⟩
  | .hbm, ⟨46, _⟩ => ⟨S9, .i32⟩
  | .hbm, ⟨47, _⟩ => ⟨S9, .i32⟩
  | .hbm, ⟨48, _⟩ => ⟨S1x9x1, .i32⟩
  | .hbm, ⟨49, _⟩ => ⟨S_, .i32⟩
  | .hbm, ⟨50, _⟩ => ⟨S1x9x1, .i32⟩
  | .hbm, ⟨51, _⟩ => ⟨S1x9x1, .i32⟩
  | .hbm, ⟨52, _⟩ => ⟨S64x9x1, .i32⟩
  | .hbm, ⟨53, _⟩ => ⟨S64x9x1, .i32⟩
  | .hbm, ⟨54, _⟩ => ⟨S64x9x1, .i32⟩
  | .hbm, ⟨55, _⟩ => ⟨S1x1x64, .i32⟩
  | .hbm, ⟨56, _⟩ => ⟨S64x9x64, .i32⟩
  | .hbm, ⟨57, _⟩ => ⟨S64x9x64, .i32⟩
  | .hbm, ⟨58, _⟩ => ⟨S64x9x64, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S64x9x64, .i32⟩
  | .hbm, ⟨63, _⟩ => ⟨S64x9x64, .i32⟩
  | .hbm, ⟨64, _⟩ => ⟨S_, .i32⟩
  | .hbm, ⟨65, _⟩ => ⟨S64x9x64, .i32⟩
  | .hbm, ⟨66, _⟩ => ⟨S64x9x64, .i32⟩
  | .hbm, ⟨67, _⟩ => ⟨S_, .i32⟩
  | .hbm, ⟨68, _⟩ => ⟨S64x9x64, .i32⟩
  | .hbm, ⟨69, _⟩ => ⟨S64x9x64, .i32⟩
  | .hbm, ⟨70, _⟩ => ⟨S_, .i32⟩
  | .hbm, ⟨71, _⟩ => ⟨S64x9x64, .i32⟩
  | .hbm, ⟨72, _⟩ => ⟨S64x9x64, .i1⟩
  | .hbm, ⟨73, _⟩ => ⟨S_, .i32⟩
  | .hbm, ⟨74, _⟩ => ⟨S64x9x64, .i32⟩
  | .hbm, ⟨75, _⟩ => ⟨S64x9x64, .i32⟩
  | .hbm, ⟨76, _⟩ => ⟨S64x9x64, .i32⟩
  | .hbm, ⟨77, _⟩ => ⟨S64x9x64x1, .i32⟩
  | .hbm, ⟨78, _⟩ => ⟨S8x64x9x64, .f32⟩
  | .hbm, ⟨79, _⟩ => ⟨S8x64x576, .f32⟩
  | .hbm, ⟨80, _⟩ => ⟨S256, .i32⟩
  | .hbm, ⟨81, _⟩ => ⟨S256x1, .i32⟩
  | .hbm, ⟨82, _⟩ => ⟨S_, .i32⟩
  | .hbm, ⟨83, _⟩ => ⟨S256x1, .i32⟩
  | .hbm, ⟨84, _⟩ => ⟨S256x1, .i32⟩
  | .hbm, ⟨85, _⟩ => ⟨S1x9, .i32⟩
  | .hbm, ⟨86, _⟩ => ⟨S256x9, .i32⟩
  | .hbm, ⟨87, _⟩ => ⟨S256x9, .i32⟩
  | .hbm, ⟨88, _⟩ => ⟨S256x9, .i32⟩
  | .hbm, ⟨89, _⟩ => ⟨S_, .i32⟩
  | .hbm, ⟨90, _⟩ => ⟨S256x9, .i32⟩
  | .hbm, ⟨91, _⟩ => ⟨S256x9, .i1⟩
  | .hbm, ⟨92, _⟩ => ⟨S256x9x64, .i1⟩
  | .hbm, ⟨93, _⟩ => ⟨S256x576, .i1⟩
  | .hbm, ⟨94, _⟩ => ⟨S1x1x256x1x576, .i1⟩
  | .hbm, ⟨95, _⟩ => ⟨S1x8x1x64x576, .f32⟩
  | .hbm, ⟨96, _⟩ => ⟨S2x8x256x64x576, .f32⟩
  | .hbm, ⟨97, _⟩ => ⟨S2x8x256x64x576, .f32⟩
  | .hbm, ⟨98, _⟩ => ⟨S_, .f32⟩
  | .hbm, ⟨99, _⟩ => ⟨S_, .f32⟩
  | .hbm, ⟨100, _⟩ => ⟨S2x8x256x64x576, .i1⟩
  | .hbm, ⟨101, _⟩ => ⟨S2x8x256x64x576, .f32⟩
  | .hbm, ⟨102, _⟩ => ⟨S2x8x256x64x576, .f32⟩
  | .hbm, ⟨103, _⟩ => ⟨S_, .f32⟩
  | .hbm, ⟨104, _⟩ => ⟨S2x8x256x64, .f32⟩
  | .hbm, ⟨105, _⟩ => ⟨S_, .f32⟩
  | .hbm, ⟨106, _⟩ => ⟨S2x8x256x64, .f32⟩
  | .hbm, ⟨107, _⟩ => ⟨S2x8x256x64, .f32⟩
  | .hbm, ⟨108, _⟩ => ⟨S2x8x256x64x1, .f32⟩
  | .hbm, ⟨109, _⟩ => ⟨S2x8x256x64x576, .f32⟩
  | .hbm, ⟨110, _⟩ => ⟨S2x8x256x64x576, .f32⟩
  | .hbm, ⟨111, _⟩ => ⟨S2x8x256x64x576, .f32⟩
  | .hbm, ⟨112, _⟩ => ⟨S_, .f32⟩
  | .hbm, ⟨113, _⟩ => ⟨S2x8x256x64, .f32⟩
  | .hbm, ⟨114, _⟩ => ⟨S2x8x256x64x1, .f32⟩
  | .hbm, ⟨115, _⟩ => ⟨S2x8x256x64x576, .f32⟩
  | .hbm, ⟨116, _⟩ => ⟨S2x8x256x64x576, .f32⟩
  | .hbm, ⟨117, _⟩ => ⟨S2x256x8x64x64, .f32⟩
  | .hbm, ⟨118, _⟩ => ⟨S2x256x64x8x64, .f32⟩
  | .hbm, ⟨119, _⟩ => ⟨S32768x512, .f32⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_3 : Ref sig .tc := ⟨.hbm, 59, rfl⟩
abbrev main_c_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v50 : Ref sig .tc := ⟨.hbm, 66, rfl⟩
abbrev main_c_5 : Ref sig .tc := ⟨.hbm, 67, rfl⟩
abbrev main_v51 : Ref sig .tc := ⟨.hbm, 68, rfl⟩
abbrev main_v52 : Ref sig .tc := ⟨.hbm, 69, rfl⟩
abbrev main_c_6 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel2.lean ====
abbrev S2x16384x1024 : Shape := ⟨3, ![2, 16384, 1024]⟩
abbrev S1x1024 : Shape := ⟨2, ![1, 1024]⟩
abbrev S1x1024x5376 : Shape := ⟨3, ![1, 1024, 5376]⟩
abbrev S32768x1024 : Shape := ⟨2, ![32768, 1024]⟩
abbrev S1024 : Shape := ⟨1, ![1024]⟩
abbrev S1024x5376 : Shape := ⟨2, ![1024, 5376]⟩
abbrev S32768x1536 : Shape := ⟨2, ![32768, 1536]⟩
abbrev S32768x1792 : Shape := ⟨2, ![32768, 1792]⟩
abbrev S32768x2048 : Shape := ⟨2, ![32768, 2048]⟩
abbrev S256x1024 : Shape := ⟨2, ![256, 1024]⟩
abbrev S256x1536 : Shape := ⟨2, ![256, 1536]⟩
abbrev S256x1792 : Shape := ⟨2, ![256, 1792]⟩
abbrev S256x2048 : Shape := ⟨2, ![256, 2048]⟩
abbrev S256 : Shape := ⟨1, ![256]⟩
abbrev S256x1 : Shape := ⟨2, ![256, 1]⟩
abbrev S1024x1536 : Shape := ⟨2, ![1024, 1536]⟩
abbrev S1024x1792 : Shape := ⟨2, ![1024, 1792]⟩
abbrev S1024x2048 : Shape := ⟨2, ![1024, 2048]⟩
abbrev S2x16384x1536 : Shape := ⟨3, ![2, 16384, 1536]⟩
abbrev S2x512x1536 : Shape := ⟨3, ![2, 512, 1536]⟩
abbrev S2x512x512 : Shape := ⟨3, ![2, 512, 512]⟩
abbrev S2x512x8x64 : Shape := ⟨4, ![2, 512, 8, 64]⟩
abbrev S2x8x512x64 : Shape := ⟨4, ![2, 8, 512, 64]⟩
abbrev S2x16384x1792 : Shape := ⟨3, ![2, 16384, 1792]⟩
abbrev S2x1x1792 : Shape := ⟨3, ![2, 1, 1792]⟩
abbrev S1x2x8x512x64 : Shape := ⟨5, ![1, 2, 8, 512, 64]⟩
abbrev S1x2x1x1792 : Shape := ⟨4, ![1, 2, 1, 1792]⟩

abbrev nBuf : Space → Nat
  | .hbm => 24
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5376, .f32⟩
  | .hbm, ⟨3, _⟩ => ⟨S32768x1024, .f32⟩
  | .hbm, ⟨4, _⟩ => ⟨S1024, .f32⟩
  | .hbm, ⟨5, _⟩ => ⟨S1024x5376, .f32⟩
  | .hbm, ⟨6, _⟩ => ⟨S1024x5376, .bf16⟩
  | .hbm, ⟨7, _⟩ => ⟨S1x1024, .f32⟩
  | .hbm, ⟨8, _⟩ => ⟨S32768x1536, .f32⟩
  | .hbm, ⟨9, _⟩ => ⟨S32768x1792, .f32⟩
  | .hbm, ⟨10, _⟩ => ⟨S32768x2048, .f32⟩
  | .hbm, ⟨11, _⟩ => ⟨S2x16384x1536, .f32⟩
  | .hbm, ⟨12, _⟩ => ⟨S2x512x1536, .f32⟩
  | .hbm, ⟨13, _⟩ => ⟨S2x512x512, .f32⟩
  | .hbm, ⟨14, _⟩ => ⟨S2x512x8x64, .f32⟩
  | .hbm, ⟨15, _⟩ => ⟨S2x8x512x64, .f32⟩
  | .hbm, ⟨16, _⟩ => ⟨S2x512x512, .f32⟩
  | .hbm, ⟨17, _⟩ => ⟨S2x512x8x64, .f32⟩
  | .hbm, ⟨18, _⟩ => ⟨S2x8x512x64, .f32⟩
  | .hbm, ⟨19, _⟩ => ⟨S2x16384x1792, .f32⟩
  | .hbm, ⟨20, _⟩ => ⟨S2x1x1792, .f32⟩
  | .hbm, ⟨21, _⟩ => ⟨S1x2x8x512x64, .f32⟩
  | .hbm, ⟨22, _⟩ => ⟨S1x2x8x512x64, .f32⟩
  | .hbm, ⟨23, _⟩ => ⟨S1x2x1x1792, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x1536, .f32⟩
  | .local _ .vmem, ⟨5, _⟩ => ⟨S256x1536, .f32⟩
  | .local _ .vmem, ⟨6, _⟩ => ⟨S256x1792, .f32⟩
  | .local _ .vmem, ⟨7, _⟩ => ⟨S256x1792, .f32⟩
  | .local _ .vmem, ⟨8, _⟩ => ⟨S256x2048, .f32⟩
  | .local _ .vmem, ⟨9, _⟩ => ⟨S256x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x1024 : Shape := ⟨3, ![2, 16384, 1024]⟩
abbrev S1x1024 : Shape := ⟨2, ![1, 1024]⟩
abbrev S1x1024x5376 : Shape := ⟨3, ![1, 1024, 5376]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5376 : Shape := ⟨2, ![1024, 5376]⟩
abbrev S2x16384x5376 : Shape := ⟨3, ![2, 16384, 5376]⟩
abbrev S2x16384x1536 : Shape := ⟨3, ![2, 16384, 1536]⟩
abbrev S2x16384x1792 : Shape := ⟨3, ![2, 16384, 1792]⟩
abbrev S2x16384x2048 : Shape := ⟨3, ![2, 16384, 2048]⟩
abbrev S2x16384x512 : Shape := ⟨3, ![2, 16384, 512]⟩
abbrev S2x16384x8x64 : Shape := ⟨4, ![2, 16384, 8, 64]⟩
abbrev S2x512x8x64 : Shape := ⟨4, ![2, 512, 8, 64]⟩
abbrev S2x8x512x64 : Shape := ⟨4, ![2, 8, 512, 64]⟩
abbrev S32768x1536 : Shape := ⟨2, ![32768, 1536]⟩
abbrev S32768x1792 : Shape := ⟨2, ![32768, 1792]⟩
abbrev S32768x2048 : Shape := ⟨2, ![32768, 2048]⟩
abbrev S1x2x8x512x64 : Shape := ⟨5, ![1, 2, 8, 512, 64]⟩
abbrev S2x1x1792 : Shape := ⟨3, ![2, 1, 1792]⟩
abbrev S1x2x1x1792 : Shape := ⟨4, ![1, 2, 1, 1792]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5376, .f32⟩
  | .hbm, ⟨3, _⟩ => ⟨S1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1024x5376, .f32⟩
  | .hbm, ⟨21, _⟩ => ⟨S2x16384x5376, .f32⟩
  | .hbm, ⟨22, _⟩ => ⟨S2x16384x1536, .f32⟩
  | .hbm, ⟨23, _⟩ => ⟨S2x16384x1792, .f32⟩
  | .hbm, ⟨24, _⟩ => ⟨S2x16384x2048, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S2x16384x8x64, .f32⟩
  | .hbm, ⟨29, _⟩ => ⟨S2x16384x8x64, .f32⟩
  | .hbm, ⟨30, _⟩ => ⟨S2x16384x8x64, .f32⟩
  | .hbm, ⟨31, _⟩ => ⟨S2x512x8x64, .f32⟩
  | .hbm, ⟨32, _⟩ => ⟨S2x8x512x64, .f32⟩
  | .hbm, ⟨33, _⟩ => ⟨S2x512x8x64, .f32⟩
  | .hbm, ⟨34, _⟩ => ⟨S2x8x512x64, .f32⟩
  | .hbm, ⟨35, _⟩ => ⟨S32768x1536, .f32⟩
  | .hbm, ⟨36, _⟩ => ⟨S32768x1792, .f32⟩
  | .hbm, ⟨37, _⟩ => ⟨S32768x2048, .f32⟩
  | .hbm, ⟨38, _⟩ => ⟨S1x2x8x512x64, .f32⟩
  | .hbm, ⟨39, _⟩ => ⟨S1x2x8x512x64, .f32⟩
  | .hbm, ⟨40, _⟩ => ⟨S2x1x1792, .f32⟩
  | .hbm, ⟨41, _⟩ => ⟨S1x2x1x1792, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel3.lean ====
abbrev S16x32x1024 : Shape := ⟨3, ![16, 32, 1024]⟩
abbrev S1x1024 : Shape := ⟨2, ![1, 1024]⟩
abbrev S1x1024x5376 : Shape := ⟨3, ![1, 1024, 5376]⟩
abbrev S512x1024 : Shape := ⟨2, ![512, 1024]⟩
abbrev S1024 : Shape := ⟨1, ![1024]⟩
abbrev S1024x5376 : Shape := ⟨2, ![1024, 5376]⟩
abbrev S512x1536 : Shape := ⟨2, ![512, 1536]⟩
abbrev S512x1792 : Shape := ⟨2, ![512, 1792]⟩
abbrev S512x2048 : Shape := ⟨2, ![512, 2048]⟩
abbrev S256x1024 : Shape := ⟨2, ![256, 1024]⟩
abbrev S256x1536 : Shape := ⟨2, ![256, 1536]⟩
abbrev S256x1792 : Shape := ⟨2, ![256, 1792]⟩
abbrev S256x2048 : Shape := ⟨2, ![256, 2048]⟩
abbrev S256 : Shape := ⟨1, ![256]⟩
abbrev S256x1 : Shape := ⟨2, ![256, 1]⟩
abbrev S1024x1536 : Shape := ⟨2, ![1024, 1536]⟩
abbrev S1024x1792 : Shape := ⟨2, ![1024, 1792]⟩
abbrev S1024x2048 : Shape := ⟨2, ![1024, 2048]⟩
abbrev S16x32x1536 : Shape := ⟨3, ![16, 32, 1536]⟩
abbrev S16x32x512 : Shape := ⟨3, ![16, 32, 512]⟩
abbrev S16x32x8x64 : Shape := ⟨4, ![16, 32, 8, 64]⟩
abbrev S16x8x32x64 : Shape := ⟨4, ![16, 8, 32, 64]⟩
abbrev S16x32x1792 : Shape := ⟨3, ![16, 32, 1792]⟩
abbrev S16x1x1792 : Shape := ⟨3, ![16, 1, 1792]⟩
abbrev S1x16x8x32x64 : Shape := ⟨5, ![1, 16, 8, 32, 64]⟩
abbrev S1x16x1x1792 : Shape := ⟨4, ![1, 16, 1, 1792]⟩

abbrev nBuf : Space → Nat
  | .hbm => 23
  | .vmem => 10
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x5376, .f32⟩
  | .hbm, ⟨3, _⟩ => ⟨S512x1024, .f32⟩
  | .hbm, ⟨4, _⟩ => ⟨S1024, .f32⟩
  | .hbm, ⟨5, _⟩ => ⟨S1024x5376, .f32⟩
  | .hbm, ⟨6, _⟩ => ⟨S1024x5376, .bf16⟩
  | .hbm, ⟨7, _⟩ => ⟨S1x1024, .f32⟩
  | .hbm, ⟨8, _⟩ => ⟨S512x1536, .f32⟩
  | .hbm, ⟨9, _⟩ => ⟨S512x1792, .f32⟩
  | .hbm, ⟨10, _⟩ => ⟨S512x2048, .f32⟩
  | .hbm, ⟨11, _⟩ => ⟨S16x32x1536, .f32⟩
  | .hbm, ⟨12, _⟩ => ⟨S16x32x512, .f32⟩
  | .hbm, ⟨13, _⟩ => ⟨S16x32x8x64, .f32⟩
  | .hbm, ⟨14, _⟩ => ⟨S16x8x32x64, .f32⟩
  | .hbm, ⟨15, _⟩ => ⟨S16x32x512, .f32⟩
  | .hbm, ⟨16, _⟩ => ⟨S16x32x8x64, .f32⟩
  | .hbm, ⟨17, _⟩ => ⟨S16x8x32x64, .f32⟩
  | .hbm, ⟨18, _⟩ => ⟨S16x32x1792, .f32⟩
  | .hbm, ⟨19, _⟩ => ⟨S16x1x1792, .f32⟩
  | .hbm, ⟨20, _⟩ => ⟨S1x16x8x32x64, .f32⟩
  | .hbm, ⟨21, _⟩ => ⟨S1x16x8x32x64, .f32⟩
  | .hbm, ⟨22, _⟩ => ⟨S1x16x1x1792, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x1536, .f32⟩
  | .local _ .vmem, ⟨5, _⟩ => ⟨S256x1536, .f32⟩
  | .local _ .vmem, ⟨6, _⟩ => ⟨S256x1792, .f32⟩
  | .local _ .vmem, ⟨7, _⟩ => ⟨S256x1792, .f32⟩
  | .local _ .vmem, ⟨8, _⟩ => ⟨S256x2048, .f32⟩
  | .local _ .vmem, ⟨9, _⟩ => ⟨S256x2048, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x32x1024 : Shape := ⟨3, ![16, 32, 1024]⟩
abbrev S1x1024 : Shape := ⟨2, ![1, 1024]⟩
abbrev S1x1024x5376 : Shape := ⟨3, ![1, 1024, 5376]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S1024x5376 : Shape := ⟨2, ![1024, 5376]⟩
abbrev S16x32x5376 : Shape := ⟨3, ![16, 32, 5376]⟩
abbrev S16x32x1536 : Shape := ⟨3, ![16, 32, 1536]⟩
abbrev S16x32x1792 : Shape := ⟨3, ![16, 32, 1792]⟩
abbrev S16x32x2048 : Shape := ⟨3, ![16, 32, 2048]⟩
abbrev S16x32x512 : Shape := ⟨3, ![16, 32, 512]⟩
abbrev S16x32x8x64 : Shape := ⟨4, ![16, 32, 8, 64]⟩
abbrev S512x1536 : Shape := ⟨2, ![512, 1536]⟩
abbrev S512x1792 : Shape := ⟨2, ![512, 1792]⟩
abbrev S512x2048 : Shape := ⟨2, ![512, 2048]⟩
abbrev S16x8x32x64 : Shape := ⟨4, ![16, 8, 32, 64]⟩
abbrev S1x16x8x32x64 : Shape := ⟨5, ![1, 16, 8, 32, 64]⟩
abbrev S16x1x1792 : Shape := ⟨3, ![16, 1, 1792]⟩
abbrev S1x16x1x1792 : Shape := ⟨4, ![1, 16, 1, 1792]⟩

abbrev nBuf : Space → Nat
  | .hbm => 40
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x5376, .f32⟩
  | .hbm, ⟨3, _⟩ => ⟨S1024, .f32⟩
  | .hbm, ⟨4, _⟩ => ⟨S16x32x1024, .f32⟩
  | .hbm, ⟨5, _⟩ => ⟨S_, .f32⟩
  | .hbm, ⟨6, _⟩ => ⟨S16x32, .f32⟩
  | .hbm, ⟨7, _⟩ => ⟨S16x32x1, .f32⟩
  | .hbm, ⟨8, _⟩ => ⟨S_, .f32⟩
  | .hbm, ⟨9, _⟩ => ⟨S16x32x1, .f32⟩
  | .hbm, ⟨10, _⟩ => ⟨S16x32x1, .f32⟩
  | .hbm, ⟨11, _⟩ => ⟨S_, .f32⟩
  | .hbm, ⟨12, _⟩ => ⟨S16x32x1, .f32⟩
  | .hbm, ⟨13, _⟩ => ⟨S16x32x1, .f32⟩
  | .hbm, ⟨14, _⟩ => ⟨S16x32x1, .f32⟩
  | .hbm, ⟨15, _⟩ => ⟨S16x32x1024, .f32⟩
  | .hbm, ⟨16, _⟩ => ⟨S16x32x1024, .f32⟩
  | .hbm, ⟨17, _⟩ => ⟨S1x1x1024, .f32⟩
  | .hbm, ⟨18, _⟩ => ⟨S16x32x1024, .f32⟩
  | .hbm, ⟨19, _⟩ => ⟨S16x32x1024, .f32⟩
  | .hbm, ⟨20, _⟩ => ⟨S1024x5376, .f32⟩
  | .hbm, ⟨21, _⟩ => ⟨S16x32x5376, .f32⟩
  | .hbm, ⟨22, _⟩ => ⟨S16x32x1536, .f32⟩
  | .hbm, ⟨23, _⟩ => ⟨S16x32x1792, .f32⟩
  | .hbm, ⟨24, _⟩ => ⟨S16x32x2048, .f32⟩
  | .hbm, ⟨25, _⟩ => ⟨S16x32x512, .f32⟩
  | .hbm, ⟨26, _⟩ => ⟨S16x32x512, .f32⟩
  | .hbm, ⟨27, _⟩ => ⟨S16x32x512, .f32⟩
  | .hbm, ⟨28, _⟩ => ⟨S16x32x8x64, .f32⟩
  | .hbm, ⟨29, _⟩ => ⟨S16x32x8x64, .f32⟩
  | .hbm, ⟨30, _⟩ => ⟨S16x32x8x64, .f32⟩
  | .hbm, ⟨31, _⟩ => ⟨S512x1536, .f32⟩
  | .hbm, ⟨32, _⟩ => ⟨S512x1792, .f32⟩
  | .hbm, ⟨33, _⟩ => ⟨S512x2048, .f32⟩
  | .hbm, ⟨34, _⟩ => ⟨S16x8x32x64, .f32⟩
  | .hbm, ⟨35, _⟩ => ⟨S1x16x8x32x64, .f32⟩
  | .hbm, ⟨36, _⟩ => ⟨S16x8x32x64, .f32⟩
  | .hbm, ⟨37, _⟩ => ⟨S1x16x8x32x64, .f32⟩
  | .hbm, ⟨38, _⟩ => ⟨S16x1x1792, .f32⟩
  | .hbm, ⟨39, _⟩ => ⟨S1x16x1x1792, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel4.lean ====
abbrev S2x16384x1024 : Shape := ⟨3, ![2, 16384, 1024]⟩
abbrev S32768x512 : Shape := ⟨2, ![32768, 512]⟩
abbrev S4x128x2x128x128 : Shape := ⟨5, ![4, 128, 2, 128, 128]⟩
abbrev S32768x2048 : Shape := ⟨2, ![32768, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S2048x1024 : Shape := ⟨2, ![2048, 1024]⟩
abbrev S512 : Shape := ⟨1, ![512]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S32768x1024 : Shape := ⟨2, ![32768, 1024]⟩
abbrev S32768x8x128 : Shape := ⟨3, ![32768, 8, 128]⟩
abbrev S32768x128 : Shape := ⟨2, ![32768, 128]⟩
abbrev S128x32768 : Shape := ⟨2, ![128, 32768]⟩
abbrev S256x1024 : Shape := ⟨2, ![256, 1024]⟩
abbrev S256x512 : Shape := ⟨2, ![256, 512]⟩
abbrev S4x2x1x128x128 : Shape := ⟨5, ![4, 2, 1, 128, 128]⟩
abbrev S256x2048 : Shape := ⟨2, ![256, 2048]⟩
abbrev S256x8x128 : Shape := ⟨3, ![256, 8, 128]⟩
abbrev S256x128 : Shape := ⟨2, ![256, 128]⟩
abbrev S128x256 : Shape := ⟨2, ![128, 256]⟩
abbrev S2048x256 : Shape := ⟨2, ![2048, 256]⟩
abbrev S1x2x1x128x128 : Shape := ⟨5, ![1, 2, 1, 128, 128]⟩
abbrev S2x1x128x128 : Shape := ⟨4, ![2, 1, 128, 128]⟩
abbrev S256 : Shape := ⟨1, ![256]⟩
abbrev S256x1 : Shape := ⟨2, ![256, 1]⟩
abbrev S256x1x128 : Shape := ⟨3, ![256, 1, 128]⟩
abbrev S16x256 : Shape := ⟨2, ![16, 256]⟩
abbrev S8x256 : Shape := ⟨2, ![8, 256]⟩
abbrev S80x256 : Shape := ⟨2, ![80, 256]⟩
abbrev S1x256 : Shape := ⟨2, ![1, 256]⟩

abbrev nBuf : Space → Nat
  | .hbm => 64
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S4x128x2x128x128, .f32⟩
  | .hbm, ⟨3, _⟩ => ⟨S32768x512, .f32⟩
  | .hbm, ⟨4, _⟩ => ⟨S32768x512, .f32⟩
  | .hbm, ⟨5, _⟩ => ⟨S32768x2048, .f32⟩
  | .hbm, ⟨6, _⟩ => ⟨S1x512, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S2048x1024, .f32⟩
  | .hbm, ⟨13, _⟩ => ⟨S2048x1024, .bf16⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1x512, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S512x1024, .f32⟩
  | .hbm, ⟨49, _⟩ => ⟨S512x1024, .bf16⟩
  | .hbm, ⟨50, _⟩ => ⟨S512x1024, .f32⟩
  | .hbm, ⟨51, _⟩ => ⟨S512x1024, .bf16⟩
  | .hbm, ⟨52, _⟩ => ⟨S1024x1024, .f32⟩
  | .hbm, ⟨53, _⟩ => ⟨S1024x1024, .bf16⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S32768x1024, .f32⟩
  | .hbm, ⟨60, _⟩ => ⟨S32768x8x128, .f32⟩
  | .hbm, ⟨61, _⟩ => ⟨S32768x8x128, .f32⟩
  | .hbm, ⟨62, _⟩ => ⟨S32768x128, .i32⟩
  | .hbm, ⟨63, _⟩ => ⟨S128x32768, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S4x2x1x128x128, .f32⟩
  | .local _ .vmem, ⟨5, _⟩ => ⟨S4x2x1x128x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S2048x1024, .bf16⟩
  | .local _ .vmem, ⟨20, _⟩ => ⟨S2048x1024, .bf16⟩
  | .local _ .vmem, ⟨21, _⟩ => ⟨S256x8x128, .f32⟩
  | .local _ .vmem, ⟨22, _⟩ => ⟨S256x8x128, .f32⟩
  | .local _ .vmem, ⟨23, _⟩ => ⟨S256x8x128, .f32⟩
  | .local _ .vmem, ⟨24, _⟩ => ⟨S256x8x128, .f32⟩
  | .local _ .vmem, ⟨25, _⟩ => ⟨S256x128, .i32⟩
  | .local _ .vmem, ⟨26, _⟩ => ⟨S256x128, .i32⟩
  | .local _ .vmem, ⟨27, _⟩ => ⟨S128x256, .f32⟩
  | .local _ .vmem, ⟨28, _⟩ => ⟨S128x256, .f32⟩
  | .local _ .vmem, ⟨29, _⟩ => ⟨S2048x256, .f32⟩
  | .local _ .vmem, ⟨30, _⟩ => ⟨S128x256, .i32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26_0 : Ref sig .tc := ⟨.hbm, 60, rfl⟩
abbrev main_v26_1 : Ref sig .tc := ⟨.hbm, 61, rfl⟩
abbrev main_v26_2 : Ref sig .tc := ⟨.hbm, 62, rfl⟩
abbrev main_v26_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32_117 : BitVec 32 := 8#32
  let v206 : BitVec 32 := Scalar.addi c0_i32 c8_i32_117
  let c1_i32 : BitVec 32 := 1#32
  ⟨c0_i32, v206, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c2_i32 : BitVec 32 := 2#32
  let v210 : BitVec 32 := Scalar.muli arg22 c2_i32
  let c128_i32 : BitVec 32 := 128#32
  let v211 : BitVec 32 := Scalar.muli v210 c128_i32
  v211
def k0_off1 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32 : BitVec 32 := 2#32
  let v210 : BitVec 32 := Scalar.muli arg22 c2_i32
  let c128_i32 : BitVec 32 := 128#32
  let v211 : BitVec 32 := Scalar.muli v210 c128_i32
  let v212 : BitVec 32 := v211
  let v213 : Index := Scalar.indexCast v212
  let c0_123 : Index := 0#32
  ![v213.toNat, 0]
def k0_off2 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32 : BitVec 32 := 2#32
  let v210 : BitVec 32 := Scalar.muli arg22 c2_i32
  let c128_i32 : BitVec 32 := 128#32
  let v211 : BitVec 32 := Scalar.muli v210 c128_i32
  let v212 : BitVec 32 := v211
  let c128_i32_186 : BitVec 32 := 128#32
  let v403 : BitVec 32 := Scalar.addi v212 c128_i32_186
  let v404 : Index := Scalar.indexCast v403
  let c0_187 : Index := 0#32
  ![v404.toNat, 0]
def k0_mult2 (k0_t1 : Fin k0_t1_loop.trips) : BitVec 32 :=
  let c0_i32 : BitVec 32 := 0#32
  let c1_i32 : BitVec 32 := 1#32
  let arg22 : BitVec 32 := Scf.iv c0_i32 c1_i32 k0_t1
  let c16_i32_323 : BitVec 32 := 16#32
  let v854 : BitVec 32 := Scalar.muli arg22 c16_i32_323
  v854
def k0_off3 (k0_t1 : Fin k0_t1_loop.trips) : Fin 2 → Nat :=
  let c0_i32 : BitVec 32 := 0#32
  let c1_i32 : BitVec 32 := 1#32
  let arg22 : BitVec 32 := Scf.iv c0_i32 c1_i32 k0_t1
  let c16_i32_323 : BitVec 32 := 16#32
  let v854 : BitVec 32 := Scalar.muli arg22 c16_i32_323
  let v855 : BitVec 32 := v854
  let v860 : Index := Scalar.indexCast v855
  let c0_325 : Index := 0#32
  ![v860.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S2x16384x1024 : Shape := ⟨3, ![2, 16384, 1024]⟩
abbrev S32768x512 : Shape := ⟨2, ![32768, 512]⟩
abbrev S4x128x2x128x128 : Shape := ⟨5, ![4, 128, 2, 128, 128]⟩
abbrev S32768x2048 : Shape := ⟨2, ![32768, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S2048x1024 : Shape := ⟨2, ![2048, 1024]⟩
abbrev S2x128x128x4x128 : Shape := ⟨5, ![2, 128, 128, 4, 128]⟩
abbrev S2x16384x8x64 : Shape := ⟨4, ![2, 16384, 8, 64]⟩
abbrev S_ : Shape := ⟨0, ![]⟩
abbrev S2x16384x8 : Shape := ⟨3, ![2, 16384, 8]⟩
abbrev S2x16384x8x1 : Shape := ⟨4, ![2, 16384, 8, 1]⟩
abbrev S2x16384x512 : Shape := ⟨3, ![2, 16384, 512]⟩
abbrev S512 : Shape := ⟨1, ![512]⟩
abbrev S1x1x512 : Shape := ⟨3, ![1, 1, 512]⟩
abbrev S2x16384x2048 : Shape := ⟨3, ![2, 16384, 2048]⟩
abbrev S512x1024 : Shape := ⟨2, ![512, 1024]⟩
abbrev S1024x1024 : Shape := ⟨2, ![1024, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S32768x8x128 : Shape := ⟨3, ![32768, 8, 128]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S4x128x2x128x128, .f32⟩
  | .hbm, ⟨3, _⟩ => ⟨S32768x512, .f32⟩
  | .hbm, ⟨4, _⟩ => ⟨S32768x512, .f32⟩
  | .hbm, ⟨5, _⟩ => ⟨S32768x2048, .f32⟩
  | .hbm, ⟨6, _⟩ => ⟨S1x512, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S2048x1024, .f32⟩
  | .hbm, ⟨13, _⟩ => ⟨S2x128x128x4x128, .f32⟩
  | .hbm, ⟨14, _⟩ => ⟨S2x16384x8x64, .f32⟩
  | .hbm, ⟨15, _⟩ => ⟨S_, .f32⟩
  | .hbm, ⟨16, _⟩ => ⟨S2x16384x8, .f32⟩
  | .hbm, ⟨17, _⟩ => ⟨S2x16384x8x1, .f32⟩
  | .hbm, ⟨18, _⟩ => ⟨S_, .f32⟩
  | .hbm, ⟨19, _⟩ => ⟨S2x16384x8x1, .f32⟩
  | .hbm, ⟨20, _⟩ => ⟨S2x16384x8x1, .f32⟩
  | .hbm, ⟨21, _⟩ => ⟨S2x16384x8x64, .f32⟩
  | .hbm, ⟨22, _⟩ => ⟨S2x16384x8x64, .f32⟩
  | .hbm, ⟨23, _⟩ => ⟨S2x16384x8x64, .f32⟩
  | .hbm, ⟨24, _⟩ => ⟨S_, .f32⟩
  | .hbm, ⟨25, _⟩ => ⟨S2x16384x8, .f32⟩
  | .hbm, ⟨26, _⟩ => ⟨S2x16384x8x1, .f32⟩
  | .hbm, ⟨27, _⟩ => ⟨S_, .f32⟩
  | .hbm, ⟨28, _⟩ => ⟨S2x16384x8x1, .f32⟩
  | .hbm, ⟨29, _⟩ => ⟨S2x16384x8x1, .f32⟩
  | .hbm, ⟨30, _⟩ => ⟨S2x16384x8x64, .f32⟩
  | .hbm, ⟨31, _⟩ => ⟨S2x16384x8x64, .f32⟩
  | .hbm, ⟨32, _⟩ => ⟨S_, .f32⟩
  | .hbm, ⟨33, _⟩ => ⟨S2x16384x8x1, .f32⟩
  | .hbm, ⟨34, _⟩ => ⟨S2x16384x8x1, .f32⟩
  | .hbm, ⟨35, _⟩ => ⟨S2x16384x8x1, .f32⟩
  | .hbm, ⟨36, _⟩ => ⟨S2x16384x8x64, .f32⟩
  | .hbm, ⟨37, _⟩ => ⟨S2x16384x8x64, .f32⟩
  | .hbm, ⟨38, _⟩ => ⟨S2x16384x512, .f32⟩
  | .hbm, ⟨39, _⟩ => ⟨S512, .f32⟩
  | .hbm, ⟨40, _⟩ => ⟨S1x1x512, .f32⟩
  | .hbm, ⟨41, _⟩ => ⟨S2x16384x512, .f32⟩
  | .hbm, ⟨42, _⟩ => ⟨S2x16384x512, .f32⟩
  | .hbm, ⟨43, _⟩ => ⟨S512, .f32⟩
  | .hbm, ⟨44, _⟩ => ⟨S1x1x512, .f32⟩
  | .hbm, ⟨45, _⟩ => ⟨S2x16384x512, .f32⟩
  | .hbm, ⟨46, _⟩ => ⟨S2x16384x512, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S2x16384x512, .f32⟩
  | .hbm, ⟨51, _⟩ => ⟨S2x16384x2048, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S_, .f32⟩
  | .hbm, ⟨56, _⟩ => ⟨S2x16384x1024, .f32⟩
  | .hbm, ⟨57, _⟩ => ⟨S2x16384x1024, .f32⟩
  | .hbm, ⟨58, _⟩ => ⟨S_, .f32⟩
  | .hbm, ⟨59, _⟩ => ⟨S2x16384x1024, .f32⟩
  | .hbm, ⟨60, _⟩ => ⟨S2x16384x1024, .f32⟩
  | .hbm, ⟨61, _⟩ => ⟨S2x16384x512, .f32⟩
  | .hbm, ⟨62, _⟩ => ⟨S512x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S_, .f32⟩
  | .hbm, ⟨69, _⟩ => ⟨S2x16384x1024, .f32⟩
  | .hbm, ⟨70, _⟩ => ⟨S2x16384x1024, .f32⟩
  | .hbm, ⟨71, _⟩ => ⟨S_, .f32⟩
  | .hbm, ⟨72, _⟩ => ⟨S2x16384x1024, .f32⟩
  | .hbm, ⟨73, _⟩ => ⟨S2x16384x1024, .f32⟩
  | .hbm, ⟨74, _⟩ => ⟨S512x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S1024x1024, .f32⟩
  | .hbm, ⟨79, _⟩ => ⟨S2x16384x1024, .f32⟩
  | .hbm, ⟨80, _⟩ => ⟨S2x16384x1024, .f32⟩
  | .hbm, ⟨81, _⟩ => ⟨S1024, .f32⟩
  | .hbm, ⟨82, _⟩ => ⟨S2x16384x1024, .f32⟩
  | .hbm, ⟨83, _⟩ => ⟨S_, .f32⟩
  | .hbm, ⟨84, _⟩ => ⟨S2x16384, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S_, .f32⟩
  | .hbm, ⟨90, _⟩ => ⟨S2x16384x1, .f32⟩
  | .hbm, ⟨91, _⟩ => ⟨S2x16384x1, .f32⟩
  | .hbm, ⟨92, _⟩ => ⟨S2x16384x1, .f32⟩
  | .hbm, ⟨93, _⟩ => ⟨S2x16384x1024, .f32⟩
  | .hbm, ⟨94, _⟩ => ⟨S2x16384x1024, .f32⟩
  | .hbm, ⟨95, _⟩ => ⟨S1x1x1024, .f32⟩
  | .hbm, ⟨96, _⟩ => ⟨S2x16384x1024, .f32⟩
  | .hbm, ⟨97, _⟩ => ⟨S2x16384x1024, .f32⟩
  | .hbm, ⟨98, _⟩ => ⟨S32768x8x128, .f32⟩
  | .hbm, ⟨99, _⟩ => ⟨S32768x8x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Kernel5.lean ====
abbrev S512x1536 : Shape := ⟨2, ![512, 1536]⟩
abbrev S16x8x512x64 : Shape := ⟨4, ![16, 8, 512, 64]⟩
abbrev S8x257 : Shape := ⟨2, ![8, 257]⟩
abbrev S32 : Shape := ⟨1, ![32]⟩
abbrev S32x1 : Shape := ⟨2, ![32, 1]⟩
abbrev S_ : Shape := ⟨0, ![]⟩
abbrev S160 : Shape := ⟨1, ![160]⟩
abbrev S1x160 : Shape := ⟨2, ![1, 160]⟩
abbrev S32x160 : Shape := ⟨2, ![32, 160]⟩
abbrev S8x1 : Shape := ⟨2, ![8, 1]⟩
abbrev S8 : Shape := ⟨1, ![8]⟩
abbrev S8x1x1 : Shape := ⟨3, ![8, 1, 1]⟩
abbrev S8x32x384 : Shape := ⟨3, ![8, 32, 384]⟩
abbrev S32x160x1 : Shape := ⟨3, ![32, 160, 1]⟩
abbrev S8x32x160 : Shape := ⟨3, ![8, 32, 160]⟩
abbrev S8x32x544 : Shape := ⟨3, ![8, 32, 544]⟩
abbrev S8x32x512 : Shape := ⟨3, ![8, 32, 512]⟩
abbrev S8x32x32 : Shape := ⟨3, ![8, 32, 32]⟩
abbrev S512x512 : Shape := ⟨2, ![512, 512]⟩
abbrev S32x512 : Shape := ⟨2, ![32, 512]⟩
abbrev S1x8x512x64 : Shape := ⟨4, ![1, 8, 512, 64]⟩
abbrev S32x64 : Shape := ⟨2, ![32, 64]⟩
abbrev S1x1x512x64 : Shape := ⟨4, ![1, 1, 512, 64]⟩
abbrev S512x64 : Shape := ⟨2, ![512, 64]⟩
abbrev S1x32x512 : Shape := ⟨3, ![1, 32, 512]⟩
abbrev S32x32 : Shape := ⟨2, ![32, 32]⟩
abbrev S1x32x32 : Shape := ⟨3, ![1, 32, 32]⟩

abbrev nBuf : Space → Nat
  | .hbm => 45
  | .vmem => 14
  | .smem => 0
  | _ => 0

abbrev bufTy : (tb : Table) → Fin (tcTables nBuf tb) → BufTy
  | .hbm, ⟨0, _⟩ => ⟨S512x1536, .f32⟩
  | .hbm, ⟨1, _⟩ => ⟨S16x8x512x64, .f32⟩
  | .hbm, ⟨2, _⟩ => ⟨S16x8x512x64, .f32⟩
  | .hbm, ⟨3, _⟩ => ⟨S8x257, .f32⟩
  | .hbm, ⟨4, _⟩ => ⟨S32, .i32⟩
  | .hbm, ⟨5, _⟩ => ⟨S32x1, .i32⟩
  | .hbm, ⟨6, _⟩ => ⟨S_, .i32⟩
  | .hbm, ⟨7, _⟩ => ⟨S32x1, .i32⟩
  | .hbm, ⟨8, _⟩ => ⟨S32x1, .i32⟩
  | .hbm, ⟨9, _⟩ => ⟨S160, .i32⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S1x160, .i32⟩
  | .hbm, ⟨14, _⟩ => ⟨S32x160, .i32⟩
  | .hbm, ⟨15, _⟩ => ⟨S32x160, .i32⟩
  | .hbm, ⟨16, _⟩ => ⟨S32x160, .i32⟩
  | .hbm, ⟨17, _⟩ => ⟨S8x1, .f32⟩
  | .hbm, ⟨18, _⟩ => ⟨S8, .f32⟩
  | .hbm, ⟨19, _⟩ => ⟨S8x1x1, .f32⟩
  | .hbm, ⟨20, _⟩ => ⟨S8x32x384, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S32x160, .i32⟩
  | .hbm, ⟨25, _⟩ => ⟨S32x160, .i32⟩
  | .hbm, ⟨26, _⟩ => ⟨S_, .i32⟩
  | .hbm, ⟨27, _⟩ => ⟨S32x160, .i32⟩
  | .hbm, ⟨28, _⟩ => ⟨S32x160, .i32⟩
  | .hbm, ⟨29, _⟩ => ⟨S_, .i32⟩
  | .hbm, ⟨30, _⟩ => ⟨S32x160, .i32⟩
  | .hbm, ⟨31, _⟩ => ⟨S32x160, .i32⟩
  | .hbm, ⟨32, _⟩ => ⟨S_, .i32⟩
  | .hbm, ⟨33, _⟩ => ⟨S32x160, .i32⟩
  | .hbm, ⟨34, _⟩ => ⟨S32x160, .i1⟩
  | .hbm, ⟨35, _⟩ => ⟨S_, .i32⟩
  | .hbm, ⟨36, _⟩ => ⟨S32x160, .i32⟩
  | .hbm, ⟨37, _⟩ => ⟨S32x160, .i32⟩
  | .hbm, ⟨38, _⟩ => ⟨S32x160, .i32⟩
  | .hbm, ⟨39, _⟩ => ⟨S32x160x1, .i32⟩
  | .hbm, ⟨40, _⟩ => ⟨S8x32x160, .f32⟩
  | .hbm, ⟨41, _⟩ => ⟨S8x32x544, .f32⟩
  | .hbm, ⟨42, _⟩ => ⟨S8x32x512, .f32⟩
  | .hbm, ⟨43, _⟩ => ⟨S8x32x32, .f32⟩
  | .hbm, ⟨44, _⟩ => ⟨S512x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S1x8x512x64, .f32⟩
  | .local _ .vmem, ⟨7, _⟩ => ⟨S1x8x512x64, .f32⟩
  | .local _ .vmem, ⟨8, _⟩ => ⟨S1x8x512x64, .f32⟩
  | .local _ .vmem, ⟨9, _⟩ => ⟨S1x8x512x64, .f32⟩
  | .local _ .vmem, ⟨10, _⟩ => ⟨S8x32x512, .f32⟩
  | .local _ .vmem, ⟨11, _⟩ => ⟨S8x32x32, .f32⟩
  | .local _ .vmem, ⟨12, _⟩ => ⟨S32x512, .f32⟩
  | .local _ .vmem, ⟨13, _⟩ => ⟨S32x512, .f32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S512x1536 : Shape := ⟨2, ![512, 1536]⟩
abbrev S16x8x512x64 : Shape := ⟨4, ![16, 8, 512, 64]⟩
abbrev S8x257 : Shape := ⟨2, ![8, 257]⟩
abbrev S16x32x1536 : Shape := ⟨3, ![16, 32, 1536]⟩
abbrev S16x32x512 : Shape := ⟨3, ![16, 32, 512]⟩
abbrev S16x32x8x64 : Shape := ⟨4, ![16, 32, 8, 64]⟩
abbrev S16x8x32x64 : Shape := ⟨4, ![16, 8, 32, 64]⟩
abbrev S16x8x544x64 : Shape := ⟨4, ![16, 8, 544, 64]⟩
abbrev S16x8x32x544 : Shape := ⟨4, ![16, 8, 32, 544]⟩
abbrev S_ : Shape := ⟨0, ![]⟩
abbrev S32 : Shape := ⟨1, ![32]⟩
abbrev S32x1 : Shape := ⟨2, ![32, 1]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S8x32x544 : Shape := ⟨3, ![8, 32, 544]⟩
abbrev S1x8x32x544 : Shape := ⟨4, ![1, 8, 32, 544]⟩
abbrev S16x8x32 : Shape := ⟨3, ![16, 8, 32]⟩
abbrev S16x8x32x1 : Shape := ⟨4, ![16, 8, 32, 1]⟩
abbrev S16x8x64x32 : Shape := ⟨4, ![16, 8, 64, 32]⟩
abbrev S512x512 : Shape := ⟨2, ![512, 512]⟩

abbrev nBuf : Space → Nat
  | .hbm => 69
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S16x8x512x64, .f32⟩
  | .hbm, ⟨2, _⟩ => ⟨S16x8x512x64, .f32⟩
  | .hbm, ⟨3, _⟩ => ⟨S8x257, .f32⟩
  | .hbm, ⟨4, _⟩ => ⟨S16x32x1536, .f32⟩
  | .hbm, ⟨5, _⟩ => ⟨S16x32x512, .f32⟩
  | .hbm, ⟨6, _⟩ => ⟨S16x32x512, .f32⟩
  | .hbm, ⟨7, _⟩ => ⟨S16x32x512, .f32⟩
  | .hbm, ⟨8, _⟩ => ⟨S16x32x8x64, .f32⟩
  | .hbm, ⟨9, _⟩ => ⟨S16x32x8x64, .f32⟩
  | .hbm, ⟨10, _⟩ => ⟨S16x32x8x64, .f32⟩
  | .hbm, ⟨11, _⟩ => ⟨S16x8x32x64, .f32⟩
  | .hbm, ⟨12, _⟩ => ⟨S16x8x544x64, .f32⟩
  | .hbm, ⟨13, _⟩ => ⟨S16x8x32x64, .f32⟩
  | .hbm, ⟨14, _⟩ => ⟨S16x8x544x64, .f32⟩
  | .hbm, ⟨15, _⟩ => ⟨S16x8x32x544, .f32⟩
  | .hbm, ⟨16, _⟩ => ⟨S_, .f32⟩
  | .hbm, ⟨17, _⟩ => ⟨S16x8x32x544, .f32⟩
  | .hbm, ⟨18, _⟩ => ⟨S16x8x32x544, .f32⟩
  | .hbm, ⟨19, _⟩ => ⟨S32, .i32⟩
  | .hbm, ⟨20, _⟩ => ⟨S32x1, .i32⟩
  | .hbm, ⟨21, _⟩ => ⟨S_, .i32⟩
  | .hbm, ⟨22, _⟩ => ⟨S32x1, .i32⟩
  | .hbm, ⟨23, _⟩ => ⟨S32x1, .i32⟩
  | .hbm, ⟨24, _⟩ => ⟨S544, .i32⟩
  | .hbm, ⟨25, _⟩ => ⟨S1x544, .i32⟩
  | .hbm, ⟨26, _⟩ => ⟨S32x544, .i32⟩
  | .hbm, ⟨27, _⟩ => ⟨S32x544, .i32⟩
  | .hbm, ⟨28, _⟩ => ⟨S32x544, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x544, .i32⟩
  | .hbm, ⟨33, _⟩ => ⟨S32x544, .i32⟩
  | .hbm, ⟨34, _⟩ => ⟨S_, .i32⟩
  | .hbm, ⟨35, _⟩ => ⟨S32x544, .i32⟩
  | .hbm, ⟨36, _⟩ => ⟨S32x544, .i32⟩
  | .hbm, ⟨37, _⟩ => ⟨S_, .i32⟩
  | .hbm, ⟨38, _⟩ => ⟨S32x544, .i32⟩
  | .hbm, ⟨39, _⟩ => ⟨S32x544, .i32⟩
  | .hbm, ⟨40, _⟩ => ⟨S_, .i32⟩
  | .hbm, ⟨41, _⟩ => ⟨S32x544, .i32⟩
  | .hbm, ⟨42, _⟩ => ⟨S32x544, .i1⟩
  | .hbm, ⟨43, _⟩ => ⟨S_, .i32⟩
  | .hbm, ⟨44, _⟩ => ⟨S32x544, .i32⟩
  | .hbm, ⟨45, _⟩ => ⟨S32x544, .i32⟩
  | .hbm, ⟨46, _⟩ => ⟨S32x544, .i32⟩
  | .hbm, ⟨47, _⟩ => ⟨S32x544x1, .i32⟩
  | .hbm, ⟨48, _⟩ => ⟨S8x32x544, .f32⟩
  | .hbm, ⟨49, _⟩ => ⟨S1x8x32x544, .f32⟩
  | .hbm, ⟨50, _⟩ => ⟨S16x8x32x544, .f32⟩
  | .hbm, ⟨51, _⟩ => ⟨S16x8x32x544, .f32⟩
  | .hbm, ⟨52, _⟩ => ⟨S_, .f32⟩
  | .hbm, ⟨53, _⟩ => ⟨S16x8x32, .f32⟩
  | .hbm, ⟨54, _⟩ => ⟨S_, .f32⟩
  | .hbm, ⟨55, _⟩ => ⟨S16x8x32, .f32⟩
  | .hbm, ⟨56, _⟩ => ⟨S16x8x32, .f32⟩
  | .hbm, ⟨57, _⟩ => ⟨S16x8x32x1, .f32⟩
  | .hbm, ⟨58, _⟩ => ⟨S16x8x32x544, .f32⟩
  | .hbm, ⟨59, _⟩ => ⟨S16x8x32x544, .f32⟩
  | .hbm, ⟨60, _⟩ => ⟨S16x8x32x544, .f32⟩
  | .hbm, ⟨61, _⟩ => ⟨S_, .f32⟩
  | .hbm, ⟨62, _⟩ => ⟨S16x8x32, .f32⟩
  | .hbm, ⟨63, _⟩ => ⟨S16x8x32x1, .f32⟩
  | .hbm, ⟨64, _⟩ => ⟨S16x8x32x544, .f32⟩
  | .hbm, ⟨65, _⟩ => ⟨S16x8x32x544, .f32⟩
  | .hbm, ⟨66, _⟩ => ⟨S16x8x64x32, .f32⟩
  | .hbm, ⟨67, _⟩ => ⟨S16x32x8x64, .f32⟩
  | .hbm, ⟨68, _⟩ => ⟨S512x512, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel6.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S_ : Shape := ⟨0, ![]⟩
abbrev S64x512 : Shape := ⟨2, ![64, 512]⟩
abbrev S1792 : Shape := ⟨1, ![1792]⟩
abbrev S512 : Shape := ⟨1, ![512]⟩
abbrev S128x512 : Shape := ⟨2, ![128, 512]⟩
abbrev S8x64 : Shape := ⟨2, ![8, 64]⟩
abbrev S512x1 : Shape := ⟨2, ![512, 1]⟩
abbrev S512x512 : Shape := ⟨2, ![512, 512]⟩
abbrev S2x1x1792 : Shape := ⟨3, ![2, 1, 1792]⟩
abbrev S2x512x1792 : Shape := ⟨3, ![2, 512, 1792]⟩
abbrev S2x1792 : Shape := ⟨2, ![2, 1792]⟩
abbrev S1 : Shape := ⟨1, ![1]⟩
abbrev S1024x1792 : Shape := ⟨2, ![1024, 1792]⟩
abbrev S4x128x2x128x128 : Shape := ⟨5, ![4, 128, 2, 128, 128]⟩
abbrev S32768x512 : Shape := ⟨2, ![32768, 512]⟩
abbrev S256x1792 : Shape := ⟨2, ![256, 1792]⟩
abbrev S8x1792 : Shape := ⟨2, ![8, 1792]⟩
abbrev S4x2x1x128x128 : Shape := ⟨5, ![4, 2, 1, 128, 128]⟩
abbrev S256x512 : Shape := ⟨2, ![256, 512]⟩
abbrev S8x1x1792 : Shape := ⟨3, ![8, 1, 1792]⟩
abbrev S8x32x1792 : Shape := ⟨3, ![8, 32, 1792]⟩
abbrev S256x128 : Shape := ⟨2, ![256, 128]⟩
abbrev S2x1x128x128 : Shape := ⟨4, ![2, 1, 128, 128]⟩
abbrev S1x2x1x128x128 : Shape := ⟨5, ![1, 2, 1, 128, 128]⟩

abbrev nBuf : Space → Nat
  | .hbm => 76
  | .vmem => 32
  | .smem => 0
  | _ => 0

abbrev bufTy : (tb : Table) → Fin (tcTables nBuf tb) → BufTy
  | .hbm, ⟨0, _⟩ => ⟨S32768x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S_, .f32⟩
  | .hbm, ⟨11, _⟩ => ⟨S64x512, .f32⟩
  | .hbm, ⟨12, _⟩ => ⟨S1792, .f32⟩
  | .hbm, ⟨13, _⟩ => ⟨S1x1792, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S64x512, .f32⟩
  | .hbm, ⟨19, _⟩ => ⟨S128x512, .f32⟩
  | .hbm, ⟨20, _⟩ => ⟨S64x512, .f32⟩
  | .hbm, ⟨21, _⟩ => ⟨S128x512, .f32⟩
  | .hbm, ⟨22, _⟩ => ⟨S128x512, .f32⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8x64, .f32⟩
  | .hbm, ⟨28, _⟩ => ⟨S1x512, .f32⟩
  | .hbm, ⟨29, _⟩ => ⟨S512, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S_, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S512x512, .f32⟩
  | .hbm, ⟨58, _⟩ => ⟨S512x512, .bf16⟩
  | .hbm, ⟨59, _⟩ => ⟨S_, .f32⟩
  | .hbm, ⟨60, _⟩ => ⟨S2x1x1792, .f32⟩
  | .hbm, ⟨61, _⟩ => ⟨S_, .f32⟩
  | .hbm, ⟨62, _⟩ => ⟨S2x512x1792, .f32⟩
  | .hbm, ⟨63, _⟩ => ⟨S2x1792, .f32⟩
  | .hbm, ⟨64, _⟩ => ⟨S_, .i32⟩
  | .hbm, ⟨65, _⟩ => ⟨S1, .i32⟩
  | .hbm, ⟨66, _⟩ => ⟨S2x512x1792, .f32⟩
  | .hbm, ⟨67, _⟩ => ⟨S1024x1792, .f32⟩
  | .hbm, ⟨68, _⟩ => ⟨S4x128x2x128x128, .f32⟩
  | .hbm, ⟨69, _⟩ => ⟨S4x128x2x128x128, .f32⟩
  | .hbm, ⟨70, _⟩ => ⟨S4x128x2x128x128, .f32⟩
  | .hbm, ⟨71, _⟩ => ⟨S4x128x2x128x128, .f32⟩
  | .hbm, ⟨72, _⟩ => ⟨S4x128x2x128x128, .f32⟩
  | .hbm, ⟨73, _⟩ => ⟨S4x128x2x128x128, .f32⟩
  | .hbm, ⟨74, _⟩ => ⟨S32768x512, .f32⟩
  | .hbm, ⟨75, _⟩ => ⟨S32768x512, .f32⟩
  | .local _ .vmem, ⟨0, _⟩ => ⟨S256x1792, .f32⟩
  | .local _ .vmem, ⟨1, _⟩ => ⟨S256x1792, .f32⟩
  | .local _ .vmem, ⟨2, _⟩ => ⟨S8x1792, .f32⟩
  | .local _ .vmem, ⟨3, _⟩ => ⟨S8x1792, .f32⟩
  | .local _ .vmem, ⟨4, _⟩ => ⟨S8x1792, .f32⟩
  | .local _ .vmem, ⟨5, _⟩ => ⟨S8x1792, .f32⟩
  | .local _ .vmem, ⟨6, _⟩ => ⟨S1x1792, .f32⟩
  | .local _ .vmem, ⟨7, _⟩ => ⟨S1x512, .f32⟩
  | .local _ .vmem, ⟨8, _⟩ => ⟨S128x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S4x2x1x128x128, .f32⟩
  | .local _ .vmem, ⟨17, _⟩ => ⟨S4x2x1x128x128, .f32⟩
  | .local _ .vmem, ⟨18, _⟩ => ⟨S4x2x1x128x128, .f32⟩
  | .local _ .vmem, ⟨19, _⟩ => ⟨S4x2x1x128x128, .f32⟩
  | .local _ .vmem, ⟨20, _⟩ => ⟨S4x2x1x128x128, .f32⟩
  | .local _ .vmem, ⟨21, _⟩ => ⟨S4x2x1x128x128, .f32⟩
  | .local _ .vmem, ⟨22, _⟩ => ⟨S4x2x1x128x128, .f32⟩
  | .local _ .vmem, ⟨23, _⟩ => ⟨S4x2x1x128x128, .f32⟩
  | .local _ .vmem, ⟨24, _⟩ => ⟨S4x2x1x128x128, .f32⟩
  | .local _ .vmem, ⟨25, _⟩ => ⟨S4x2x1x128x128, .f32⟩
  | .local _ .vmem, ⟨26, _⟩ => ⟨S4x2x1x128x128, .f32⟩
  | .local _ .vmem, ⟨27, _⟩ => ⟨S4x2x1x128x128, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | _, _ => ⟨S32768x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_0 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33_0 : Ref sig .tc := ⟨.hbm, 68, rfl⟩
abbrev main_v33_1 : Ref sig .tc := ⟨.hbm, 69, rfl⟩
abbrev main_v33_2 : Ref sig .tc := ⟨.hbm, 70, rfl⟩
abbrev main_v33_3 : Ref sig .tc := ⟨.hbm, 71, rfl⟩
abbrev main_v33_4 : Ref sig .tc := ⟨.hbm, 72, rfl⟩
abbrev main_v33_5 : Ref sig .tc := ⟨.hbm, 73, rfl⟩
abbrev main_v33_6 : Ref sig .tc := ⟨.hbm, 74, rfl⟩
abbrev main_v33_7 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_14 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_15 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_16 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_17 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_18 (i : grid0.Coords) : Fin 5 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![c0_i32_10.toNat, v9.toNat, v26.toNat, c0_i32_11.toNat, c0_i32_12.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x2x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x2x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x2x1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x2x1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x2x1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x2x1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S2x16384x1792 : Shape := ⟨3, ![2, 16384, 1792]⟩
abbrev S_ : Shape := ⟨0, ![]⟩
abbrev S2x1x1792 : Shape := ⟨3, ![2, 1, 1792]⟩
abbrev S2x16383x1792 : Shape := ⟨3, ![2, 16383, 1792]⟩
abbrev S1792 : Shape := ⟨1, ![1792]⟩
abbrev S1x1x1792 : Shape := ⟨3, ![1, 1, 1792]⟩
abbrev S2x16384x512 : Shape := ⟨3, ![2, 16384, 512]⟩
abbrev S2x16384x64 : Shape := ⟨3, ![2, 16384, 64]⟩
abbrev S2x16384x128 : Shape := ⟨3, ![2, 16384, 128]⟩
abbrev S512 : Shape := ⟨1, ![512]⟩
abbrev S64x512 : Shape := ⟨2, ![64, 512]⟩
abbrev S1x1x512 : Shape := ⟨3, ![1, 1, 512]⟩
abbrev S128x512 : Shape := ⟨2, ![128, 512]⟩
abbrev S2x128x128x4x128 : Shape := ⟨5, ![2, 128, 128, 4, 128]⟩
abbrev S4x128x2x128x128 : Shape := ⟨5, ![4, 128, 2, 128, 128]⟩
abbrev S32768x512 : Shape := ⟨2, ![32768, 512]⟩

abbrev nBuf : Space → Nat
  | .hbm => 100
  | .vmem => 0
  | .smem => 0
  | _ => 0

abbrev bufTy : (tb : Table) → Fin (tcTables nBuf tb) → BufTy
  | .hbm, ⟨0, _⟩ => ⟨S32768x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S2x16384x1792, .f32⟩
  | .hbm, ⟨11, _⟩ => ⟨S_, .f32⟩
  | .hbm, ⟨12, _⟩ => ⟨S2x1x1792, .f32⟩
  | .hbm, ⟨13, _⟩ => ⟨S2x16383x1792, .f32⟩
  | .hbm, ⟨14, _⟩ => ⟨S2x16384x1792, .f32⟩
  | .hbm, ⟨15, _⟩ => ⟨S2x16384x1792, .f32⟩
  | .hbm, ⟨16, _⟩ => ⟨S1792, .f32⟩
  | .hbm, ⟨17, _⟩ => ⟨S1x1x1792, .f32⟩
  | .hbm, ⟨18, _⟩ => ⟨S2x16384x1792, .f32⟩
  | .hbm, ⟨19, _⟩ => ⟨S2x16384x1792, .f32⟩
  | .hbm, ⟨20, _⟩ => ⟨S2x16384x1792, .f32⟩
  | .hbm, ⟨21, _⟩ => ⟨S2x16384x512, .f32⟩
  | .hbm, ⟨22, _⟩ => ⟨S2x16384x512, .f32⟩
  | .hbm, ⟨23, _⟩ => ⟨S2x16384x512, .f32⟩
  | .hbm, ⟨24, _⟩ => ⟨S2x16384x64, .f32⟩
  | .hbm, ⟨25, _⟩ => ⟨S2x16384x64, .f32⟩
  | .hbm, ⟨26, _⟩ => ⟨S2x16384x128, .f32⟩
  | .hbm, ⟨27, _⟩ => ⟨S512, .f32⟩
  | .hbm, ⟨28, _⟩ => ⟨S2x16384x64, .f32⟩
  | .hbm, ⟨29, _⟩ => ⟨S64x512, .f32⟩
  | .hbm, ⟨30, _⟩ => ⟨S2x16384x512, .f32⟩
  | .hbm, ⟨31, _⟩ => ⟨S1x1x512, .f32⟩
  | .hbm, ⟨32, _⟩ => ⟨S2x16384x512, .f32⟩
  | .hbm, ⟨33, _⟩ => ⟨S2x16384x512, .f32⟩
  | .hbm, ⟨34, _⟩ => ⟨S2x16384x512, .f32⟩
  | .hbm, ⟨35, _⟩ => ⟨S_, .f32⟩
  | .hbm, ⟨36, _⟩ => ⟨S2x16384x512, .f32⟩
  | .hbm, ⟨37, _⟩ => ⟨S2x16384x512, .f32⟩
  | .hbm, ⟨38, _⟩ => ⟨S2x16384x512, .f32⟩
  | .hbm, ⟨39, _⟩ => ⟨S2x16384x512, .f32⟩
  | .hbm, ⟨40, _⟩ => ⟨S2x16384x512, .i1⟩
  | .hbm, ⟨41, _⟩ => ⟨S2x16384x512, .f32⟩
  | .hbm, ⟨42, _⟩ => ⟨S2x16384x512, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S2x16384x512, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S_, .f32⟩
  | .hbm, ⟨51, _⟩ => ⟨S2x16384x512, .f32⟩
  | .hbm, ⟨52, _⟩ => ⟨S2x16384x512, .f32⟩
  | .hbm, ⟨53, _⟩ => ⟨S2x16384x512, .f32⟩
  | .hbm, ⟨54, _⟩ => ⟨S2x16384x512, .f32⟩
  | .hbm, ⟨55, _⟩ => ⟨S2x16384x512, .f32⟩
  | .hbm, ⟨56, _⟩ => ⟨S512, .f32⟩
  | .hbm, ⟨57, _⟩ => ⟨S64x512, .f32⟩
  | .hbm, ⟨58, _⟩ => ⟨S2x16384x512, .f32⟩
  | .hbm, ⟨59, _⟩ => ⟨S1x1x512, .f32⟩
  | .hbm, ⟨60, _⟩ => ⟨S2x16384x512, .f32⟩
  | .hbm, ⟨61, _⟩ => ⟨S2x16384x512, .f32⟩
  | .hbm, ⟨62, _⟩ => ⟨S2x16384x512, .f32⟩
  | .hbm, ⟨63, _⟩ => ⟨S2x16384x512, .f32⟩
  | .hbm, ⟨64, _⟩ => ⟨S_, .f32⟩
  | .hbm, ⟨65, _⟩ => ⟨S2x16384x512, .f32⟩
  | .hbm, ⟨66, _⟩ => ⟨S2x16384x512, .f32⟩
  | .hbm, ⟨67, _⟩ => ⟨S_, .f32⟩
  | .hbm, ⟨68, _⟩ => ⟨S2x16384x512, .f32⟩
  | .hbm, ⟨69, _⟩ => ⟨S2x16384x512, .f32⟩
  | .hbm, ⟨70, _⟩ => ⟨S2x16384x128, .f32⟩
  | .hbm, ⟨71, _⟩ => ⟨S2x16384x128, .f32⟩
  | .hbm, ⟨72, _⟩ => ⟨S_, .f32⟩
  | .hbm, ⟨73, _⟩ => ⟨S2x16384x128, .f32⟩
  | .hbm, ⟨74, _⟩ => ⟨S2x16384x128, .f32⟩
  | .hbm, ⟨75, _⟩ => ⟨S_, .f32⟩
  | .hbm, ⟨76, _⟩ => ⟨S2x16384x128, .f32⟩
  | .hbm, ⟨77, _⟩ => ⟨S2x16384x128, .f32⟩
  | .hbm, ⟨78, _⟩ => ⟨S128x512, .f32⟩
  | .hbm, ⟨79, _⟩ => ⟨S2x16384x512, .f32⟩
  | .hbm, ⟨80, _⟩ => ⟨S_, .f32⟩
  | .hbm, ⟨81, _⟩ => ⟨S2x16384x512, .f32⟩
  | .hbm, ⟨82, _⟩ => ⟨S2x16384x512, .f32⟩
  | .hbm, ⟨83, _⟩ => ⟨S512, .f32⟩
  | .hbm, ⟨84, _⟩ => ⟨S1x1x512, .f32⟩
  | .hbm, ⟨85, _⟩ => ⟨S2x16384x512, .f32⟩
  | .hbm, ⟨86, _⟩ => ⟨S2x16384x512, .f32⟩
  | .hbm, ⟨87, _⟩ => ⟨S_, .f32⟩
  | .hbm, ⟨88, _⟩ => ⟨S2x16384x512, .f32⟩
  | .hbm, ⟨89, _⟩ => ⟨S2x16384x512, .f32⟩
  | .hbm, ⟨90, _⟩ => ⟨S2x16384x512, .f32⟩
  | .hbm, ⟨91, _⟩ => ⟨S2x128x128x4x128, .f32⟩
  | .hbm, ⟨92, _⟩ => ⟨S4x128x2x128x128, .f32⟩
  | .hbm, ⟨93, _⟩ => ⟨S2x128x128x4x128, .f32⟩
  | .hbm, ⟨94, _⟩ => ⟨S4x128x2x128x128, .f32⟩
  | .hbm, ⟨95, _⟩ => ⟨S2x128x128x4x128, .f32⟩
  | .hbm, ⟨96, _⟩ => ⟨S4x128x2x128x128, .f32⟩
  | .hbm, ⟨97, _⟩ => ⟨S2x128x128x4x128, .f32⟩
  | .hbm, ⟨98, _⟩ => ⟨S4x128x2x128x128, .f32⟩
  | .hbm, ⟨99, _⟩ => ⟨S32768x512, .f32⟩
  | _, _ => ⟨S32768x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_5 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Proof.Soft.lean ====
/- The softmax over a window of scores: a kernel takes it over two sets of scores and divides once at the end; the reference
   takes it over the scores of the window and divides each weight. The two sets of the prompt have 512 scores each, `⊥` off the
   window of 576; those of the sample are the two parts of the window. -/
module

public import Idealize.ShloMosaic.PureOps.Ideal

@[expose] public section

noncomputable section

namespace Cert.Soft

open Idealize.ShloMosaic

/-! ## Real numbers among the extended reals -/

/-- The value is a real number. -/
def Real' (x : EReal) : Prop := ∃ r : ℝ, x = (r : EReal)

theorem Real'.add {x y : EReal} : Real' x → Real' y → Real' (x + y)
  | ⟨a, ha⟩, ⟨b, hb⟩ => ⟨a + b, by rw [ha, hb, EReal.coe_add]⟩

theorem Real'.mul {x y : EReal} : Real' x → Real' y → Real' (x * y)
  | ⟨a, ha⟩, ⟨b, hb⟩ => ⟨a * b, by rw [ha, hb, EReal.coe_mul]⟩

theorem Real'.sum {ι : Type} (s : Finset ι) (f : ι → EReal) (h : ∀ i ∈ s, Real' (f i)) : Real' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem Real'.ne_top {x : EReal} : Real' x → x ≠ ⊤
  | ⟨a, ha⟩ => by rw [ha]; exact EReal.coe_ne_top a

theorem Real'.ne_bot {x : EReal} : Real' x → x ≠ ⊥
  | ⟨a, ha⟩ => by rw [ha]; exact EReal.coe_ne_bot a

theorem real'_of_ne {x : EReal} (ht : x ≠ ⊤) (hb : x ≠ ⊥) : Real' x := ⟨x.toReal, (EReal.coe_toReal ht hb).symm⟩

/-- A value whose magnitude is below the largest is real. -/
theorem real'_of_abs_lt {x : EReal} (h : max x (-x) < ⊤) : Real' x :=
  real'_of_ne (fun e => by rw [e] at h; simp at h) (fun e => by rw [e] at h; simp at h)

/-! ## Products through a sum -/

/-- A real factor that is not negative goes through a sum. -/
theorem sum_mul_real {ι : Type} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hk) (EReal.coe_ne_top k) _ _

/-! ## The softmax -/

/-- One row of the attention, the two sets of scores and values given, with one division at the end. -/
def row {n n' : ℕ} (a : Fin n → EReal) (b : Fin n' → EReal) (va : Fin n → EReal) (vb : Fin n' → EReal) : EReal :=
  Ideal.div
    ((∑ j, Ideal.exp (a j - max (Finset.univ.fold max ⊥ a) (Finset.univ.fold max ⊥ b)) * va j)
      + ∑ j, Ideal.exp (b j - max (Finset.univ.fold max ⊥ a) (Finset.univ.fold max ⊥ b)) * vb j)
    ((∑ j, Ideal.exp (a j - max (Finset.univ.fold max ⊥ a) (Finset.univ.fold max ⊥ b)))
      + ∑ j, Ideal.exp (b j - max (Finset.univ.fold max ⊥ a) (Finset.univ.fold max ⊥ b)))

/-- One row of the attention over one window, each weight divided. -/
def softRow {n : ℕ} (s v : Fin n → EReal) : EReal :=
  ∑ j, Ideal.div (Ideal.exp (s j - Finset.univ.fold max ⊥ s)) (∑ i, Ideal.exp (s i - Finset.univ.fold max ⊥ s)) * v j

theorem le_fold {n : ℕ} (s : Fin n → EReal) (j : Fin n) : s j ≤ Finset.univ.fold max ⊥ s :=
  Finset.le_sup (f := s) (Finset.mem_univ j)

theorem fold_le {n : ℕ} (s : Fin n → EReal) (x : EReal) (h : ∀ j, s j ≤ x) : Finset.univ.fold max ⊥ s ≤ x :=
  Finset.sup_le (f := s) fun j _ => h j

theorem exists_fold {n : ℕ} (s : Fin n → EReal) (j : Fin n) : ∃ i, s i = Finset.univ.fold max ⊥ s := by
  obtain ⟨i, _, hi⟩ := Finset.exists_mem_eq_sup Finset.univ ⟨j, Finset.mem_univ j⟩ s
  exact ⟨i, hi.symm⟩

/-- The exponential of a score less a real number not below it is a real number from 0 up. -/
theorem exp_real {x : EReal} {M : ℝ} (h : x ≤ M) : ∃ r : ℝ, 0 ≤ r ∧ Ideal.exp (x - M) = (r : EReal) := by
  induction x with
  | bot => exact ⟨0, le_refl _, by rw [EReal.bot_sub]; rfl⟩
  | top => exact absurd h (by simp)
  | coe y => exact ⟨Real.exp (y - M), (Real.exp_pos _).le, by rw [← EReal.coe_sub]; rfl⟩

theorem div_real (x : EReal) {d : ℝ} (hd : 0 < d) : Ideal.div x (d : EReal) = x * ((d⁻¹ : ℝ) : EReal) := by
  unfold Ideal.div
  rw [if_neg (by exact_mod_cast hd.ne'), EReal.coe_inv]

theorem exp_zero : Ideal.exp 0 = 1 := by
  rw [← EReal.coe_zero]
  show ((Real.exp 0 : ℝ) : EReal) = 1
  rw [Real.exp_zero, EReal.coe_one]

/-- The largest of the scores is real, where none is `⊤` and one is real. -/
theorem fold_real {n : ℕ} (s : Fin n → EReal) (htop : ∀ n, s n ≠ ⊤) (n₀ : Fin n) (hbot : s n₀ ≠ ⊥) :
    Real' (Finset.univ.fold max ⊥ s) := by
  obtain ⟨i, hi⟩ := exists_fold s n₀
  refine real'_of_ne ?_ ?_
  · rw [← hi]; exact htop i
  · intro e
    exact hbot (le_bot_iff.mp (e ▸ le_fold s n₀))

/-- One division at the end is a division of each weight, where no score is `⊤` and one is real. -/
theorem ratio_eq {n : ℕ} (s v : Fin n → EReal) (htop : ∀ n, s n ≠ ⊤) (n₀ : Fin n) (hbot : s n₀ ≠ ⊥) :
    Ideal.div (∑ j, Ideal.exp (s j - Finset.univ.fold max ⊥ s) * v j) (∑ j, Ideal.exp (s j - Finset.univ.fold max ⊥ s))
      = softRow s v := by
  obtain ⟨i, hi⟩ := exists_fold s n₀
  obtain ⟨M, hMr⟩ := fold_real s htop n₀ hbot
  -- the denominator is a positive real number
  have hreal : ∀ n, ∃ r : ℝ, 0 ≤ r ∧ Ideal.exp (s n - (M : EReal)) = (r : EReal) :=
    fun n => exp_real (hMr ▸ le_fold s n)
  choose w hw0 hw using hreal
  have hden : (∑ n, Ideal.exp (s n - (M : EReal))) = ((∑ n, w n : ℝ) : EReal) := by
    rw [Finset.sum_congr rfl fun n _ => hw n]
    exact (map_sum (⟨⟨fun r : ℝ => (r : EReal), EReal.coe_zero⟩, EReal.coe_add⟩ : ℝ →+ EReal) w Finset.univ).symm
  have hpos : 0 < ∑ n, w n := by
    refine Finset.sum_pos' (fun n _ => hw0 n) ⟨i, Finset.mem_univ i, ?_⟩
    have h1 : Ideal.exp (s i - (M : EReal)) = 1 := by
      rw [hi, hMr, ← EReal.coe_sub, sub_self, EReal.coe_zero, exp_zero]
    have h2 : ((w i : ℝ) : EReal) = ((1 : ℝ) : EReal) := by rw [← hw i, h1, EReal.coe_one]
    rw [EReal.coe_eq_coe_iff.mp h2]
    exact one_pos
  unfold softRow
  rw [hMr]
  rw [hden, div_real _ hpos, sum_mul_real _ _ _ (inv_nonneg.mpr hpos.le)]
  refine Finset.sum_congr rfl fun n _ => ?_
  rw [div_real _ hpos, mul_assoc, mul_assoc, mul_comm (v n)]

/-- The two forms agree, where the two sets are the two parts of the window. -/
theorem row_append {n n' : ℕ} (s v : Fin (n + n') → EReal) (htop : ∀ j, s j ≠ ⊤) (n₀ : Fin (n + n')) (hbot : s n₀ ≠ ⊥) :
    row (fun j => s (Fin.castAdd n' j)) (fun j => s (Fin.natAdd n j)) (fun j => v (Fin.castAdd n' j)) (fun j => v (Fin.natAdd n j))
      = softRow s v := by
  have hM : max (Finset.univ.fold max ⊥ fun j => s (Fin.castAdd n' j)) (Finset.univ.fold max ⊥ fun j => s (Fin.natAdd n j))
      = Finset.univ.fold max ⊥ s := by
    refine le_antisymm (max_le (fold_le _ _ fun j => le_fold s _) (fold_le _ _ fun j => le_fold s _)) (fold_le _ _ fun j => ?_)
    refine Fin.addCases (fun i => ?_) (fun i => ?_) j
    · exact le_max_of_le_left (le_fold (fun j => s (Fin.castAdd n' j)) i)
    · exact le_max_of_le_right (le_fold (fun j => s (Fin.natAdd n j)) i)
  unfold row
  rw [hM, ← Fin.sum_univ_add fun j => Ideal.exp (s j - Finset.univ.fold max ⊥ s) * v j,
    ← Fin.sum_univ_add fun j => Ideal.exp (s j - Finset.univ.fold max ⊥ s)]
  exact ratio_eq s v htop n₀ hbot

/-- The two forms agree, where the scores off the window are `⊥`, those in it are not `⊤` and one is real. -/
theorem row_eq (f g : Fin 1024 → EReal) (s v : Fin 576 → EReal) (o : ℕ) (ho : o ≤ 448)
    (hin : ∀ n : Fin 576, f ⟨o + n.val, by omega⟩ = s n)
    (hv : ∀ n : Fin 576, s n ≠ ⊥ → g ⟨o + n.val, by omega⟩ = v n)
    (hout : ∀ J : Fin 1024, (J.val < o ∨ o + 576 ≤ J.val) → f J = ⊥)
    (htop : ∀ n, s n ≠ ⊤) (n₀ : Fin 576) (hbot : s n₀ ≠ ⊥) :
    row (fun j : Fin 512 => f ⟨j.val, by omega⟩) (fun j : Fin 512 => f ⟨512 + j.val, by omega⟩)
        (fun j : Fin 512 => g ⟨j.val, by omega⟩) (fun j : Fin 512 => g ⟨512 + j.val, by omega⟩)
      = softRow s v := by
  -- the largest score
  have hM : max (Finset.univ.fold max ⊥ (fun j : Fin 512 => f ⟨j.val, by omega⟩))
      (Finset.univ.fold max ⊥ (fun j : Fin 512 => f ⟨512 + j.val, by omega⟩)) = Finset.univ.fold max ⊥ s := by
    have hle : ∀ J : Fin 1024, f J ≤ Finset.univ.fold max ⊥ s := by
      intro J
      by_cases hJ : J.val < o ∨ o + 576 ≤ J.val
      · rw [hout J hJ]; exact bot_le
      · have e := hin ⟨J.val - o, by omega⟩
        have e' : (⟨o + (J.val - o), by omega⟩ : Fin 1024) = J := Fin.ext (by show o + (J.val - o) = J.val; omega)
        rw [e'] at e
        rw [e]; exact le_fold s _
    refine le_antisymm (max_le (fold_le _ _ fun j => hle _) (fold_le _ _ fun j => hle _)) (fold_le _ _ fun n => ?_)
    rw [← hin n]
    by_cases h : o + n.val < 512
    · exact le_max_of_le_left (le_fold (fun j : Fin 512 => f ⟨j.val, by omega⟩) ⟨o + n.val, h⟩)
    · refine le_max_of_le_right ?_
      have := le_fold (fun j : Fin 512 => f ⟨512 + j.val, by omega⟩) ⟨o + n.val - 512, by omega⟩
      have e' : (⟨512 + (o + n.val - 512), by omega⟩ : Fin 1024) = ⟨o + n.val, by omega⟩ :=
        Fin.ext (by show 512 + (o + n.val - 512) = o + n.val; omega)
      simp only [e'] at this
      exact this
  obtain ⟨M, hMr⟩ := fold_real s htop n₀ hbot
  -- a sum over the two sets is the sum over the window, for terms that vanish at `⊥`
  have hsum : ∀ F : EReal → EReal → EReal, (∀ x, F ⊥ x = 0) →
      (∑ j : Fin 512, F (f ⟨j.val, by omega⟩) (g ⟨j.val, by omega⟩))
        + (∑ j : Fin 512, F (f ⟨512 + j.val, by omega⟩) (g ⟨512 + j.val, by omega⟩)) = ∑ n, F (s n) (v n) := by
    intro F hF
    have h1 := Fin.sum_univ_add (a := 512) (b := 512) (fun J : Fin (512 + 512) => F (f J) (g J))
    refine Eq.trans (b := ∑ J : Fin (512 + 512), F (f J) (g J)) h1.symm ?_
    refine (Fintype.sum_of_injective (fun n : Fin 576 => (⟨o + n.val, by omega⟩ : Fin 1024)) ?_ _ _ ?_ ?_).symm
    · intro x y h
      have := congrArg Fin.val h
      exact Fin.ext (by simpa using this)
    · intro J hJ
      rw [hout J ?_, hF]
      by_contra hc
      exact hJ ⟨⟨J.val - o, by omega⟩, Fin.ext (by show o + (J.val - o) = J.val; omega)⟩
    · intro n
      rw [hin n]
      by_cases hb : s n = ⊥
      · rw [hb, hF, hF]
      · rw [hv n hb]
  have hexp0 : Ideal.exp (⊥ - (M : EReal)) = 0 := by rw [EReal.bot_sub]; rfl
  have e1 := hsum (fun x y => Ideal.exp (x - (M : EReal)) * y) fun x => by simp only [hexp0, zero_mul]
  have e2 := hsum (fun x _ => Ideal.exp (x - (M : EReal))) fun x => hexp0
  unfold row softRow
  rw [hM, hMr]
  simp only at e1 e2
  rw [e1, e2, ← hMr]
  exact ratio_eq s v htop n₀ hbot

end Cert.Soft

end
-- ==== Proof.Head.lean ====
/- One head of the prompt attention on one block of 512 tokens: what the kernel stores for it, as one term, and
   that term read at a row and a lane. -/
module

public import proofs.«01_k».proof.Proof.Gen.KernelIdeal.Frame
public import Idealize.ShloMosaic.Lib.Pointwise
public import proofs.«01_k».proof.Proof.Soft

@[expose] public section

set_option maxRecDepth 16384

noncomputable section

namespace Cert.KernelIdeal.Att

open Cert.KernelIdeal Cert.KernelIdeal.Gen Idealize.ShloMosaic Cert.Soft

/-- The scaled scores of the queries against one set of keys, the bias added. -/
def scores (q k : Vec Ideal S512x64 .f32) (b : Vec Ideal S1x512x512 .f32) : FVec Ideal S512x512 .f32 :=
  addf (mulf (matmul dot_S512x64_S512x64_S512x512_1_1_0_0_n_n none (truncf (F := Ideal) (φ := .f32) .bf16 q bitsLt_bf16_f32)
      (truncf (F := Ideal) (φ := .f32) .bf16 k bitsLt_bf16_f32) (constant S512x512 .f32 0x00000000#32))
    (broadcast S512x512 (Scalar.ofBits .f32 0x3E000000#32)))
    (shapeCast S512x512 b shapeCasts_S1x512x512_S512x512)

/-- The scores against the preceding tokens: the mask value throughout where there are none. -/
def scoresBefore (first : BitVec 1) (q k : Vec Ideal S512x64 .f32) (b : Vec Ideal S1x512x512 .f32) : FVec Ideal S512x512 .f32 :=
  Scalar.select first (broadcast S512x512 (Named.named κ "mask" 0xF149F2CA#32)) (scores q k b)

/-- The largest score of each row. -/
def top (s : FVec Ideal S512x512 .f32) : FVec Ideal S512x1 .f32 :=
  shapeCast S512x1 (multiReduction .maximumf [1] S512 s 0xFF800000#32 reduces_S512x512_S512 (.inl rfl) rfl) shapeCasts_S512_S512x1

/-- The exponentials of the scores less their row's `m`. -/
def weights (s : FVec Ideal S512x512 .f32) (m : FVec Ideal S512x1 .f32) : FVec Ideal S512x512 .f32 :=
  exp (subf s (broadcastTo S512x512 m broadcasts_S512x1_S512x512))

/-- The sum of each row. -/
def total (w : FVec Ideal S512x512 .f32) : FVec Ideal S512x1 .f32 :=
  shapeCast S512x1 (multiReduction .add [1] S512 w 0x00000000#32 reduces_S512x512_S512 (.inl rfl) rfl) shapeCasts_S512_S512x1

/-- The weights times the values. -/
def mix (w : FVec Ideal S512x512 .f32) (v : Vec Ideal S512x64 .f32) : FVec Ideal S512x64 .f32 :=
  matmul dot_S512x512_S512x64_S512x64_1_0_0_1_n_n none (truncf (F := Ideal) (φ := .f32) .bf16 w bitsLt_bf16_f32)
    (truncf (F := Ideal) (φ := .f32) .bf16 v bitsLt_bf16_f32) (constant S512x64 .f32 0x00000000#32)

/-- The attention from its two sets of scores and values. -/
def soft (a b : FVec Ideal S512x512 .f32) (va vb : Vec Ideal S512x64 .f32) : FVec Ideal S512x64 .f32 :=
  divf (addf (mix (weights a (maximumf (top a) (top b))) va) (mix (weights b (maximumf (top a) (top b))) vb))
    (broadcastTo S512x64 (addf (total (weights a (maximumf (top a) (top b)))) (total (weights b (maximumf (top a) (top b)))))
      broadcasts_S512x1_S512x64)

/-- What the kernel stores for one head. -/
def head (first : BitVec 1) (q ka kb va vb : Vec Ideal S512x64 .f32) (ba bb : Vec Ideal S1x512x512 .f32) : FVec Ideal S512x64 .f32 :=
  soft (scoresBefore first q ka ba) (scores q kb bb) va vb

theorem scores_apply (q k : Vec Ideal S512x64 .f32) (b : Vec Ideal S1x512x512 .f32) (r j : Fin 512) :
    scores q k b (ix2 r j) = (∑ e : Fin 64, q (ix2 r e) * k (ix2 j e)) * Ideal.ofBits .f32 0x3E000000#32 + b (ix3 0 r j) := by
  pointwise [scores]

theorem neg_inf : Ideal.ofBits .f32 0xFF800000#32 = ⊥ := by simp [Ideal.ofBits, Ideal.ieee]

theorem soft_apply (a b : FVec Ideal S512x512 .f32) (va vb : Vec Ideal S512x64 .f32) (r : Fin 512) (d : Fin 64) :
    soft a b va vb (ix2 r d)
      = row (fun j => a (ix2 r j)) (fun j => b (ix2 r j)) (fun j => va (ix2 j d)) (fun j => vb (ix2 j d)) := by
  pointwise [soft, mix, total, weights, top, row, neg_inf]

theorem mask_eq : (Named.named (F := Ideal) (φ := .f32) κ "mask" 0xF149F2CA#32) = ⊥ :=
  IdealRules.named_const.ideal_named_scalar _ _ _ _ rfl

theorem scoresBefore_apply (first : BitVec 1) (q k : Vec Ideal S512x64 .f32) (b : Vec Ideal S1x512x512 .f32) (r j : Fin 512) :
    scoresBefore first q k b (ix2 r j)
      = Scalar.select first ⊥ ((∑ e : Fin 64, q (ix2 r e) * k (ix2 j e)) * Ideal.ofBits .f32 0x3E000000#32 + b (ix3 0 r j)) := by
  pointwise [scoresBefore, scores_apply, mask_eq]

/-- The score of row `r` of the queries `q` against row `j` of the keys `k` in head `h`, without its bias. -/
def dot (q k : Vec Ideal S512x512 .f32) (h : Fin 8) (r j : Fin 512) : EReal :=
  (∑ e : Fin 64, q (ix2 r ⟨64 * h.val + e.val, by omega⟩) * k (ix2 j ⟨64 * h.val + e.val, by omega⟩))
    * Ideal.ofBits .f32 0x3E000000#32

/-- The block of the result: row `r`, lane `l`, whose head is `l / 64`. -/
def block (first : BitVec 1) (q ka kb va vb : Vec Ideal S512x512 .f32) (b : Vec Ideal S8x512x1024 .f32) (r l : Fin 512) : EReal :=
  row (fun j : Fin 512 => Scalar.select first ⊥ (dot q ka ⟨l.val / 64, by omega⟩ r j + b (ix3 ⟨l.val / 64, by omega⟩ r ⟨j.val, by omega⟩)))
    (fun j : Fin 512 => dot q kb ⟨l.val / 64, by omega⟩ r j + b (ix3 ⟨l.val / 64, by omega⟩ r ⟨512 + j.val, by omega⟩))
    (fun j => va (ix2 j l)) (fun j => vb (ix2 j l))

theorem head_ld (first : BitVec 1) (q ka kb va vb : Vec Ideal S512x512 .f32) (b : Vec Ideal S8x512x1024 .f32) (h : ℕ) (hh : h < 8)
    (i1 : ∀ a, (![0, 64 * h] : Fin 2 → ℕ) a + S512x64.size a ≤ S512x512.size a)
    (i2 : ∀ a, (![h, 0, 0] : Fin 3 → ℕ) a + S1x512x512.size a ≤ S8x512x1024.size a)
    (i3 : ∀ a, (![h, 0, 512] : Fin 3 → ℕ) a + S1x512x512.size a ≤ S8x512x1024.size a) (r : Fin 512) (d : Fin 64) :
    head first (View.ld q (Rect.unit (s := S512x512) ![0, 64 * h] S512x64.size i1))
        (View.ld ka (Rect.unit (s := S512x512) ![0, 64 * h] S512x64.size i1))
        (View.ld kb (Rect.unit (s := S512x512) ![0, 64 * h] S512x64.size i1))
        (View.ld va (Rect.unit (s := S512x512) ![0, 64 * h] S512x64.size i1))
        (View.ld vb (Rect.unit (s := S512x512) ![0, 64 * h] S512x64.size i1))
        (View.ld b (Rect.unit (s := S8x512x1024) ![h, 0, 0] S1x512x512.size i2))
        (View.ld b (Rect.unit (s := S8x512x1024) ![h, 0, 512] S1x512x512.size i3)) (ix2 r d)
      = block first q ka kb va vb b r ⟨64 * h + d.val, by omega⟩ := by
  have hd : (64 * h + d.val) / 64 = h := by omega
  rw [head, soft_apply]
  simp only [scoresBefore_apply, scores_apply, block, dot, hd]
  pointwise

/-- The block as one array. -/
def blockVec (first : BitVec 1) (q ka kb va vb : Vec Ideal S512x512 .f32) (b : Vec Ideal S8x512x1024 .f32) : Vec Ideal S512x512 .f32 :=
  fun y => block first q ka kb va vb b (y 0) (y 1)

/-- The body's stores, each the same function of its own columns. -/
def pieces (first : BitVec 1) (q ka kb va vb : Vec Ideal S512x512 .f32) (b : Vec Ideal S8x512x1024 .f32) :
    List (View.Piece (Elt Ideal) S512x512 .f32) :=
  [⟨r0_21, head first (View.ld q r0_21) (View.ld ka r0_21) (View.ld kb r0_21) (View.ld va r0_21) (View.ld vb r0_21) (View.ld b r0_22) (View.ld b r0_23)⟩,
      ⟨r0_18, head first (View.ld q r0_18) (View.ld ka r0_18) (View.ld kb r0_18) (View.ld va r0_18) (View.ld vb r0_18) (View.ld b r0_19) (View.ld b r0_20)⟩,
      ⟨r0_15, head first (View.ld q r0_15) (View.ld ka r0_15) (View.ld kb r0_15) (View.ld va r0_15) (View.ld vb r0_15) (View.ld b r0_16) (View.ld b r0_17)⟩,
      ⟨r0_12, head first (View.ld q r0_12) (View.ld ka r0_12) (View.ld kb r0_12) (View.ld va r0_12) (View.ld vb r0_12) (View.ld b r0_13) (View.ld b r0_14)⟩,
      ⟨r0_9, head first (View.ld q r0_9) (View.ld ka r0_9) (View.ld kb r0_9) (View.ld va r0_9) (View.ld vb r0_9) (View.ld b r0_10) (View.ld b r0_11)⟩,
      ⟨r0_6, head first (View.ld q r0_6) (View.ld ka r0_6) (View.ld kb r0_6) (View.ld va r0_6) (View.ld vb r0_6) (View.ld b r0_7) (View.ld b r0_8)⟩,
      ⟨r0_3, head first (View.ld q r0_3) (View.ld ka r0_3) (View.ld kb r0_3) (View.ld va r0_3) (View.ld vb r0_3) (View.ld b r0_4) (View.ld b r0_5)⟩,
      ⟨r0_0, head first (View.ld q r0_0) (View.ld ka r0_0) (View.ld kb r0_0) (View.ld va r0_0) (View.ld vb r0_0) (View.ld b r0_1) (View.ld b r0_2)⟩]

theorem out_eq (i : grid0.Coords) (q ka kb va vb : Vec Ideal S512x512 .f32) (b : Vec Ideal S8x512x1024 .f32) :
    out0_6 i q ka kb va vb b = View.canon (pieces (Scalar.cmpi .eq (BitVec.ofNat 32 (i 1).val) 0#32) q ka kb va vb b) := by
  unfold_out out0_6
  rfl

/-- What the body leaves in the output's buffer. -/
theorem out_apply (i : grid0.Coords) (q ka kb va vb : Vec Ideal S512x512 .f32) (b : Vec Ideal S8x512x1024 .f32) (r l : Fin 512) :
    out0_6 i q ka kb va vb b (ix2 r l)
      = block (Scalar.cmpi .eq (BitVec.ofNat 32 (i 1).val) 0#32) q ka kb va vb b r l := by
  set first := Scalar.cmpi .eq (BitVec.ofNat 32 (i 1).val) 0#32 with hf
  have piece : ∀ (h : ℕ) (hh : h < 8)
      (i1 : ∀ a, (![0, 64 * h] : Fin 2 → ℕ) a + S512x64.size a ≤ S512x512.size a)
      (i2 : ∀ a, (![h, 0, 0] : Fin 3 → ℕ) a + S1x512x512.size a ≤ S8x512x1024.size a)
      (i3 : ∀ a, (![h, 0, 512] : Fin 3 → ℕ) a + S1x512x512.size a ≤ S8x512x1024.size a) (x : S512x64.Idx),
      head first (View.ld q (Rect.unit (s := S512x512) ![0, 64 * h] S512x64.size i1))
        (View.ld ka (Rect.unit (s := S512x512) ![0, 64 * h] S512x64.size i1))
        (View.ld kb (Rect.unit (s := S512x512) ![0, 64 * h] S512x64.size i1))
        (View.ld va (Rect.unit (s := S512x512) ![0, 64 * h] S512x64.size i1))
        (View.ld vb (Rect.unit (s := S512x512) ![0, 64 * h] S512x64.size i1))
        (View.ld b (Rect.unit (s := S8x512x1024) ![h, 0, 0] S1x512x512.size i2))
        (View.ld b (Rect.unit (s := S8x512x1024) ![h, 0, 512] S1x512x512.size i3)) x
      = blockVec first q ka kb va vb b
          ((Rect.unit (s := S512x512) ![0, 64 * h] S512x64.size i1).emb x) := by
    intro h hh i1 i2 i3 x
    idx_vars x
    rw [head_ld first q ka kb va vb b h hh i1 i2 i3]
    rw [blockVec]
    congr 1 <;> apply Fin.ext <;> simp [Rect.emb, Rect.unit]
  rw [out_eq, pieces]
  refine View.canon_apply_of_pieces (blockVec first q ka kb va vb b) _ ?_ (ix2 r l) ?_
  · intro p hp
    simp only [List.mem_cons, List.not_mem_nil, or_false] at hp
    rcases hp with rfl | rfl | rfl | rfl | rfl | rfl | rfl | rfl
    · exact piece 7 (by omega) _ _ _
    · exact piece 6 (by omega) _ _ _
    · exact piece 5 (by omega) _ _ _
    · exact piece 4 (by omega) _ _ _
    · exact piece 3 (by omega) _ _ _
    · exact piece 2 (by omega) _ _ _
    · exact piece 1 (by omega) _ _ _
    · exact piece 0 (by omega) _ _ _
  · have hr := r.isLt
    have hl := l.isLt
    simp only [List.exists_mem_cons_iff, Rect.mem_set_unit, List.not_mem_nil, false_and, exists_false, or_false]
    have key : ∀ h : ℕ, 64 * h ≤ l.val → l.val < 64 * h + 64 → ∀ a, (![0, 64 * h] : Fin 2 → ℕ) a ≤ ((ix2 r l : S512x512.Idx) a : ℕ)
        ∧ ((ix2 r l : S512x512.Idx) a : ℕ) < (![0, 64 * h] : Fin 2 → ℕ) a + S512x64.size a := by
      intro h h1 h2 a
      match a with
      | ⟨0, _⟩ => exact ⟨Nat.zero_le _, by show r.val < 0 + 512; omega⟩
      | ⟨1, _⟩ => exact ⟨h1, h2⟩
    have cases : l.val / 64 = 7 ∨ l.val / 64 = 6 ∨ l.val / 64 = 5 ∨ l.val / 64 = 4 ∨ l.val / 64 = 3 ∨ l.val / 64 = 2
        ∨ l.val / 64 = 1 ∨ l.val / 64 = 0 := by omega
    exact cases.imp (fun e => key 7 (by omega) (by omega)) fun c => c.imp (fun e => key 6 (by omega) (by omega)) fun c =>
      c.imp (fun e => key 5 (by omega) (by omega)) fun c => c.imp (fun e => key 4 (by omega) (by omega)) fun c =>
      c.imp (fun e => key 3 (by omega) (by omega)) fun c => c.imp (fun e => key 2 (by omega) (by omega)) fun c =>
      c.imp (fun e => key 1 (by omega) (by omega)) fun e => key 0 (by omega) (by omega)

end Cert.KernelIdeal.Att

end
-- ==== Proof.Gather.lean ====
/- A gather of columns of the table of biases, read at an index. -/
module

public import Idealize.ShloMosaic.Lib.Pointwise
public import Idealize.ShloMosaic.Lib.KernelVsHost

@[expose] public section

noncomputable section

namespace Cert.Gather

open Idealize.ShloMosaic

/-- The gather takes, for each of its `a` by `b` words, a column of the table. -/
def cols (a b : ℕ) (wf : GatherDims.WF ⟨2, ![8, 257]⟩ ⟨3, ![a, b, 1]⟩ ⟨3, ![8, a, b]⟩ [0] [1] [] [1] [] 2 ![8, 1]) :
    GatherDims ⟨2, ![8, 257]⟩ ⟨3, ![a, b, 1]⟩ ⟨3, ![8, a, b]⟩ where
  offsetDims := [0]
  collapsedSliceDims := [1]
  operandBatchingDims := []
  startIndicesBatchingDims := []
  startIndexMap := [1]
  indexVectorDim := 2
  sliceSizes := ![8, 1]
  wf := wf

theorem cols_apply {a b : ℕ} (wf : GatherDims.WF ⟨2, ![8, 257]⟩ ⟨3, ![a, b, 1]⟩ ⟨3, ![8, a, b]⟩ [0] [1] [] [1] [] 2 ![8, 1])
    (rel : Vec Ideal ⟨2, ![8, 257]⟩ .f32) (w : IVec ⟨3, ![a, b, 1]⟩ 32) (h : Fin 8) (r : Fin a) (j : Fin b) :
    Host.gather (cols a b wf) rel w (ix3 h r j) = rel (ix2 h ⟨min (w (ix3 r j 0)).toInt.toNat 256, by omega⟩) := by
  unfold Host.gather
  congr 1
  funext x
  refine Fin.ext ?_
  match x with
  | ⟨0, _⟩ =>
    show GatherDims.start (cols a b wf) (ix3 h r j) w 0 + GatherDims.batchCoord (cols a b wf) (ix3 h r j) 0
      + GatherDims.offCoord (cols a b wf) (ix3 h r j) 0 = h.val
    rw [GatherDims.batchCoord_eq_zero _ _ _ List.not_mem_nil]
    unfold GatherDims.start GatherDims.offCoord
    rw [dif_neg (show ¬ (0 : Fin 2) ∈ GatherDims.startIndexMap (cols a b wf) from (by decide : ¬ (0 : Fin 2) ∈ ([1] : List (Fin 2)))),
      dif_pos ((GatherDims.mem_sKept _ _).mpr ⟨(by decide : ¬ (0 : Fin 2) ∈ ([1] : List (Fin 2))), List.not_mem_nil⟩)]
    simp only [Nat.zero_add]
    have q : ∀ X ∈ ([0] : List (Fin 3)), (ix3 h r j X).val = h.val := by
      intro X hX; rw [List.mem_singleton.mp hX]; rfl
    exact q _ (List.getElem_mem _)
  | ⟨1, _⟩ =>
    show GatherDims.start (cols a b wf) (ix3 h r j) w 1 + GatherDims.batchCoord (cols a b wf) (ix3 h r j) 1
      + GatherDims.offCoord (cols a b wf) (ix3 h r j) 1 = min (w (ix3 r j 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ GatherDims.startIndexMap (cols a b wf) from List.mem_singleton.mpr rfl)]
    have hsi : GatherDims.siIdx (cols a b wf) (ix3 h r j)
        ⟨List.idxOf 1 (GatherDims.startIndexMap (cols a b wf)), List.idxOf_lt_length_iff.2 (List.mem_singleton.mpr rfl)⟩
          = ix3 r j 0 := by
      funext b; refine Fin.ext ?_
      match b with
      | ⟨0, _⟩ => rfl
      | ⟨1, _⟩ => rfl
      | ⟨2, _⟩ => rfl
    rw [hsi]
    rfl

end Cert.Gather

end
-- ==== Proof.Table.lean ====
/- The bias table that the kernel's host operations lay out, read at an index. -/
module

public import proofs.«01_k».proof.Proof.Gen.KernelIdeal.Frame
public import proofs.«01_k».proof.Proof.Gather

@[expose] public section

set_option maxRecDepth 16384

noncomputable section

namespace Cert.KernelIdeal.Table

open Cert.KernelIdeal Cert.KernelIdeal.Gen Idealize.ShloMosaic Idealize.ShloMosaic.TcCoe Idealize.SL.Sem

/-- The distance of a query from a near key, as a word. -/
def dist : IVec S64x192 32 :=
  subi (broadcastInDim S64x192 ![0, 1] bcast_S64x1_S64x192_0_1
      (addi (broadcastInDim S64x1 ![0] bcast_S64_S64x1_0 (iotaInDim S64 32 0))
        (broadcastInDim S64x1 ![] bcast_S_S64x1 (constantI S_ 32 512#32))))
    (broadcastInDim S64x192 ![0, 1] bcast_S1x192_S64x192_0_1
      (broadcastInDim S1x192 ![1] bcast_S192_S1x192_1
        (addi (broadcastInDim S192 ![] bcast_S_S192 (constantI S_ 32 384#32)) (iotaInDim S192 32 0))))

/-- The table position of that distance, clipped and moved to start at zero. -/
def pos : IVec S64x192 32 :=
  addi (minsi (broadcastInDim S64x192 ![] bcast_S_S64x192 (constantI S_ 32 128#32))
      (maxsi (broadcastInDim S64x192 ![] bcast_S_S64x192 (constantI S_ 32 4294967168#32)) dist))
    (broadcastInDim S64x192 ![] bcast_S_S64x192 (constantI S_ 32 128#32))

/-- The position, a negative one counted from the end. -/
def wrapped : IVec S64x192x1 32 :=
  broadcastInDim S64x192x1 ![0, 1] bcast_S64x192_S64x192x1_0_1
    (select (cmpi .slt pos (broadcastInDim S64x192 ![] bcast_S_S64x192 (constantI S_ 32 0#32)))
      (addi pos (broadcastInDim S64x192 ![] bcast_S_S64x192 (constantI S_ 32 257#32))) pos)

/-- The far keys' part beside the near keys'. -/
def beside (a : Vec Ideal S8x64x384 .f32) (b : Vec Ideal S8x64x192 .f32) : Vec Ideal S8x64x576 .f32 :=
  concatenate S8x64x576 2 [⟨S8x64x384, a⟩, ⟨S8x64x192, b⟩] concatenates_S8x64x384_S8x64x192_S8x64x576_d2

/-- The biases of one chunk of queries against the chunk's window of keys. -/
def band (rel : Vec Ideal S8x257 .f32) : Vec Ideal S8x64x576 .f32 :=
  beside (broadcastInDim S8x64x384 ![0, 1, 2] bcast_S8x1x1_S8x64x384_0_1_2
        (broadcastInDim S8x1x1 ![0] bcast_S8_S8x1x1_0
          (shapeCast S8 (extractStridedSlice S8x1 ![0, 256] rel slices_S8x257_S8x1_0_256) shapeCasts_S8x1_S8)))
    (Host.gather gather_S8x257_S64x192x1_S8x64x192_0_1_n_n_1_2_81 rel wrapped)

/-- What lies outside every window. -/
def outside : Vec Ideal S_ .f32 := constant (F := Ideal) S_ .f32 0xFF800000#32

/-- The table: chunk `c` of the queries has its window at `64 c`. -/
def table (x : Vec Ideal S8x64x576 .f32) : Vec Ideal S8x512x1024 .f32 :=
  concatenate S8x512x1024 1
    [⟨S8x64x1024, pad S8x64x1024 ![0, 0, 0] ![0, 0, 448] ![0, 0, 0] x outside pads_S8x64x576_S8x64x1024_000_000_04480 h_S_⟩,
      ⟨S8x64x1024, pad S8x64x1024 ![0, 0, 64] ![0, 0, 384] ![0, 0, 0] x outside pads_S8x64x576_S8x64x1024_000_000_643840 h_S_⟩,
      ⟨S8x64x1024, pad S8x64x1024 ![0, 0, 128] ![0, 0, 320] ![0, 0, 0] x outside pads_S8x64x576_S8x64x1024_000_000_1283200 h_S_⟩,
      ⟨S8x64x1024, pad S8x64x1024 ![0, 0, 192] ![0, 0, 256] ![0, 0, 0] x outside pads_S8x64x576_S8x64x1024_000_000_1922560 h_S_⟩,
      ⟨S8x64x1024, pad S8x64x1024 ![0, 0, 256] ![0, 0, 192] ![0, 0, 0] x outside pads_S8x64x576_S8x64x1024_000_000_2561920 h_S_⟩,
      ⟨S8x64x1024, pad S8x64x1024 ![0, 0, 320] ![0, 0, 128] ![0, 0, 0] x outside pads_S8x64x576_S8x64x1024_000_000_3201280 h_S_⟩,
      ⟨S8x64x1024, pad S8x64x1024 ![0, 0, 384] ![0, 0, 64] ![0, 0, 0] x outside pads_S8x64x576_S8x64x1024_000_000_384640 h_S_⟩,
      ⟨S8x64x1024, pad S8x64x1024 ![0, 0, 448] ![0, 0, 0] ![0, 0, 0] x outside pads_S8x64x576_S8x64x1024_000_000_44800 h_S_⟩]
    concatenates_S8x64x1024_S8x64x1024_S8x64x1024_S8x64x1024_S8x64x1024_S8x64x1024_S8x64x1024_S8x64x1024_S8x512x1024_d1

/-- The operations that lay out the band, and those that place it. -/
abbrev bandOps : List (HloOp τ sig (Elt Ideal)) := List.flatten [hostOps0, hostOps0_1, hostOps0_2]
abbrev padOps : List (HloOp τ sig (Elt Ideal)) :=
  List.flatten [hostOps0_3, hostOps0_4, hostOps0_5, hostOps0_6, hostOps0_7, hostOps0_8, hostOps0_9, hostOps0_10, hostOps0_11,
    hostOps0_12, hostOps0_13, hostOps0_14, hostOps0_15, hostOps0_16, hostOps0_17]

theorem after_band (W : Valuation τ sig (Elt Ideal)) :
    StableHlo.after bandOps W (Proc.devRef .tc main_v25) = band (W (Proc.devRef .tc main_arg1)) := by
  simp only [hostOps0, hostOps0_1, hostOps0_2, List.flatten_cons, List.flatten_nil, List.append_nil, List.cons_append,
    List.nil_append, StableHlo.TRef.binary, StableHlo.TRef.ternary, StableHlo.TRef.unary, StableHlo.TRef.toBuf,
    StableHlo.TRef.ofBuf, cast_eq]
  after_results_simp
  show beside _ _ = _
  after_results_simp
  rfl

/-- The pads leave each its rows. -/
theorem after_pads (W : Valuation τ sig (Elt Ideal)) (x : Vec Ideal S8x64x576 .f32)
    (hx : W (Proc.devRef .tc main_v25) = x) (hc : W (Proc.devRef .tc main_cst) = outside) :
    StableHlo.after padOps W (Proc.devRef .tc main_v26)
        = pad S8x64x1024 ![0, 0, 0] ![0, 0, 448] ![0, 0, 0] x outside pads_S8x64x576_S8x64x1024_000_000_04480 h_S_ ∧
      StableHlo.after padOps W (Proc.devRef .tc main_v27)
        = pad S8x64x1024 ![0, 0, 64] ![0, 0, 384] ![0, 0, 0] x outside pads_S8x64x576_S8x64x1024_000_000_643840 h_S_ ∧
      StableHlo.after padOps W (Proc.devRef .tc main_v28)
        = pad S8x64x1024 ![0, 0, 128] ![0, 0, 320] ![0, 0, 0] x outside pads_S8x64x576_S8x64x1024_000_000_1283200 h_S_ ∧
      StableHlo.after padOps W (Proc.devRef .tc main_v29)
        = pad S8x64x1024 ![0, 0, 192] ![0, 0, 256] ![0, 0, 0] x outside pads_S8x64x576_S8x64x1024_000_000_1922560 h_S_ ∧
      StableHlo.after padOps W (Proc.devRef .tc main_v30)
        = pad S8x64x1024 ![0, 0, 256] ![0, 0, 192] ![0, 0, 0] x outside pads_S8x64x576_S8x64x1024_000_000_2561920 h_S_ ∧
      StableHlo.after padOps W (Proc.devRef .tc main_v31)
        = pad S8x64x1024 ![0, 0, 320] ![0, 0, 128] ![0, 0, 0] x outside pads_S8x64x576_S8x64x1024_000_000_3201280 h_S_ ∧
      StableHlo.after padOps W (Proc.devRef .tc main_v32)
        = pad S8x64x1024 ![0, 0, 384] ![0, 0, 64] ![0, 0, 0] x outside pads_S8x64x576_S8x64x1024_000_000_384640 h_S_ ∧
      StableHlo.after padOps W (Proc.devRef .tc main_v33)
        = pad S8x64x1024 ![0, 0, 448] ![0, 0, 0] ![0, 0, 0] x outside pads_S8x64x576_S8x64x1024_000_000_44800 h_S_ := by
  subst hx
  simp only [hostOps0_3, hostOps0_4, hostOps0_5, hostOps0_6, hostOps0_7, hostOps0_8, hostOps0_9, hostOps0_10, hostOps0_11,
    hostOps0_12, hostOps0_13, hostOps0_14, hostOps0_15, hostOps0_16, hostOps0_17, List.flatten_cons, List.flatten_nil,
    List.append_nil, List.cons_append, List.nil_append, StableHlo.TRef.binary, StableHlo.TRef.ternary, StableHlo.TRef.unary,
    StableHlo.TRef.toBuf, StableHlo.TRef.ofBuf, cast_eq]
  refine ⟨?_, ?_, ?_, ?_, ?_, ?_, ?_, ?_⟩ <;> after_results_simp
  · rw [hc]; rfl
  all_goals rfl

/-- Eight groups of rows, one below the other. -/
def joined (a b c d e f g h : Vec Ideal S8x64x1024 .f32) : Vec Ideal S8x512x1024 .f32 :=
  concatenate S8x512x1024 1 [⟨S8x64x1024, a⟩, ⟨S8x64x1024, b⟩, ⟨S8x64x1024, c⟩, ⟨S8x64x1024, d⟩, ⟨S8x64x1024, e⟩,
    ⟨S8x64x1024, f⟩, ⟨S8x64x1024, g⟩, ⟨S8x64x1024, h⟩]
    concatenates_S8x64x1024_S8x64x1024_S8x64x1024_S8x64x1024_S8x64x1024_S8x64x1024_S8x64x1024_S8x64x1024_S8x512x1024_d1

theorem after_join (W : Valuation τ sig (Elt Ideal)) :
    StableHlo.after hostOps0_18 W (Proc.devRef .tc main_v34)
      = joined (W (Proc.devRef .tc main_v26)) (W (Proc.devRef .tc main_v27)) (W (Proc.devRef .tc main_v28))
          (W (Proc.devRef .tc main_v29)) (W (Proc.devRef .tc main_v30)) (W (Proc.devRef .tc main_v31))
          (W (Proc.devRef .tc main_v32)) (W (Proc.devRef .tc main_v33)) := by
  simp only [hostOps0_18]
  after_results_simp
  rfl

/-- The region finds the table in its buffer. -/
theorem V_table (m : (ℓ : Loc nD τ sig) → Buf (Elt Ideal) ℓ) (c : Dev nD) :
    V m c main_v34 = table (band (m ((c : Thread nD τ).loc main_arg1))) := by
  have e : V m c main_v34 = StableHlo.after hostOps0_18 (StableHlo.after padOps (StableHlo.after bandOps fun b => m (c, b)))
      (Proc.devRef .tc main_v34) := by
    rw [← StableHlo.after_append, ← StableHlo.after_append]
    rfl
  rw [e, after_join]
  obtain ⟨h1, h2, h3, h4, h5, h6, h7, h8⟩ := after_pads (StableHlo.after bandOps fun b => m (c, b)) _ (after_band _) (by
    simp only [hostOps0, hostOps0_1, hostOps0_2, List.flatten_cons, List.flatten_nil, List.append_nil, List.cons_append,
      List.nil_append, StableHlo.TRef.binary, StableHlo.TRef.ternary, StableHlo.TRef.unary, StableHlo.TRef.toBuf,
      StableHlo.TRef.ofBuf, cast_eq]
    after_results_simp
    rfl)
  rw [h1, h2, h3, h4, h5, h6, h7, h8]
  rfl

theorem outside_apply (i : S_.Idx) : outside i = ⊥ := by
  show Ideal.ofBits .f32 0xFF800000#32 = ⊥
  simp [Ideal.ofBits, Ideal.ieee]

theorem wrapped_apply (r : Fin 64) (j : Fin 192) :
    (wrapped (ix3 r j 0)).toInt.toNat = min (r.val + 256 - j.val) 256 := by
  pointwise [wrapped, pos, dist]
  revert r j
  decide +kernel

theorem band_apply (rel : Vec Ideal S8x257 .f32) (h : Fin 8) (r : Fin 64) (n : Fin 576) :
    band rel (ix3 h r n) = rel (ix2 h ⟨min (r.val + 640 - n.val) 256, by omega⟩) := by
  have hn := n.isLt
  pointwise [band, beside]
  split
  · refine congrArg (fun a => rel (ix2 h a)) (Fin.ext ?_)
    refine (show (256 : Fin 257).val = 256 by decide).trans ?_
    dsimp only
    omega
  · refine (Gather.cols_apply gather_S8x257_S64x192x1_S8x64x192_0_1_n_n_1_2_81_wf _ _ _ _ _).trans ?_
    refine congrArg (fun a => rel (ix2 h a)) (Fin.ext ?_)
    dsimp only
    rw [wrapped_apply]
    dsimp only
    omega

/-- A row of the joined array is a row of its group. -/
theorem joined_apply (f : Fin 8 → Vec Ideal S8x64x1024 .f32) (h : Fin 8) (r : Fin 512) (J : Fin 1024) :
    joined (f 0) (f 1) (f 2) (f 3) (f 4) (f 5) (f 6) (f 7) (ix3 h r J)
      = f ⟨r.val / 64, by omega⟩ (ix3 h ⟨r.val % 64, by omega⟩ J) :=
  concatenate_ofFn_apply (t := S8x512x1024) (s₁ := S8x64x1024) 1 f
    concatenates_S8x64x1024_S8x64x1024_S8x64x1024_S8x64x1024_S8x64x1024_S8x64x1024_S8x64x1024_S8x64x1024_S8x512x1024_d1
    rfl 64 rfl (ix3 h r J) ⟨r.val / 64, by omega⟩ rfl (ix3 h ⟨r.val % 64, by omega⟩ J) rfl
    (fun b hb => match b, hb with
      | ⟨0, _⟩, _ => rfl
      | ⟨1, _⟩, hb => absurd rfl hb
      | ⟨2, _⟩, _ => rfl)

/-- One group: the band placed at `64 k`. -/
theorem placed_apply (x : Vec Ideal S8x64x576 .f32) (hi : Fin 3 → ℕ) (k : ℕ) (hk : 64 * k < 1024)
    (hp : S8x64x576.Pads ![0, 0, 64 * k] hi ![0, 0, 0] S8x64x1024) (h : Fin 8) (i : Fin 64) (J : Fin 1024) :
    pad S8x64x1024 ![0, 0, 64 * k] hi ![0, 0, 0] x outside hp h_S_ (ix3 h i J)
      = if hJ : 64 * k ≤ J.val ∧ J.val < 64 * k + 576 then x (ix3 h i ⟨J.val - 64 * k, by omega⟩) else ⊥ := by
  by_cases hJ : 64 * k ≤ J.val ∧ J.val < 64 * k + 576
  · rw [dif_pos hJ]
    refine pad_apply_of_inside _ _ _ x outside hp h_S_ (ix3 h i J) (ix3 h i ⟨J.val - 64 * k, by omega⟩) fun a => ?_
    match a with
    | ⟨0, _⟩ => show h.val = 0 + h.val * 1; omega
    | ⟨1, _⟩ => show i.val = 0 + i.val * 1; omega
    | ⟨2, _⟩ => show J.val = 64 * k + (J.val - 64 * k) * 1; omega
  · rw [dif_neg hJ]
    refine (pad_apply_of_not_inside _ _ _ x outside hp h_S_ (ix3 h i J) (2 : Fin 3) fun hc => hJ ?_).trans (outside_apply _)
    have hc' : 64 * k ≤ J.val ∧ (J.val - 64 * k) % 1 = 0 ∧ (J.val - 64 * k) / 1 < 576 := hc
    omega

/-- The eight groups. -/
def group (x : Vec Ideal S8x64x576 .f32) : Fin 8 → Vec Ideal S8x64x1024 .f32 :=
  ![pad S8x64x1024 ![0, 0, 0] ![0, 0, 448] ![0, 0, 0] x outside pads_S8x64x576_S8x64x1024_000_000_04480 h_S_,
    pad S8x64x1024 ![0, 0, 64] ![0, 0, 384] ![0, 0, 0] x outside pads_S8x64x576_S8x64x1024_000_000_643840 h_S_,
    pad S8x64x1024 ![0, 0, 128] ![0, 0, 320] ![0, 0, 0] x outside pads_S8x64x576_S8x64x1024_000_000_1283200 h_S_,
    pad S8x64x1024 ![0, 0, 192] ![0, 0, 256] ![0, 0, 0] x outside pads_S8x64x576_S8x64x1024_000_000_1922560 h_S_,
    pad S8x64x1024 ![0, 0, 256] ![0, 0, 192] ![0, 0, 0] x outside pads_S8x64x576_S8x64x1024_000_000_2561920 h_S_,
    pad S8x64x1024 ![0, 0, 320] ![0, 0, 128] ![0, 0, 0] x outside pads_S8x64x576_S8x64x1024_000_000_3201280 h_S_,
    pad S8x64x1024 ![0, 0, 384] ![0, 0, 64] ![0, 0, 0] x outside pads_S8x64x576_S8x64x1024_000_000_384640 h_S_,
    pad S8x64x1024 ![0, 0, 448] ![0, 0, 0] ![0, 0, 0] x outside pads_S8x64x576_S8x64x1024_000_000_44800 h_S_]

theorem group_apply (x : Vec Ideal S8x64x576 .f32) (k : Fin 8) (h : Fin 8) (i : Fin 64) (J : Fin 1024) :
    group x k (ix3 h i J)
      = if hJ : 64 * k.val ≤ J.val ∧ J.val < 64 * k.val + 576 then x (ix3 h i ⟨J.val - 64 * k.val, by omega⟩) else ⊥ := by
  match k with
  | ⟨0, _⟩ => exact placed_apply x ![0, 0, 448] 0 (by omega) pads_S8x64x576_S8x64x1024_000_000_04480 h i J
  | ⟨1, _⟩ => exact placed_apply x ![0, 0, 384] 1 (by omega) pads_S8x64x576_S8x64x1024_000_000_643840 h i J
  | ⟨2, _⟩ => exact placed_apply x ![0, 0, 320] 2 (by omega) pads_S8x64x576_S8x64x1024_000_000_1283200 h i J
  | ⟨3, _⟩ => exact placed_apply x ![0, 0, 256] 3 (by omega) pads_S8x64x576_S8x64x1024_000_000_1922560 h i J
  | ⟨4, _⟩ => exact placed_apply x ![0, 0, 192] 4 (by omega) pads_S8x64x576_S8x64x1024_000_000_2561920 h i J
  | ⟨5, _⟩ => exact placed_apply x ![0, 0, 128] 5 (by omega) pads_S8x64x576_S8x64x1024_000_000_3201280 h i J
  | ⟨6, _⟩ => exact placed_apply x ![0, 0, 64] 6 (by omega) pads_S8x64x576_S8x64x1024_000_000_384640 h i J
  | ⟨7, _⟩ => exact placed_apply x ![0, 0, 0] 7 (by omega) pads_S8x64x576_S8x64x1024_000_000_44800 h i J

theorem table_apply (x : Vec Ideal S8x64x576 .f32) (h : Fin 8) (r : Fin 512) (J : Fin 1024) :
    table x (ix3 h r J) = if hJ : 64 * (r.val / 64) ≤ J.val ∧ J.val < 64 * (r.val / 64) + 576
      then x (ix3 h ⟨r.val % 64, by omega⟩ ⟨J.val - 64 * (r.val / 64), by omega⟩) else ⊥ :=
  (joined_apply (group x) h r J).trans (group_apply x _ h _ J)

end Cert.KernelIdeal.Table

end
-- ==== Proof.Target.lean ====
/- The attention of one token and one lane, from the rows of the projections and the table of biases: what both programs
   are shown to compute. -/
module

public import proofs.«01_k».proof.Proof.Soft

@[expose] public section

noncomputable section

namespace Cert.Target

open Idealize.ShloMosaic Cert.Soft

variable (Z : Fin 32768 → Fin 1536 → EReal) (B : Fin 8 → Fin 257 → EReal)

/-- Key `n` of the window of row `R` lies in the row's own sequence: the window starts eight chunks before the row's chunk. -/
abbrev Inside (R : Fin 32768) (n : Fin 576) : Prop := 512 ≤ R.val % 16384 / 64 * 64 + n.val

/-- The row of that key. -/
abbrev key (R : Fin 32768) (n : Fin 576) : Fin 32768 := ⟨R.val / 64 * 64 + n.val - 512, by omega⟩

/-- The scale of the scores. -/
abbrev scale : EReal := Ideal.ofBits .f32 0x3E000000#32

def score (R : Fin 32768) (h : Fin 8) (n : Fin 576) : EReal :=
  if Inside R n then
    (∑ e : Fin 64, Z R ⟨64 * h.val + e.val, by omega⟩ * Z (key R n) ⟨512 + (64 * h.val + e.val), by omega⟩) * scale
      + B h ⟨min (R.val % 64 + 640 - n.val) 256, by omega⟩
  else ⊥

def value (R : Fin 32768) (l : Fin 512) (n : Fin 576) : EReal :=
  if Inside R n then Z (key R n) ⟨1024 + l.val, by omega⟩ else 0

def att (R : Fin 32768) (l : Fin 512) : EReal := softRow (score Z B R ⟨l.val / 64, by omega⟩) (value Z R l)

theorem scale_real : Real' scale := by
  unfold scale Ideal.ofBits Ideal.ieee
  dsimp only
  rw [if_neg (by decide), if_neg (by decide)]
  exact ⟨_, rfl⟩

variable {Z B}

theorem score_real (hZ : ∀ R (k : Fin 1536), k.val < 1024 → Real' (Z R k)) (hB : ∀ h k, Real' (B h k)) (R : Fin 32768) (h : Fin 8)
    (n : Fin 576) (hn : Inside R n) : Real' (score Z B R h n) := by
  rw [score, if_pos hn]
  exact ((Real'.sum _ _ fun e _ => (hZ _ _ (by dsimp only; omega)).mul (hZ _ _ (by dsimp only; omega))).mul scale_real).add (hB _ _)

theorem score_ne_top (hZ : ∀ R (k : Fin 1536), k.val < 1024 → Real' (Z R k)) (hB : ∀ h k, Real' (B h k)) (R : Fin 32768) (h : Fin 8)
    (n : Fin 576) : score Z B R h n ≠ ⊤ := by
  by_cases hn : Inside R n
  · exact (score_real hZ hB R h n hn).ne_top
  · rw [score, if_neg hn]; exact bot_ne_top

end Cert.Target

end
-- ==== Proof.Blocks.lean ====
/- What the attention kernel's run leaves in its result, row by row, from the argument arrays. -/
module

public import proofs.«01_k».proof.Proof.Head
public import proofs.«01_k».proof.Proof.Table
public import proofs.«01_k».proof.Proof.Target
public import proofs.«01_k».proof.Proof.Gen.KernelIdeal.Value
public import Idealize.ShloMosaic.Lib.Pipeline.Value
public import Idealize.ShloMosaic.Lib.Claim
public import Idealize.ShloMosaic.Lib.Pipeline.ValueKit.Point

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window stands at each grid point. -/
theorem idx : ∀ t : Fin grid0.N,
    win0_0.index t = ![t.val, 0] ∧ win0_1.index t = ![t.val / 32 * 32 + (t.val % 32 - 1), 1] ∧ win0_2.index t = ![t.val, 1]
      ∧ win0_3.index t = ![t.val / 32 * 32 + (t.val % 32 - 1), 2] ∧ win0_4.index t = ![t.val, 2]
      ∧ win0_5.index t = ![0, 0, 0] ∧ win0_6.index t = ![t.val, 0]
      ∧ Scalar.cmpi .eq (BitVec.ofNat 32 (grid0.coords t 1).val) 0#32 = (if t.val % 32 = 0 then 1#1 else 0#1) := by
  decide +kernel

/-- The argument arrays. -/
abbrev Z (c : Dev nD) : Vec Ideal S32768x1536 .f32 := m ((c : Thread nD τ).loc main_arg0)
abbrev B (c : Dev nD) : Vec Ideal S8x257 .f32 := m ((c : Thread nD τ).loc main_arg1)

theorem blk0 (c : Dev nD) (t : Fin 64) (r l : Fin 512) :
    iblk m c 0 t (ix2 r l) = Z m c (ix2 ⟨512 * t.val + r.val, by omega⟩ ⟨l.val, by omega⟩) := by
  blk_ext [iblk, V_main_arg0 m c, idx t]

theorem blk1 (c : Dev nD) (t : Fin 64) (r l : Fin 512) :
    iblk m c 1 t (ix2 r l)
      = Z m c (ix2 ⟨512 * (t.val / 32 * 32 + (t.val % 32 - 1)) + r.val, by omega⟩ ⟨512 + l.val, by omega⟩) := by
  blk_ext [iblk, V_main_arg0 m c, idx t]

theorem blk2 (c : Dev nD) (t : Fin 64) (r l : Fin 512) :
    iblk m c 2 t (ix2 r l) = Z m c (ix2 ⟨512 * t.val + r.val, by omega⟩ ⟨512 + l.val, by omega⟩) := by
  blk_ext [iblk, V_main_arg0 m c, idx t]

theorem blk3 (c : Dev nD) (t : Fin 64) (r l : Fin 512) :
    iblk m c 3 t (ix2 r l)
      = Z m c (ix2 ⟨512 * (t.val / 32 * 32 + (t.val % 32 - 1)) + r.val, by omega⟩ ⟨1024 + l.val, by omega⟩) := by
  blk_ext [iblk, V_main_arg0 m c, idx t]

theorem blk4 (c : Dev nD) (t : Fin 64) (r l : Fin 512) :
    iblk m c 4 t (ix2 r l) = Z m c (ix2 ⟨512 * t.val + r.val, by omega⟩ ⟨1024 + l.val, by omega⟩) := by
  blk_ext [iblk, V_main_arg0 m c, idx t]

theorem blk5 (c : Dev nD) (t : Fin 64) (h : Fin 8) (r : Fin 512) (J : Fin 1024) :
    iblk m c 5 t (ix3 h r J) = Table.table (Table.band (B m c)) (ix3 h r J) := by
  rw [← Table.V_table m c]
  blk_ext [iblk, idx t]

/-- The arrays at an index. -/
abbrev Zf (c : Dev nD) : Fin 32768 → Fin 1536 → EReal := fun R k => Z m c (ix2 R k)
abbrev Bf (c : Dev nD) : Fin 8 → Fin 257 → EReal := fun h k => B m c (ix2 h k)

/-- The table at a row of a block, at an index of the row's window. -/
theorem tbl_in (c : Dev nD) (t : Fin 64) (h : Fin 8) (r : Fin 512) (J : Fin 1024) (n : Fin 576) (hJ : J.val = 64 * (r.val / 64) + n.val) :
    iblk m c 5 t (ix3 h r J) = Bf m c h ⟨min (r.val % 64 + 640 - n.val) 256, by omega⟩ := by
  rw [blk5, Table.table_apply, dif_pos (by omega), Table.band_apply]
  refine congrArg (fun a => B m c (ix2 h a)) (Fin.ext ?_)
  dsimp only
  omega

theorem tbl_out (c : Dev nD) (t : Fin 64) (h : Fin 8) (r : Fin 512) (J : Fin 1024)
    (hJ : J.val < 64 * (r.val / 64) ∨ 64 * (r.val / 64) + 576 ≤ J.val) : iblk m c 5 t (ix3 h r J) = (⊥ : EReal) := by
  rw [blk5, Table.table_apply, dif_neg (by omega)]

/-- The scores of row `r` of block `t`, over the two blocks of keys: the window's, and `⊥` off it. -/
def wide (c : Dev nD) (t : Fin 64) (h : Fin 8) (r : Fin 512) (J : Fin 1024) : EReal :=
  if hJ : J.val < 512 then
    Scalar.select (if t.val % 32 = 0 then 1#1 else 0#1) ⊥
      (Att.dot (iblk m c 0 t) (iblk m c 1 t) h r ⟨J.val, hJ⟩ + (iblk m c 5 t (ix3 h r J) : EReal))
  else Att.dot (iblk m c 0 t) (iblk m c 2 t) h r ⟨J.val - 512, by omega⟩ + (iblk m c 5 t (ix3 h r J) : EReal)

def wideValue (c : Dev nD) (t : Fin 64) (l : Fin 512) (J : Fin 1024) : EReal :=
  if hJ : J.val < 512 then iblk m c 3 t (ix2 ⟨J.val, hJ⟩ l) else iblk m c 4 t (ix2 ⟨J.val - 512, by omega⟩ l)

theorem wide_in (c : Dev nD) (t : Fin 64) (h : Fin 8) (r : Fin 512) (n : Fin 576) :
    wide m c t h r ⟨64 * (r.val / 64) + n.val, by omega⟩
      = Target.score (Zf m c) (Bf m c) ⟨512 * t.val + r.val, by omega⟩ h n := by
  have hn := n.isLt
  have hr := r.isLt
  have ht := t.isLt
  unfold wide Target.score
  rw [tbl_in m c t h r ⟨64 * (r.val / 64) + n.val, by omega⟩ n rfl]
  have eB : Bf m c h ⟨min (r.val % 64 + 640 - n.val) 256, by omega⟩
      = Bf m c h ⟨min ((512 * t.val + r.val) % 64 + 640 - n.val) 256, by omega⟩ :=
    congrArg (Bf m c h) (Fin.ext (by dsimp only; omega))
  rw [eB]
  by_cases hJ : 64 * (r.val / 64) + n.val < 512
  · rw [dif_pos hJ]
    by_cases h0 : t.val % 32 = 0
    · rw [if_pos h0, if_neg (by dsimp only [Target.Inside]; omega)]
      rfl
    · rw [if_neg h0, if_pos (by dsimp only [Target.Inside]; omega)]
      show Att.dot _ _ _ _ _ + _ = _
      refine congrArg (· + _) (congrArg (· * _) (Finset.sum_congr rfl fun e _ => ?_))
      rw [blk0, blk1]
      refine congrArg₂ (· * ·) rfl (congrArg₂ (fun a b => Z m c (ix2 a b)) (Fin.ext ?_) (Fin.ext ?_)) <;> dsimp only <;> omega
  · rw [dif_neg hJ, if_pos (by dsimp only [Target.Inside]; omega)]
    refine congrArg (· + _) (congrArg (· * _) (Finset.sum_congr rfl fun e _ => ?_))
    rw [blk0, blk2]
    refine congrArg₂ (· * ·) rfl (congrArg₂ (fun a b => Z m c (ix2 a b)) (Fin.ext ?_) (Fin.ext ?_)) <;> dsimp only <;> omega

theorem wideValue_in (c : Dev nD) (t : Fin 64) (l r : Fin 512) (n : Fin 576)
    (hi : Target.Inside ⟨512 * t.val + r.val, by omega⟩ n) :
    wideValue m c t l ⟨64 * (r.val / 64) + n.val, by omega⟩
      = Target.value (Zf m c) ⟨512 * t.val + r.val, by omega⟩ l n := by
  have hn := n.isLt
  have hr := r.isLt
  have ht := t.isLt
  unfold wideValue Target.value
  rw [if_pos hi]
  dsimp only [Target.Inside] at hi
  by_cases hJ : 64 * (r.val / 64) + n.val < 512
  · rw [dif_pos hJ, blk3]
    refine congrArg₂ (fun a b => Z m c (ix2 a b)) (Fin.ext ?_) (Fin.ext ?_) <;> dsimp only <;> omega
  · rw [dif_neg hJ, blk4]
    refine congrArg₂ (fun a b => Z m c (ix2 a b)) (Fin.ext ?_) (Fin.ext ?_) <;> dsimp only <;> omega

theorem wide_out (c : Dev nD) (t : Fin 64) (h : Fin 8) (r : Fin 512) (J : Fin 1024)
    (hJ : J.val < 64 * (r.val / 64) ∨ 64 * (r.val / 64) + 576 ≤ J.val) : wide m c t h r J = ⊥ := by
  unfold wide
  rw [tbl_out m c t h r J hJ]
  split
  · split
    · rfl
    · exact EReal.add_bot _
  · exact EReal.add_bot _

/-- The kernel's row is over the two halves of the wide row. -/
theorem block_eq (c : Dev nD) (t : Fin 64) (r l : Fin 512) :
    Att.block (if t.val % 32 = 0 then 1#1 else 0#1) (iblk m c 0 t) (iblk m c 1 t) (iblk m c 2 t) (iblk m c 3 t) (iblk m c 4 t)
        (iblk m c 5 t) r l
      = Soft.row (fun j : Fin 512 => wide m c t ⟨l.val / 64, by omega⟩ r ⟨j.val, by omega⟩)
          (fun j : Fin 512 => wide m c t ⟨l.val / 64, by omega⟩ r ⟨512 + j.val, by omega⟩)
          (fun j : Fin 512 => wideValue m c t l ⟨j.val, by omega⟩) (fun j : Fin 512 => wideValue m c t l ⟨512 + j.val, by omega⟩) := by
  unfold Att.block wide wideValue
  have e : ∀ j : Fin 512, (⟨512 + j.val - 512, by omega⟩ : Fin 512) = j := fun j => Fin.ext (by dsimp only; omega)
  have n : ∀ j : Fin 512, ¬ 512 + j.val < 512 := fun j => by omega
  simp only [Fin.is_lt, dif_pos, dif_neg, n, e, not_false_eq_true]

variable (hZ : ∀ c R (k : Fin 1536), k.val < 1024 → Soft.Real' (Zf m c R k)) (hB : ∀ c h k, Soft.Real' (Bf m c h k))

include hZ hB in
theorem block_att (c : Dev nD) (t : Fin 64) (r l : Fin 512) :
    Att.block (if t.val % 32 = 0 then 1#1 else 0#1) (iblk m c 0 t) (iblk m c 1 t) (iblk m c 2 t) (iblk m c 3 t) (iblk m c 4 t)
        (iblk m c 5 t) r l
      = Target.att (Zf m c) (Bf m c) ⟨512 * t.val + r.val, by omega⟩ l := by
  rw [block_eq]
  refine Soft.row_eq _ _ _ _ (64 * (r.val / 64)) (by omega) (wide_in m c t _ r) (fun n hn => wideValue_in m c t l r n ?_)
    (fun J hJ => wide_out m c t _ r J hJ) (fun n => Target.score_ne_top (hZ c) (hB c) _ _ n) ⟨512, by omega⟩
    (Target.score_real (hZ c) (hB c) _ _ _ ?_).ne_bot
  · by_contra hc
    exact hn (by rw [Target.score, if_neg hc])
  · dsimp only [Target.Inside]; omega

/-- The result array. -/
def out (c : Dev nD) : Vec Ideal S32768x512 .f32 := fun i => Target.att (Zf m c) (Bf m c) (i 0) (i 1)

include hZ hB in
theorem arr (c : Dev nD) : (dats m 0 c).arrAt 6 (cfgs 0).N = out m c := by
  refine (dats m 0 c).arrAt_eq_of_covers 6 _ (by decide +kernel) fun t hf y => ?_
  blk_simp
  rw [after0_6]
  have hy : y = ix2 (n0 := 512) (n1 := 512) (y 0) (y 1) := by
    funext a
    match a with
    | ⟨0, _⟩ => rfl
    | ⟨1, _⟩ => rfl
  obtain ⟨r, hr⟩ : ∃ r : Fin 512, r = y 0 := ⟨_, rfl⟩
  obtain ⟨l, hl⟩ : ∃ l : Fin 512, l = y 1 := ⟨_, rfl⟩
  rw [hy, ← hr, ← hl]
  refine (Att.out_apply _ _ _ _ _ _ _ r l).trans ?_
  rw [(idx t).2.2.2.2.2.2.2]
  refine (block_att m hZ hB c t r l).trans ?_
  refine congrArg₂ (Target.att _ _) (Fin.ext ?_) (Fin.ext ?_)
  · blk_simp [(idx t).2.2.2.2.2.2.1]
    dsimp only
    omega
  · blk_simp [(idx t).2.2.2.2.2.2.1]

end Cert.KernelIdeal.Blocks

end
-- ==== Proof.Ref.lean ====
/- The attention's reference read at an index. -/
module

public import proofs.«01_k».proof.Proof.Target
public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe
  Idealize.SL.Sem

variable (x0 : Vec Ideal S32768x1536 .f32) (x1 : Vec Ideal S8x257 .f32)

theorem read_eq (x : Vec Ideal S32768x1536 .f32) {R R' : Fin 32768} {k k' : Fin 1536} (hR : R.val = R'.val) (hk : k.val = k'.val) :
    x (ix2 R k) = x (ix2 R' k') := by rw [Fin.ext hR, Fin.ext hk]

theorem q_apply (b : Fin 2) (c : Fin 256) (i : Fin 64) (h : Fin 8) (e : Fin 64) :
    val_main_v7 (F := Ideal) x0 (ix5 b c i h e)
      = x0 (ix2 ⟨b.val * 16384 + c.val * 64 + i.val, by omega⟩ ⟨64 * h.val + e.val, by omega⟩) := by
  pointwise [val_main_v7, val_main_v4, val_main_v1, val_main_v0]
  exact read_eq _ (by dsimp only; omega) (by dsimp only; omega)

theorem k_apply (b : Fin 2) (c : Fin 256) (i : Fin 64) (h : Fin 8) (e : Fin 64) :
    val_main_v8 (F := Ideal) x0 (ix5 b c i h e)
      = x0 (ix2 ⟨b.val * 16384 + c.val * 64 + i.val, by omega⟩ ⟨512 + (64 * h.val + e.val), by omega⟩) := by
  pointwise [val_main_v8, val_main_v5, val_main_v2, val_main_v0]
  exact read_eq _ (by dsimp only; omega) (by dsimp only; omega)

theorem v_apply (b : Fin 2) (c : Fin 256) (i : Fin 64) (h : Fin 8) (e : Fin 64) :
    val_main_v10 (F := Ideal) x0 (ix5 b c i h e)
      = x0 (ix2 ⟨b.val * 16384 + c.val * 64 + i.val, by omega⟩ ⟨1024 + (64 * h.val + e.val), by omega⟩) := by
  pointwise [val_main_v10, val_main_v6, val_main_v3, val_main_v0]
  exact read_eq _ (by dsimp only; omega) (by dsimp only; omega)

/-- The keys' windows, from the padded keys. -/
theorem window_apply (f : Fin 9 → Vec Ideal S2x256x64x8x64 .f32) (b : Fin 2) (c : Fin 256) (n : Fin 576) (h : Fin 8) (e : Fin 64) :
    concatenate S2x256x576x8x64 2 (List.ofFn fun o => (⟨S2x256x64x8x64, f o⟩ : (s : Shape) × (s.Idx → Ideal .f32)))
        concatenates_S2x256x64x8x64_S2x256x64x8x64_S2x256x64x8x64_S2x256x64x8x64_S2x256x64x8x64_S2x256x64x8x64_S2x256x64x8x64_S2x256x64x8x64_S2x256x64x8x64_S2x256x576x8x64_d2 (ix5 b c n h e)
      = f ⟨n.val / 64, by omega⟩ (ix5 b c ⟨n.val % 64, by omega⟩ h e) :=
  concatenate_ofFn_apply (t := S2x256x576x8x64) (s₁ := S2x256x64x8x64) 2 f _ rfl 64 rfl _ ⟨n.val / 64, by omega⟩ rfl
    (ix5 b c ⟨n.val % 64, by omega⟩ h e) rfl
    (fun b hb => match b, hb with
      | ⟨0, _⟩, _ => rfl
      | ⟨1, _⟩, _ => rfl
      | ⟨2, _⟩, hb => absurd rfl hb
      | ⟨3, _⟩, _ => rfl
      | ⟨4, _⟩, _ => rfl)

/-- Chunk `c + o` of eight chunks of a filling put before `x`. -/
theorem padded_apply (x : Vec Ideal S2x256x64x8x64 .f32) (z : Vec Ideal S_ .f32) (hz : ∀ i, z i = 0) (b : Fin 2) (c : Fin 264) (j : Fin 64)
    (h : Fin 8) (e : Fin 64) :
    pad S2x264x64x8x64 ![0, 8, 0, 0, 0] ![0, 0, 0, 0, 0] ![0, 0, 0, 0, 0] x z
        pads_S2x256x64x8x64_S2x264x64x8x64_000_800_000_000_000 h_S_ (ix5 b c j h e)
      = if hc : 8 ≤ c.val then x (ix5 b ⟨c.val - 8, by omega⟩ j h e) else 0 := by
  by_cases hc : 8 ≤ c.val
  · rw [dif_pos hc]
    refine pad_apply_of_inside _ _ _ x z _ h_S_ (ix5 b c j h e) (ix5 b ⟨c.val - 8, by omega⟩ j h e) fun a => ?_
    match a with
    | ⟨0, _⟩ => show b.val = 0 + b.val * 1; omega
    | ⟨1, _⟩ => show c.val = 8 + (c.val - 8) * 1; omega
    | ⟨2, _⟩ => show j.val = 0 + j.val * 1; omega
    | ⟨3, _⟩ => show h.val = 0 + h.val * 1; omega
    | ⟨4, _⟩ => show e.val = 0 + e.val * 1; omega
  · rw [dif_neg hc]
    refine (pad_apply_of_not_inside _ _ _ x z _ h_S_ (ix5 b c j h e) (1 : Fin 5) fun hc' => hc ?_).trans (hz _)
    exact hc'.1

theorem zero0 (i : S_.Idx) : val_main_call0_v0 (F := Ideal) i = 0 := by
  pointwise [val_main_call0_v0, val_main_c]
  show (((0#32).toInt : ℝ) : EReal) = 0
  simp

theorem zero1 (i : S_.Idx) : val_main_call1_v0 (F := Ideal) i = 0 := by
  pointwise [val_main_call1_v0, val_main_c_0]
  show (((0#32).toInt : ℝ) : EReal) = 0
  simp

/-- The nine chunks of the padded keys. -/
def kparts : Fin 9 → Vec Ideal S2x256x64x8x64 .f32 :=
  ![val_main_v12 x0, val_main_v13 x0, val_main_v14 x0, val_main_v15 x0, val_main_v16 x0, val_main_v17 x0, val_main_v18 x0,
    val_main_v19 x0, val_main_v20 x0]

/-- The nine chunks of the padded values. -/
def vparts : Fin 9 → Vec Ideal S2x256x64x8x64 .f32 :=
  ![val_main_v22 x0, val_main_v23 x0, val_main_v24 x0, val_main_v25 x0, val_main_v26 x0, val_main_v27 x0, val_main_v28 x0,
    val_main_v29 x0, val_main_v30 x0]

/-- The chunks from the `o`-th one on. -/
theorem chunk_apply (y : Vec Ideal S2x264x64x8x64 .f32) (o : ℕ) (ho : o < 9)
    (hs : S2x264x64x8x64.Slices ![0, o, 0, 0, 0] S2x256x64x8x64) (b : Fin 2) (c : Fin 256) (j : Fin 64) (h : Fin 8) (e : Fin 64) :
    extractStridedSlice S2x256x64x8x64 ![0, o, 0, 0, 0] y hs (ix5 b c j h e) = y (ix5 b ⟨c.val + o, by omega⟩ j h e) := by
  unfold extractStridedSlice
  congr 1
  funext a
  refine Fin.ext ?_
  match a with
  | ⟨0, _⟩ => show 0 + b.val = b.val; omega
  | ⟨1, _⟩ => show o + c.val = c.val + o; omega
  | ⟨2, _⟩ => show 0 + j.val = j.val; omega
  | ⟨3, _⟩ => show 0 + h.val = h.val; omega
  | ⟨4, _⟩ => show 0 + e.val = e.val; omega

theorem kparts_apply (o : Fin 9) (b : Fin 2) (c : Fin 256) (j : Fin 64) (h : Fin 8) (e : Fin 64) :
    kparts x0 o (ix5 b c j h e) = val_main_v9 x0 (ix5 b ⟨c.val + o.val, by omega⟩ j h e) := by
  match o with
  | ⟨0, _⟩ => exact chunk_apply (val_main_v9 x0) 0 (by omega) slices_S2x264x64x8x64_S2x256x64x8x64_0_0_0_0_0 b c j h e
  | ⟨1, _⟩ => exact chunk_apply (val_main_v9 x0) 1 (by omega) slices_S2x264x64x8x64_S2x256x64x8x64_0_1_0_0_0 b c j h e
  | ⟨2, _⟩ => exact chunk_apply (val_main_v9 x0) 2 (by omega) slices_S2x264x64x8x64_S2x256x64x8x64_0_2_0_0_0 b c j h e
  | ⟨3, _⟩ => exact chunk_apply (val_main_v9 x0) 3 (by omega) slices_S2x264x64x8x64_S2x256x64x8x64_0_3_0_0_0 b c j h e
  | ⟨4, _⟩ => exact chunk_apply (val_main_v9 x0) 4 (by omega) slices_S2x264x64x8x64_S2x256x64x8x64_0_4_0_0_0 b c j h e
  | ⟨5, _⟩ => exact chunk_apply (val_main_v9 x0) 5 (by omega) slices_S2x264x64x8x64_S2x256x64x8x64_0_5_0_0_0 b c j h e
  | ⟨6, _⟩ => exact chunk_apply (val_main_v9 x0) 6 (by omega) slices_S2x264x64x8x64_S2x256x64x8x64_0_6_0_0_0 b c j h e
  | ⟨7, _⟩ => exact chunk_apply (val_main_v9 x0) 7 (by omega) slices_S2x264x64x8x64_S2x256x64x8x64_0_7_0_0_0 b c j h e
  | ⟨8, _⟩ => exact chunk_apply (val_main_v9 x0) 8 (by omega) slices_S2x264x64x8x64_S2x256x64x8x64_0_8_0_0_0 b c j h e

theorem vparts_apply (o : Fin 9) (b : Fin 2) (c : Fin 256) (j : Fin 64) (h : Fin 8) (e : Fin 64) :
    vparts x0 o (ix5 b c j h e) = val_main_v11 x0 (ix5 b ⟨c.val + o.val, by omega⟩ j h e) := by
  match o with
  | ⟨0, _⟩ => exact chunk_apply (val_main_v11 x0) 0 (by omega) slices_S2x264x64x8x64_S2x256x64x8x64_0_0_0_0_0 b c j h e
  | ⟨1, _⟩ => exact chunk_apply (val_main_v11 x0) 1 (by omega) slices_S2x264x64x8x64_S2x256x64x8x64_0_1_0_0_0 b c j h e
  | ⟨2, _⟩ => exact chunk_apply (val_main_v11 x0) 2 (by omega) slices_S2x264x64x8x64_S2x256x64x8x64_0_2_0_0_0 b c j h e
  | ⟨3, _⟩ => exact chunk_apply (val_main_v11 x0) 3 (by omega) slices_S2x264x64x8x64_S2x256x64x8x64_0_3_0_0_0 b c j h e
  | ⟨4, _⟩ => exact chunk_apply (val_main_v11 x0) 4 (by omega) slices_S2x264x64x8x64_S2x256x64x8x64_0_4_0_0_0 b c j h e
  | ⟨5, _⟩ => exact chunk_apply (val_main_v11 x0) 5 (by omega) slices_S2x264x64x8x64_S2x256x64x8x64_0_5_0_0_0 b c j h e
  | ⟨6, _⟩ => exact chunk_apply (val_main_v11 x0) 6 (by omega) slices_S2x264x64x8x64_S2x256x64x8x64_0_6_0_0_0 b c j h e
  | ⟨7, _⟩ => exact chunk_apply (val_main_v11 x0) 7 (by omega) slices_S2x264x64x8x64_S2x256x64x8x64_0_7_0_0_0 b c j h e
  | ⟨8, _⟩ => exact chunk_apply (val_main_v11 x0) 8 (by omega) slices_S2x264x64x8x64_S2x256x64x8x64_0_8_0_0_0 b c j h e

theorem keys_apply (b : Fin 2) (c : Fin 256) (n : Fin 576) (h : Fin 8) (e : Fin 64) :
    val_main_v21 (F := Ideal) x0 (ix5 b c n h e)
      = if hc : 512 ≤ c.val * 64 + n.val then
          x0 (ix2 ⟨b.val * 16384 + (c.val * 64 + n.val - 512), by omega⟩ ⟨512 + (64 * h.val + e.val), by omega⟩)
        else 0 := by
  refine (window_apply (kparts x0) b c n h e).trans ?_
  rw [kparts_apply]
  refine (padded_apply (val_main_v8 x0) _ zero0 _ _ _ _ _).trans ?_
  by_cases hc : 512 ≤ c.val * 64 + n.val
  · rw [dif_pos hc, dif_pos (by dsimp only; omega), k_apply]
    exact read_eq _ (by dsimp only; omega) rfl
  · rw [dif_neg hc, dif_neg (by dsimp only; omega)]

theorem values_apply (b : Fin 2) (c : Fin 256) (n : Fin 576) (h : Fin 8) (e : Fin 64) :
    val_main_v31 (F := Ideal) x0 (ix5 b c n h e)
      = if hc : 512 ≤ c.val * 64 + n.val then
          x0 (ix2 ⟨b.val * 16384 + (c.val * 64 + n.val - 512), by omega⟩ ⟨1024 + (64 * h.val + e.val), by omega⟩)
        else 0 := by
  refine (window_apply (vparts x0) b c n h e).trans ?_
  rw [vparts_apply]
  refine (padded_apply (val_main_v10 x0) _ zero1 _ _ _ _ _).trans ?_
  by_cases hc : 512 ≤ c.val * 64 + n.val
  · rw [dif_pos hc, dif_pos (by dsimp only; omega), v_apply]
    exact read_eq _ (by dsimp only; omega) rfl
  · rw [dif_neg hc, dif_neg (by dsimp only; omega)]

theorem word_apply (i : Fin 64) (o : Fin 9) (j : Fin 64) :
    (val_main_v58 (F := Ideal) (ix4 i o j 0)).toInt.toNat = min (i.val + 640 - (64 * o.val + j.val)) 256 := by
  pointwise [val_main_v58, val_main_v57, val_main_v54, val_main_v56, val_main_v52, val_main_v55, val_main_v53, val_main_v51, val_main_v50,
    val_main_c_3, val_main_c_4, val_main_c_5, val_main_c_6, val_main_c_7, val_main_call2_v0, val_main_call2_v1, val_main_call2_v2,
    val_main_call2_v3, val_main_call2_v4, val_main_v49, val_main_v48, val_main_v47, val_main_v46, val_main_v45, val_main_v44,
    val_main_v43, val_main_v42, val_main_v41, val_main_v40, val_main_v39, val_main_v38, val_main_v37, val_main_v36, val_main_v35,
    val_main_c_1, val_main_c_2]
  revert i o j
  decide +kernel

theorem gather_apply (rel : Vec Ideal S8x257 .f32) (w : IVec S64x9x64x1 32) (h : Fin 8) (i : Fin 64) (o : Fin 9) (j : Fin 64) :
    Host.gather gather_S8x257_S64x9x64x1_S8x64x9x64_0_1_n_n_1_3_81 rel w (ix4 h i o j) = rel (ix2 h ⟨min (w (ix4 i o j 0)).toInt.toNat 256, by omega⟩) := by
  unfold Host.gather
  congr 1
  funext a
  refine Fin.ext ?_
  match a with
  | ⟨0, _⟩ =>
    show GatherDims.start gather_S8x257_S64x9x64x1_S8x64x9x64_0_1_n_n_1_3_81 (ix4 h i o j) w 0 + GatherDims.batchCoord gather_S8x257_S64x9x64x1_S8x64x9x64_0_1_n_n_1_3_81 (ix4 h i o j) 0
      + GatherDims.offCoord gather_S8x257_S64x9x64x1_S8x64x9x64_0_1_n_n_1_3_81 (ix4 h i o j) 0 = h.val
    rw [GatherDims.batchCoord_eq_zero _ _ _ List.not_mem_nil]
    unfold GatherDims.start GatherDims.offCoord
    rw [dif_neg (by decide), dif_pos (by decide)]
    simp only [Nat.zero_add]
    have q : ∀ X ∈ ([0] : List (Fin 4)), (ix4 h i o j X).val = h.val := by
      intro X hX; rw [List.mem_singleton.mp hX]; rfl
    exact q _ (List.getElem_mem _)
  | ⟨1, _⟩ =>
    show GatherDims.start gather_S8x257_S64x9x64x1_S8x64x9x64_0_1_n_n_1_3_81 (ix4 h i o j) w 1 + GatherDims.batchCoord gather_S8x257_S64x9x64x1_S8x64x9x64_0_1_n_n_1_3_81 (ix4 h i o j) 1
      + GatherDims.offCoord gather_S8x257_S64x9x64x1_S8x64x9x64_0_1_n_n_1_3_81 (ix4 h i o j) 1 = min (w (ix4 i o j 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ GatherDims.startIndexMap gather_S8x257_S64x9x64x1_S8x64x9x64_0_1_n_n_1_3_81 from List.mem_singleton.mpr rfl)]
    have hsi : GatherDims.siIdx gather_S8x257_S64x9x64x1_S8x64x9x64_0_1_n_n_1_3_81 (ix4 h i o j)
        ⟨List.idxOf 1 (GatherDims.startIndexMap gather_S8x257_S64x9x64x1_S8x64x9x64_0_1_n_n_1_3_81), List.idxOf_lt_length_iff.2 (List.mem_singleton.mpr rfl)⟩ = ix4 i o j 0 := by
      funext b; refine Fin.ext ?_
      match b with
      | ⟨0, _⟩ => rfl
      | ⟨1, _⟩ => rfl
      | ⟨2, _⟩ => rfl
      | ⟨3, _⟩ => rfl
    rw [hsi]
    rfl

theorem bias_apply (h : Fin 8) (i : Fin 64) (n : Fin 576) :
    val_main_v60 (F := Ideal) x1 (ix3 h i n) = x1 (ix2 h ⟨min (i.val + 640 - n.val) 256, by omega⟩) := by
  pointwise [val_main_v60]
  refine (gather_apply x1 _ _ _ _ _).trans ?_
  refine congrArg (fun a => x1 (ix2 h a)) (Fin.ext ?_)
  dsimp only
  rw [word_apply]
  dsimp only
  omega

theorem valid_apply (c : Fin 256) (n : Fin 576) :
    val_main_v72 (F := Ideal) (ix2 c n) = if 512 ≤ c.val * 64 + n.val then 1#1 else 0#1 := by
  have key : ∀ (c : Fin 256) (o : Fin 9), val_main_v70 (F := Ideal) (ix2 c o) = if 8 ≤ c.val + o.val then 1#1 else 0#1 := by
    intro c o
    pointwise [val_main_v70, val_main_v69, val_main_v68, val_main_v67, val_main_v66, val_main_v65, val_main_v64, val_main_v63,
      val_main_v62, val_main_v61, val_main_c_8, val_main_c_9, val_main_v36]
    revert c o
    decide +kernel
  pointwise [val_main_v72, val_main_v71]
  rw [key]
  refine if_congr ?_ rfl rfl
  dsimp only
  omega

end Cert.ReferenceIdeal.Att

end
-- ==== Proof.RefAtt.lean ====
/- The attention's reference: a softmax row over the window. -/
module

public import proofs.«01_k».proof.Proof.Ref

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe
  Idealize.SL.Sem

variable (x0 : Vec Ideal S32768x1536 .f32) (x1 : Vec Ideal S8x257 .f32)

/-- The row of a batch, a chunk and a place in the chunk. -/
abbrev at' (b : Fin 2) (c : Fin 256) (i : Fin 64) : Fin 32768 := ⟨b.val * 16384 + c.val * 64 + i.val, by omega⟩

/-- The scores of a row, as the reference has them. -/
abbrev scores (b : Fin 2) (h : Fin 8) (c : Fin 256) (i : Fin 64) : Fin 576 → EReal := fun n => val_main_v77 (F := Ideal) x0 x1 (ix5 b h c i n)

theorem scores_eq (b : Fin 2) (h : Fin 8) (c : Fin 256) (i : Fin 64) (n : Fin 576) :
    scores x0 x1 b h c i n = Target.score (fun R k => x0 (ix2 R k)) (fun h k => x1 (ix2 h k)) (at' b c i) h n := by
  have e : scores x0 x1 b h c i n = Scalar.select (val_main_v72 (F := Ideal) (ix2 c n))
      ((∑ x, val_main_v7 x0 (ix5 b c i h x) * val_main_v21 x0 (ix5 b c n h x)) * val_main_cst ix0 + val_main_v60 x1 (ix3 h i n))
      (val_main_call3_v0 (F := Ideal) ix0) := by
    show val_main_v77 (F := Ideal) x0 x1 (ix5 b h c i n) = _
    pointwise [val_main_v77, val_main_v76, val_main_v34, val_main_v33, val_main_v32, val_main_v75, val_main_v74, val_main_call3_v1,
      val_main_call3_v2, val_main_v73]
  rw [e, valid_apply]
  unfold Target.score
  by_cases hn : 512 ≤ c.val * 64 + n.val
  · rw [if_pos hn, if_pos (by show 512 ≤ _; dsimp only; omega)]
    refine (?_ : _ = _)
    rw [bias_apply]
    simp only [q_apply, keys_apply, dif_pos hn]
    show _ + _ = _ + _
    refine congr (congrArg _ (congrArg (· * _) (Finset.sum_congr rfl fun x _ => congr (congrArg _ rfl) ?_))) ?_
    · exact read_eq _ (by dsimp only; omega) rfl
    · refine congrArg (fun a => x1 (ix2 h a)) (Fin.ext ?_)
      dsimp only
      omega
  · rw [if_neg hn, if_neg (by show ¬ 512 ≤ _; dsimp only; omega)]
    show Ideal.ofBits .f32 0xFF800000#32 = ⊥
    simp [Ideal.ofBits, Ideal.ieee]

/-- The largest along the last of five axes, read at an index. -/
theorem largest_apply {n0 n1 n2 n3 n4 : ℕ} (y : Vec Ideal ⟨5, ![n0, n1, n2, n3, n4]⟩ .f32) (z : Vec Ideal S_ .f32)
    (hr : Shape.ReducesTo ⟨5, ![n0, n1, n2, n3, n4]⟩ [4] ⟨4, ![n0, n1, n2, n3]⟩) (hu : 0 < S_.numel) (b : Fin n0) (h : Fin n1) (c : Fin n2)
    (i : Fin n3) :
    Host.reduce (FloatOps.maximumf (F := Ideal) (φ := .f32)) y z hr hu (ix4 b h c i)
      = Finset.univ.fold max (z (Shape.Idx.first hu)) fun n : Fin n4 => y (ix5 b h c i n) := by
  rw [Host.reduce_eq_fold, Shape.ReducesTo.fold_fiber_r5_a4]
  rfl

theorem low_eq (i : S_.Idx) : val_main_cst_11 (F := Ideal) i = ⊥ := by
  show Ideal.ofBits .f32 0xFF800000#32 = ⊥
  simp [Ideal.ofBits, Ideal.ieee]

theorem low_eq' (i : S_.Idx) : val_main_cst_12 (F := Ideal) i = ⊥ := by
  show Ideal.ofBits .f32 0xFF800000#32 = ⊥
  simp [Ideal.ofBits, Ideal.ieee]

theorem most_apply (b : Fin 2) (h : Fin 8) (c : Fin 256) (i : Fin 64) :
    val_main_v78 (F := Ideal) x0 x1 (ix4 b h c i) = Finset.univ.fold max ⊥ (scores x0 x1 b h c i) := by
  rw [← low_eq (Shape.Idx.first h_S_)]
  unfold scores val_main_v78
  generalize val_main_v77 (F := Ideal) x0 x1 = y
  exact largest_apply y _ reducesTo_S2x8x256x64x576_S2x8x256x64_d4 _ b h c i

theorem floor_apply (b : Fin 2) (h : Fin 8) (c : Fin 256) (i : Fin 64) :
    val_main_v80 (F := Ideal) x0 x1 (ix4 b h c i) = max (val_main_cst_12 (F := Ideal) ix0) (val_main_v78 (F := Ideal) x0 x1 (ix4 b h c i)) := by
  rw [val_main_v80_apply, val_main_v79_apply]
  rfl

theorem top_apply (b : Fin 2) (h : Fin 8) (c : Fin 256) (i : Fin 64) :
    val_main_v80 (F := Ideal) x0 x1 (ix4 b h c i) = Finset.univ.fold max ⊥ (scores x0 x1 b h c i) := by
  rw [floor_apply, low_eq', most_apply]
  exact max_eq_right bot_le

theorem exp_apply (b : Fin 2) (h : Fin 8) (c : Fin 256) (i : Fin 64) (n : Fin 576) :
    val_main_v84 (F := Ideal) x0 x1 (ix5 b h c i n)
      = Ideal.exp (scores x0 x1 b h c i n - Finset.univ.fold max ⊥ (scores x0 x1 b h c i)) := by
  rw [← top_apply]
  pointwise [val_main_v84, val_main_v83, val_main_v82, val_main_v81]

theorem weight_apply (b : Fin 2) (h : Fin 8) (c : Fin 256) (i : Fin 64) (n : Fin 576) :
    val_main_v88 (F := Ideal) x0 x1 (ix5 b h c i n)
      = Ideal.div (Ideal.exp (scores x0 x1 b h c i n - Finset.univ.fold max ⊥ (scores x0 x1 b h c i)))
          (∑ k, Ideal.exp (scores x0 x1 b h c i k - Finset.univ.fold max ⊥ (scores x0 x1 b h c i))) := by
  have e : val_main_v88 (F := Ideal) x0 x1 (ix5 b h c i n) = Ideal.div (val_main_v84 (F := Ideal) x0 x1 (ix5 b h c i n))
      (val_main_cst_13 (Shape.Idx.first h_S_) + ∑ k, val_main_v84 (F := Ideal) x0 x1 (ix5 b h c i k)) := by
    pointwise [val_main_v88, val_main_v87, val_main_v86, val_main_v85]
  have h0 : val_main_cst_13 (F := Ideal) (Shape.Idx.first h_S_) = 0 := by
    show Ideal.ofBits .f32 0x00000000#32 = 0
    simp [Ideal.ofBits, Ideal.ieee]
  rw [e, h0, zero_add, exp_apply]
  exact congrArg (Ideal.div _) (Finset.sum_congr rfl fun k _ => exp_apply x0 x1 b h c i k)

/-- The reference at an index. -/
theorem out_apply (R : Fin 32768) (l : Fin 512) :
    val_main_v91 (F := Ideal) x0 x1 (ix2 R l) = Target.att (fun R k => x0 (ix2 R k)) (fun h k => x1 (ix2 h k)) R l := by
  have e : val_main_v91 (F := Ideal) x0 x1 (ix2 R l) = ∑ n,
      val_main_v31 x0 (ix5 ⟨R.val / 16384, by omega⟩ ⟨R.val / 64 % 256, by omega⟩ n ⟨l.val / 64, by omega⟩ ⟨l.val % 64, by omega⟩)
        * val_main_v88 x0 x1 (ix5 ⟨R.val / 16384, by omega⟩ ⟨l.val / 64, by omega⟩ ⟨R.val / 64 % 256, by omega⟩ ⟨R.val % 64, by omega⟩ n) := by
    pointwise [val_main_v91, val_main_v90, val_main_v89]
  have hs : scores x0 x1 ⟨R.val / 16384, by omega⟩ ⟨l.val / 64, by omega⟩ ⟨R.val / 64 % 256, by omega⟩ ⟨R.val % 64, by omega⟩
      = Target.score (fun R k => x0 (ix2 R k)) (fun h k => x1 (ix2 h k)) R ⟨l.val / 64, by omega⟩ := by
    funext n
    rw [scores_eq]
    congr 1
    refine Fin.ext ?_
    dsimp only
    omega
  rw [e]
  unfold Target.att Soft.softRow
  refine Finset.sum_congr rfl fun n _ => ?_
  rw [weight_apply, hs, mul_comm]
  refine congrArg _ ?_
  rw [values_apply]
  unfold Target.value
  by_cases hn : 512 ≤ R.val % 16384 / 64 * 64 + n.val
  · rw [dif_pos (by dsimp only; omega), if_pos hn]
    exact read_eq _ (by dsimp only; omega) (by dsimp only; omega)
  · rw [dif_neg (by dsimp only; omega), if_neg hn]

end Cert.ReferenceIdeal.Att

end
-- ==== Proof.Attention.lean ====
/- The attention's claims. -/
module

public import proofs.«01_k».proof.Defs
public import proofs.«01_k».proof.Proof.Blocks
public import proofs.«01_k».proof.Proof.RefAtt
public import proofs.«01_k».proof.Proof.Gen.ReferenceIdeal.Run
public import proofs.«01_k».proof.Proof.Gen.Pre_finite_scores

@[expose] public section

set_option maxRecDepth 16384

noncomputable section

namespace Cert.Attention

open Idealize.ShloMosaic Idealize.ShloMosaic.TcCoe Idealize.SL.Sem Cert.KernelIdeal

theorem infinity_eq : Ideal.ofBits .f32 0x7F800000#32 = ⊤ := by simp [Ideal.ofBits, Ideal.ieee]

theorem real_of_word {x : EReal} (h : Ideal.cmp .olt (max x (-x)) (Ideal.ofBits .f32 0x7F800000#32) = 1#1) : Soft.Real' x := by
  rw [infinity_eq] at h
  refine Soft.real'_of_abs_lt ?_
  by_contra hn
  revert h
  unfold Ideal.cmp
  simp [hn]

variable {m : (ℓ : Loc nD τ sig) → Buf (Elt Ideal) ℓ}

theorem mask_apply (x : Vec Ideal S32768x1536 .f32) (b : Vec Ideal S8x257 .f32) (R : Fin 32768) (k : Fin 1024) :
    (Cert.Pre_finite_scores.fn (F := Ideal) x b).1 (ix2 R k)
      = Ideal.cmp .olt (max (x (ix2 R ⟨k.val, by omega⟩)) (-x (ix2 R ⟨k.val, by omega⟩))) (Ideal.ofBits .f32 0x7F800000#32) := by
  pointwise [Cert.Pre_finite_scores.fn]
  rfl

theorem row_real (h : Cert.Pre_KernelIdeal_finite_scores m) (c : Dev nD) (R : Fin 32768) (k : Fin 1536) (hk : k.val < 1024) :
    Soft.Real' (Blocks.Zf m c R k) :=
  real_of_word ((mask_apply _ _ R ⟨k.val, hk⟩).symm.trans (congrFun (h c).1 (ix2 R ⟨k.val, hk⟩)))

theorem bias_real (h : Cert.Pre_KernelIdeal_finite_scores m) (c : Dev nD) (g : Fin 8) (k : Fin 257) : Soft.Real' (Blocks.Bf m c g k) :=
  real_of_word (congrFun (h c).2 (ix2 g k))

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scores := by
  intro m ρ m' ρ' hpre hag
  refine ⟨fun c => Blocks.out m c, ?_, ?_⟩
  · exact (θ_run Cert.KernelIdeal.defs _ _).mono
      (fun _ h c => ⟨(h c).1.trans (Blocks.arr m (row_real hpre) (bias_real hpre) c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run m' ρ')
    rw [Cert.ReferenceIdeal.Read.val_main_v91_eq, (hag c).1, (hag c).2]
    funext i
    rw [show i = ix2 (i 0) (i 1) from by funext a; match a with | ⟨0, _⟩ => rfl | ⟨1, _⟩ => rfl]
    exact Cert.ReferenceIdeal.Att.out_apply _ _ (i 0) (i 1)

end Cert.Attention

end
-- ==== Proof.Project.lean ====
/- The input projection: each row divided by its root mean square and scaled by the gains, then the weights. -/
module

public import Idealize.ShloMosaic.Lib.Pointwise

@[expose] public section

noncomputable section

namespace Cert.Project

open Idealize.ShloMosaic

/-- The reciprocal of a row's root mean square. -/
def scale (x : Fin 1024 → EReal) : EReal :=
  Ideal.rsqrt (Ideal.div (∑ e : Fin 1024, x e * x e) (Ideal.ofBits .f32 0x44800000#32) + Ideal.ofBits .f32 0x358637BD#32)

/-- A row's projection on one column of the weights. -/
def proj (x g w : Fin 1024 → EReal) : EReal := ∑ e : Fin 1024, x e * scale x * g e * w e

end Cert.Project

end
-- ==== Proof.ProjBlocks.lean ====
/- What the projection kernel's region leaves in its three arrays, from the argument arrays. -/
module

public import proofs.«01_k».proof.Proof.Project
public import proofs.«01_k».proof.Proof.Gen.Kernel2Ideal.Frame
public import Idealize.ShloMosaic.Lib.Pipeline.Value
public import Idealize.ShloMosaic.Lib.Claim
public import Idealize.ShloMosaic.Lib.Pipeline.ValueKit.Point

@[expose] public section

set_option maxRecDepth 16384

noncomputable section

namespace Cert.Kernel2Ideal.Blocks

open Cert.Kernel2Ideal Cert.Kernel2Ideal.Gen Idealize.ShloMosaic Idealize.ShloMosaic.TcCoe Idealize.SL.Sem
open Idealize.ShloMosaic.Pipeline (Dat)
open Cert.Project

/-! ## One block -/

theorem pay1_apply (x : Vec Ideal S256x1024 .f32) (g : Vec Ideal S1x1024 .f32) (r : Fin 256) (e : Fin 1024) :
    k0_pay1 x g (ix2 r e) = x (ix2 r e) * scale (fun e => x (ix2 r e)) * g (ix2 0 e) := by
  pointwise [k0_pay1, scale]

theorem pay2_apply (x : Vec Ideal S256x1024 .f32) (g : Vec Ideal S1x1024 .f32) (w : Vec Ideal S1024x1536 .bf16) (r : Fin 256)
    (l : Fin 1536) :
    k0_pay2 x g w (ix2 r l) = proj (fun e => x (ix2 r e)) (fun e => g (ix2 0 e)) (fun e => w (ix2 e l)) := by
  pointwise [k0_pay2, pay1_apply, proj]

theorem pay3_apply (x : Vec Ideal S256x1024 .f32) (g : Vec Ideal S1x1024 .f32) (w : Vec Ideal S1024x1792 .bf16) (r : Fin 256)
    (l : Fin 1792) :
    k0_pay3 x g w (ix2 r l) = proj (fun e => x (ix2 r e)) (fun e => g (ix2 0 e)) (fun e => w (ix2 e l)) := by
  pointwise [k0_pay3, pay1_apply, proj]

theorem pay4_apply (x : Vec Ideal S256x1024 .f32) (g : Vec Ideal S1x1024 .f32) (w : Vec Ideal S1024x2048 .bf16) (r : Fin 256)
    (l : Fin 2048) :
    k0_pay4 x g w (ix2 r l) = proj (fun e => x (ix2 r e)) (fun e => g (ix2 0 e)) (fun e => w (ix2 e l)) := by
  pointwise [k0_pay4, pay1_apply, proj]

theorem out3_apply (x : Vec Ideal S256x1024 .f32) (g : Vec Ideal S1x1024 .f32) (w : Vec Ideal S1024x5376 .bf16) (r : Fin 256)
    (l : Fin 1536) :
    out0_3 x g w (ix2 r l) = proj (fun e => x (ix2 r e)) (fun e => g (ix2 0 e)) (fun e => w (ix2 e ⟨l.val, by omega⟩)) := by
  unfold out0_3
  have e : (ix2 r l : S256x1536.Idx) = r0_3.emb (ix2 r l) := by
    funext a
    match a with
    | ⟨0, _⟩ => apply Fin.ext; simp [Rect.emb, Rect.unit]
    | ⟨1, _⟩ => apply Fin.ext; simp [Rect.emb, Rect.unit]
  rw [e, View.canon_cons_emb]
  refine (pay2_apply _ _ _ r l).trans ?_
  pointwise

theorem out4_apply (x : Vec Ideal S256x1024 .f32) (g : Vec Ideal S1x1024 .f32) (w : Vec Ideal S1024x5376 .bf16) (r : Fin 256)
    (l : Fin 1792) :
    out0_4 x g w (ix2 r l) = proj (fun e => x (ix2 r e)) (fun e => g (ix2 0 e)) (fun e => w (ix2 e ⟨1536 + l.val, by omega⟩)) := by
  unfold out0_4
  have e : (ix2 r l : S256x1792.Idx) = r0_5.emb (ix2 r l) := by
    funext a
    match a with
    | ⟨0, _⟩ => apply Fin.ext; simp [Rect.emb, Rect.unit]
    | ⟨1, _⟩ => apply Fin.ext; simp [Rect.emb, Rect.unit]
  rw [e, View.canon_cons_emb]
  refine (pay3_apply _ _ _ r l).trans ?_
  pointwise

theorem out5_apply (x : Vec Ideal S256x1024 .f32) (g : Vec Ideal S1x1024 .f32) (w : Vec Ideal S1024x5376 .bf16) (r : Fin 256)
    (l : Fin 2048) :
    out0_5 x g w (ix2 r l) = proj (fun e => x (ix2 r e)) (fun e => g (ix2 0 e)) (fun e => w (ix2 e ⟨3328 + l.val, by omega⟩)) := by
  unfold out0_5
  have e : (ix2 r l : S256x2048.Idx) = r0_7.emb (ix2 r l) := by
    funext a
    match a with
    | ⟨0, _⟩ => apply Fin.ext; simp [Rect.emb, Rect.unit]
    | ⟨1, _⟩ => apply Fin.ext; simp [Rect.emb, Rect.unit]
  rw [e, View.canon_cons_emb]
  refine (pay4_apply _ _ _ r l).trans ?_
  pointwise

variable (m : (ℓ : Loc nD τ sig) → Buf (Elt Ideal) ℓ)

/-! ## The region's arrays -/

/-- Where each window stands at each grid point. -/
theorem idx : ∀ t : Fin grid0.N,
    win0_0.index t = ![t.val, 0] ∧ win0_1.index t = ![0, 0] ∧ win0_2.index t = ![0, 0] ∧ win0_3.index t = ![t.val, 0]
      ∧ win0_4.index t = ![t.val, 0] ∧ win0_5.index t = ![t.val, 0] := by
  decide +kernel

/-- The argument arrays. -/
abbrev X (c : Dev nD) : Vec Ideal S2x16384x1024 .f32 := m ((c : Thread nD τ).loc main_arg0)
abbrev G (c : Dev nD) : Vec Ideal S1x1024 .f32 := m ((c : Thread nD τ).loc main_arg1)
abbrev Wt (c : Dev nD) : Vec Ideal S1x1024x5376 .f32 := m ((c : Thread nD τ).loc main_arg2)

theorem V_rows (c : Dev nD) : V m c main_v0 = shapeCast S32768x1024 (X m c) shapeCasts_S2x16384x1024_S32768x1024 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

theorem V_gains (c : Dev nD) : V m c main_v4
    = shapeCast S1x1024 (shapeCast S1024 (G m c) shapeCasts_S1x1024_S1024) shapeCasts_S1024_S1x1024 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

theorem V_weights (c : Dev nD) : V m c main_v3
    = truncf (F := Ideal) (φ := .f32) .bf16 (shapeCast S1024x5376 (Wt m c) shapeCasts_S1x1024x5376_S1024x5376) bitsLt_bf16_f32 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

/-- A row of the activations, a column of the weights, and the projection of the one on the other. -/
abbrev row (c : Dev nD) (b : Fin 2) (t : Fin 16384) : Fin 1024 → EReal := fun e => X m c (ix3 b t e)
abbrev col (c : Dev nD) (k : Fin 5376) : Fin 1024 → EReal := fun e => Wt m c (ix3 0 e k)
def P (c : Dev nD) (R : Fin 32768) (k : Fin 5376) : EReal :=
  proj (row m c ⟨R.val / 16384, by omega⟩ ⟨R.val % 16384, by omega⟩) (fun e => G m c (ix2 0 e)) (col m c k)

theorem blk0 (c : Dev nD) (t : Fin 128) (r : Fin 256) (e : Fin 1024) :
    iblk m c 0 t (ix2 r e)
      = row m c ⟨(256 * t.val + r.val) / 16384, by omega⟩ ⟨(256 * t.val + r.val) % 16384, by omega⟩ e := by
  have h : iblk m c 0 t (ix2 r e) = V m c main_v0 (ix2 ⟨256 * t.val + r.val, by omega⟩ e) := by
    blk_ext [iblk, idx t]
  rw [h, V_rows]
  pointwise

theorem blk1 (c : Dev nD) (t : Fin 128) (e : Fin 1024) : iblk m c 1 t (ix2 0 e) = G m c (ix2 0 e) := by
  have h : iblk m c 1 t (ix2 0 e) = V m c main_v4 (ix2 0 e) := by
    blk_ext [iblk, idx t]
  rw [h, V_gains]
  pointwise

theorem blk2 (c : Dev nD) (t : Fin 128) (e : Fin 1024) (k : Fin 5376) : iblk m c 2 t (ix2 e k) = col m c k e := by
  have h : iblk m c 2 t (ix2 e k) = V m c main_v3 (ix2 e k) := by
    blk_ext [iblk, idx t]
  rw [h, V_weights]
  pointwise

/-- The block of output rows at a grid point. -/
theorem proj_blk (c : Dev nD) (t : Fin 128) (r : Fin 256) (k : Fin 5376) :
    proj (fun e => iblk m c 0 t (ix2 r e)) (fun e => iblk m c 1 t (ix2 0 e)) (fun e => iblk m c 2 t (ix2 e k))
      = P m c ⟨256 * t.val + r.val, by omega⟩ k := by
  rw [funext (blk0 m c t r), funext (blk1 m c t), funext fun e => blk2 m c t e k]
  rfl

/-- The three arrays: the projection on the attention's, the recurrence's and the gate's columns. -/
def outA (c : Dev nD) : Vec Ideal S32768x1536 .f32 := fun i => P m c (i 0) ⟨(i 1).val, by have := (i 1).isLt; simp at this; omega⟩
def outB (c : Dev nD) : Vec Ideal S32768x1792 .f32 := fun i => P m c (i 0) ⟨1536 + (i 1).val, by have := (i 1).isLt; simp at this; omega⟩
def outG (c : Dev nD) : Vec Ideal S32768x2048 .f32 := fun i => P m c (i 0) ⟨3328 + (i 1).val, by have := (i 1).isLt; simp at this; omega⟩

theorem arr3 (c : Dev nD) : (dats m 0 c).arrAt 3 (cfgs 0).N = outA m c := by
  refine (dats m 0 c).arrAt_eq_of_covers 3 _ (by decide +kernel) fun t hf y => ?_
  blk_simp
  rw [after0_3]
  have hy : y = ix2 (n0 := 256) (n1 := 1536) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 1536, l = y 1 := ⟨_, rfl⟩
  rw [hy, ← hr, ← hl]
  refine (out3_apply _ _ _ r l).trans ?_
  refine (proj_blk m c t r _).trans ?_
  refine congrArg₂ (P m c) (Fin.ext ?_) (Fin.ext ?_)
  · blk_simp [(idx t).2.2.2.1]
    dsimp only
    omega
  · blk_simp [(idx t).2.2.2.1]

theorem arr4 (c : Dev nD) : (dats m 0 c).arrAt 4 (cfgs 0).N = outB m c := by
  refine (dats m 0 c).arrAt_eq_of_covers 4 _ (by decide +kernel) fun t hf y => ?_
  blk_simp
  rw [after0_4]
  have hy : y = ix2 (n0 := 256) (n1 := 1792) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 1792, l = y 1 := ⟨_, rfl⟩
  rw [hy, ← hr, ← hl]
  refine (out4_apply _ _ _ r l).trans ?_
  refine (proj_blk m c t r _).trans ?_
  refine congrArg₂ (P m c) (Fin.ext ?_) (Fin.ext ?_)
  · blk_simp [(idx t).2.2.2.2.1]
    dsimp only
    omega
  · blk_simp [(idx t).2.2.2.2.1]

theorem arr5 (c : Dev nD) : (dats m 0 c).arrAt 5 (cfgs 0).N = outG m c := by
  refine (dats m 0 c).arrAt_eq_of_covers 5 _ (by decide +kernel) fun t hf y => ?_
  blk_simp
  rw [after0_5]
  have hy : y = ix2 (n0 := 256) (n1 := 2048) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 2048, l = y 1 := ⟨_, rfl⟩
  rw [hy, ← hr, ← hl]
  refine (out5_apply _ _ _ r l).trans ?_
  refine (proj_blk m c t r _).trans ?_
  refine congrArg₂ (P m c) (Fin.ext ?_) (Fin.ext ?_)
  · blk_simp [(idx t).2.2.2.2.2]
    dsimp only
    omega
  · blk_simp [(idx t).2.2.2.2.2]

end Cert.Kernel2Ideal.Blocks

end
-- ==== Proof.ProjTail.lean ====
/- The projection kernel's results: the region's arrays, and the rows the host keeps of them. -/
module

public import proofs.«01_k».proof.Proof.ProjBlocks

@[expose] public section

set_option maxRecDepth 16384

noncomputable section

namespace Cert.Kernel2Ideal.Tail

open Cert.Kernel2Ideal Cert.Kernel2Ideal.Gen Cert.Kernel2Ideal.Blocks Idealize.ShloMosaic Idealize.ShloMosaic.TcCoe
  Idealize.SL.Sem
open Idealize.ShloMosaic.Pipeline (Dat)

variable (m : (ℓ : Loc nD τ sig) → Buf (Elt Ideal) ℓ) (ρ : Dev nD → PrngReg)

/-- The last rows' keys and values, laid out by head. -/
def heads (z : Vec Ideal S2x512x512 .f32) : Vec Ideal S1x2x8x512x64 .f32 :=
  broadcastInDim S1x2x8x512x64 ![1, 2, 3, 4] bcast_S2x8x512x64_S1x2x8x512x64_1_2_3_4
    (transpose S2x8x512x64 [0, 2, 1, 3] (shapeCast S2x512x8x64 z shapeCasts_S2x512x512_S2x512x8x64)
      transposes_S2x512x8x64_S2x8x512x64_0_2_1_3)

def lastRows (a : Vec Ideal S32768x1536 .f32) : Vec Ideal S2x512x1536 .f32 :=
  extractStridedSlice S2x512x1536 ![0, 15872, 0] (shapeCast S2x16384x1536 a shapeCasts_S32768x1536_S2x16384x1536)
    slices_S2x16384x1536_S2x512x1536_0_15872_0

def keys (a : Vec Ideal S32768x1536 .f32) : Vec Ideal S1x2x8x512x64 .f32 :=
  heads (extractStridedSlice S2x512x512 ![0, 0, 512] (lastRows a) slices_S2x512x1536_S2x512x512_0_0_512)

def values (a : Vec Ideal S32768x1536 .f32) : Vec Ideal S1x2x8x512x64 .f32 :=
  heads (extractStridedSlice S2x512x512 ![0, 0, 1024] (lastRows a) slices_S2x512x1536_S2x512x512_0_0_1024)

def shift (a : Vec Ideal S32768x1792 .f32) : Vec Ideal S1x2x1x1792 .f32 :=
  broadcastInDim S1x2x1x1792 ![1, 2, 3] bcast_S2x1x1792_S1x2x1x1792_1_2_3
    (extractStridedSlice S2x1x1792 ![0, 16383, 0] (shapeCast S2x16384x1792 a shapeCasts_S32768x1792_S2x16384x1792)
      slices_S2x16384x1792_S2x1x1792_0_16383_0)

theorem after_keys (U : Valuation τ sig (Elt Ideal)) :
    StableHlo.after hostOps1 U (Proc.devRef .tc main_v16) = keys (U (Proc.devRef .tc main_v5_0)) := by
  simp only [hostOps1, StableHlo.TRef.binary, StableHlo.TRef.ternary, StableHlo.TRef.unary, StableHlo.TRef.toBuf,
    StableHlo.TRef.ofBuf, cast_eq]
  after_results_simp
  rfl

theorem after_values (U : Valuation τ sig (Elt Ideal)) :
    StableHlo.after hostOps1 U (Proc.devRef .tc main_v17) = values (U (Proc.devRef .tc main_v5_0)) := by
  simp only [hostOps1, StableHlo.TRef.binary, StableHlo.TRef.ternary, StableHlo.TRef.unary, StableHlo.TRef.toBuf,
    StableHlo.TRef.ofBuf, cast_eq]
  after_results_simp
  rfl

theorem after_shift (U : Valuation τ sig (Elt Ideal)) :
    StableHlo.after hostOps1 U (Proc.devRef .tc main_v18) = shift (U (Proc.devRef .tc main_v5_1)) := by
  simp only [hostOps1, StableHlo.TRef.binary, StableHlo.TRef.ternary, StableHlo.TRef.unary, StableHlo.TRef.toBuf,
    StableHlo.TRef.ofBuf, cast_eq]
  after_results_simp
  rfl

theorem tail_arr (c : Dev nD) (w : Fin 6) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr (cfgs 0).spec (by decide) c _ _ w

theorem tail_keys (c : Dev nD) : Pipeline.afterTail₀ cfgs (dats m) 0 (V0 m) [hostOps1] c main_v16 = keys (outA m c) := by
  refine (after_keys _).trans (congrArg keys ?_)
  exact (tail_arr m c 3).trans (arr3 m c)

theorem tail_values (c : Dev nD) : Pipeline.afterTail₀ cfgs (dats m) 0 (V0 m) [hostOps1] c main_v17 = values (outA m c) := by
  refine (after_values _).trans (congrArg values ?_)
  exact (tail_arr m c 3).trans (arr3 m c)

theorem tail_shift (c : Dev nD) : Pipeline.afterTail₀ cfgs (dats m) 0 (V0 m) [hostOps1] c main_v18 = shift (outB m c) := by
  refine (after_shift _).trans (congrArg shift ?_)
  exact (tail_arr m c 4).trans (arr4 m c)

theorem read_eq (c : Dev nD) {R R' : Fin 32768} {k k' : Fin 5376} (hR : R.val = R'.val) (hk : k.val = k'.val) :
    P m c R k = P m c R' k' := by rw [Fin.ext hR, Fin.ext hk]

theorem keys_apply (c : Dev nD) (b : Fin 2) (h : Fin 8) (t : Fin 512) (e : Fin 64) :
    keys (outA m c) (ix5 0 b h t e)
      = P m c ⟨16384 * b.val + 15872 + t.val, by omega⟩ ⟨512 + 64 * h.val + e.val, by omega⟩ := by
  pointwise [keys, heads, lastRows]
  exact read_eq m c (by dsimp only [ix2]; omega) (by dsimp only [ix2]; omega)

theorem values_apply (c : Dev nD) (b : Fin 2) (h : Fin 8) (t : Fin 512) (e : Fin 64) :
    values (outA m c) (ix5 0 b h t e)
      = P m c ⟨16384 * b.val + 15872 + t.val, by omega⟩ ⟨1024 + 64 * h.val + e.val, by omega⟩ := by
  pointwise [values, heads, lastRows]
  exact read_eq m c (by dsimp only [ix2]; omega) (by dsimp only [ix2]; omega)

theorem shift_apply (c : Dev nD) (b : Fin 2) (k : Fin 1792) :
    shift (outB m c) (ix4 0 b 0 k)
      = P m c ⟨16384 * b.val + 16383, by omega⟩ ⟨1536 + k.val, by omega⟩ := by
  pointwise [shift]
  exact read_eq m c (by dsimp only [ix2]; omega) rfl

end Cert.Kernel2Ideal.Tail

end
-- ==== Proof.ProjRef.lean ====
/- The projection's reference read at an index. -/
module

public import proofs.«01_k».proof.Proof.Project
public import proofs.«01_k».proof.Proof.Gen.Reference2Ideal.Read
public import Idealize.ShloMosaic.Lib.Pointwise
public import Idealize.ShloMosaic.Lib.KernelVsHost

@[expose] public section

set_option maxRecDepth 16384

noncomputable section

namespace Cert.Reference2Ideal.Proj

open Cert.Reference2Ideal Cert.Reference2Ideal.Gen Cert.Reference2Ideal.Read Idealize.ShloMosaic Idealize.ShloMosaic.TcCoe
  Idealize.SL.Sem
open Cert.Project

variable (x : Vec Ideal S2x16384x1024 .f32) (g : Vec Ideal S1x1024 .f32) (w : Vec Ideal S1x1024x5376 .f32)

theorem scale_apply (b : Fin 2) (t : Fin 16384) :
    val_main_v8 (F := Ideal) x (ix3 b t 0) = scale (fun e => x (ix3 b t e)) := by
  pointwise [val_main_v8, val_main_v7, val_main_v6, val_main_v5, val_main_v4, val_main_v3, val_main_v2, val_main_v1, scale,
    val_main_cst, val_main_cst_0, val_main_cst_1]

theorem normed_apply (b : Fin 2) (t : Fin 16384) (e : Fin 1024) :
    val_main_v13 (F := Ideal) x g (ix3 b t e) = x (ix3 b t e) * scale (fun e => x (ix3 b t e)) * g (ix2 0 e) := by
  rw [← scale_apply]
  pointwise [val_main_v13, val_main_v12, val_main_v11, val_main_v10, val_main_v9, val_main_v0]

theorem proj_apply (b : Fin 2) (t : Fin 16384) (k : Fin 5376) :
    val_main_v15 (F := Ideal) x g w (ix3 b t k)
      = proj (fun e => x (ix3 b t e)) (fun e => g (ix2 0 e)) (fun e => w (ix3 0 e k)) := by
  unfold proj
  pointwise [val_main_v15, val_main_v14]
  exact Finset.sum_congr rfl fun e _ => by rw [normed_apply]

/-- A row's projection on one column, the rows of both sequences numbered through. -/
def P (R : Fin 32768) (k : Fin 5376) : EReal :=
  proj (fun e => x (ix3 ⟨R.val / 16384, by omega⟩ ⟨R.val % 16384, by omega⟩ e)) (fun e => g (ix2 0 e)) (fun e => w (ix3 0 e k))

theorem P_eq (b : Fin 2) (t : Fin 16384) (k k' : Fin 5376) (R : Fin 32768) (hR : R.val = b.val * 16384 + t.val)
    (hk : k.val = k'.val) : val_main_v15 (F := Ideal) x g w (ix3 b t k) = P x g w R k' := by
  rw [proj_apply, Fin.ext hk, P, show (⟨R.val / 16384, by omega⟩ : Fin 2) = b from Fin.ext (by dsimp only; omega),
    show (⟨R.val % 16384, by omega⟩ : Fin 16384) = t from Fin.ext (by dsimp only; omega)]

theorem attention_apply (R : Fin 32768) (k : Fin 1536) :
    val_main_v29 (F := Ideal) x g w (ix2 R k) = P x g w R ⟨k.val, by omega⟩ := by
  pointwise [val_main_v29, val_main_v16]
  exact P_eq x g w _ _ _ _ _ (by dsimp only; omega) rfl

theorem recurrence_apply (R : Fin 32768) (k : Fin 1792) :
    val_main_v30 (F := Ideal) x g w (ix2 R k) = P x g w R ⟨1536 + k.val, by omega⟩ := by
  pointwise [val_main_v30, val_main_v17]
  exact P_eq x g w _ _ _ _ _ (by dsimp only; omega) rfl

theorem gate_apply (R : Fin 32768) (k : Fin 2048) :
    val_main_v31 (F := Ideal) x g w (ix2 R k) = P x g w R ⟨3328 + k.val, by omega⟩ := by
  pointwise [val_main_v31, val_main_v18]
  exact P_eq x g w _ _ _ _ _ (by dsimp only; omega) rfl

theorem keys_apply (b : Fin 2) (h : Fin 8) (t : Fin 512) (e : Fin 64) :
    val_main_v32 (F := Ideal) x g w (ix5 0 b h t e)
      = P x g w ⟨16384 * b.val + 15872 + t.val, by omega⟩ ⟨512 + 64 * h.val + e.val, by omega⟩ := by
  pointwise [val_main_v32, val_main_v26, val_main_v25, val_main_v23, val_main_v20, val_main_v16]
  exact P_eq x g w _ _ _ _ _ (by dsimp only; omega) (by dsimp only; omega)

theorem values_apply (b : Fin 2) (h : Fin 8) (t : Fin 512) (e : Fin 64) :
    val_main_v33 (F := Ideal) x g w (ix5 0 b h t e)
      = P x g w ⟨16384 * b.val + 15872 + t.val, by omega⟩ ⟨1024 + 64 * h.val + e.val, by omega⟩ := by
  pointwise [val_main_v33, val_main_v28, val_main_v27, val_main_v24, val_main_v21, val_main_v16]
  exact P_eq x g w _ _ _ _ _ (by dsimp only; omega) (by dsimp only; omega)

theorem shift_apply (b : Fin 2) (k : Fin 1792) :
    val_main_v35 (F := Ideal) x g w (ix4 0 b 0 k)
      = P x g w ⟨16384 * b.val + 16383, by omega⟩ ⟨1536 + k.val, by omega⟩ := by
  pointwise [val_main_v35, val_main_v34, val_main_v17]
  exact P_eq x g w _ _ _ _ _ (by dsimp only; omega) rfl

end Cert.Reference2Ideal.Proj

end
-- ==== Proof.Projection.lean ====
/- The input projection's claim. -/
module

public import proofs.«01_k».proof.Defs
public import proofs.«01_k».proof.Proof.ProjTail
public import proofs.«01_k».proof.Proof.ProjRef
public import proofs.«01_k».proof.Proof.Gen.Reference2Ideal.Run

@[expose] public section

set_option maxRecDepth 16384

noncomputable section

namespace Cert.Projection

open Idealize.ShloMosaic Idealize.ShloMosaic.TcCoe Idealize.SL.Sem Cert.Kernel2Ideal Cert.Kernel2Ideal.Gen Cert.Kernel2Ideal.Blocks

variable (m : (ℓ : Loc nD τ sig) → Buf (Elt Ideal) ℓ) (ρ : Dev nD → PrngReg)

/-- The run's results. -/
theorem run_results : θ_run Cert.Kernel2Ideal.defs (onTc (τ := τ) (main (F := Ideal))) ⟨m, fun _ => 0, ρ⟩ fun r => ∀ c : Dev nD,
    r.2.mem ((c.tc : Thread nD τ).loc main_v5_0) = outA m c
      ∧ r.2.mem ((c.tc : Thread nD τ).loc main_v5_1) = outB m c
      ∧ r.2.mem ((c.tc : Thread nD τ).loc main_v5_2) = outG m c
      ∧ r.2.mem ((c.tc : Thread nD τ).loc main_v16) = Tail.keys (outA m c)
      ∧ r.2.mem ((c.tc : Thread nD τ).loc main_v17) = Tail.values (outA m c)
      ∧ r.2.mem ((c.tc : Thread nD τ).loc main_v18) = Tail.shift (outB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.Kernel2Ideal.defs _ _).mono (fun _ h c =>
    ⟨((h c).1 3).trans (arr3 m c), ((h c).1 4).trans (arr4 m c), ((h c).1 5).trans (arr5 m c),
      ((h c).2 main_v16 (Pipeline.mem_restRefs_of main_v16 (by decide) (by decide))).trans (Tail.tail_keys m c),
      ((h c).2 main_v17 (Pipeline.mem_restRefs_of main_v17 (by decide) (by decide))).trans (Tail.tail_values m c),
      ((h c).2 main_v18 (Pipeline.mem_restRefs_of main_v18 (by decide) (by decide))).trans (Tail.tail_shift m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

theorem same (c : Dev nD) (R : Fin 32768) (k : Fin 5376) :
    Cert.Reference2Ideal.Proj.P (X m c) (G m c) (Wt m c) R k = P m c R k := rfl

variable (c : Dev nD)

theorem attention_eq : Cert.Reference2Ideal.Read.val_main_v29 (F := Ideal) (X m c) (G m c) (Wt m c) = outA m c := by
  funext i
  idx_vars i
  exact (Cert.Reference2Ideal.Proj.attention_apply _ _ _ _ _).trans (same m c _ _)

theorem recurrence_eq : Cert.Reference2Ideal.Read.val_main_v30 (F := Ideal) (X m c) (G m c) (Wt m c) = outB m c := by
  funext i
  idx_vars i
  exact (Cert.Reference2Ideal.Proj.recurrence_apply _ _ _ _ _).trans (same m c _ _)

theorem gate_eq : Cert.Reference2Ideal.Read.val_main_v31 (F := Ideal) (X m c) (G m c) (Wt m c) = outG m c := by
  funext i
  idx_vars i
  exact (Cert.Reference2Ideal.Proj.gate_apply _ _ _ _ _).trans (same m c _ _)

theorem keys_eq : Cert.Reference2Ideal.Read.val_main_v32 (F := Ideal) (X m c) (G m c) (Wt m c) = Tail.keys (outA m c) := by
  funext i
  obtain ⟨b, h, t, e, rfl⟩ : ∃ b h t e, i = ix5 0 b h t e := by
    idx_vars i
    exact ⟨i1, i2, i3, i4, by rw [Subsingleton.elim i0 0]⟩
  exact ((Cert.Reference2Ideal.Proj.keys_apply _ _ _ b h t e).trans (same m c _ _)).trans (Tail.keys_apply m c b h t e).symm

theorem values_eq : Cert.Reference2Ideal.Read.val_main_v33 (F := Ideal) (X m c) (G m c) (Wt m c) = Tail.values (outA m c) := by
  funext i
  obtain ⟨b, h, t, e, rfl⟩ : ∃ b h t e, i = ix5 0 b h t e := by
    idx_vars i
    exact ⟨i1, i2, i3, i4, by rw [Subsingleton.elim i0 0]⟩
  exact ((Cert.Reference2Ideal.Proj.values_apply _ _ _ b h t e).trans (same m c _ _)).trans (Tail.values_apply m c b h t e).symm

theorem shift_eq : Cert.Reference2Ideal.Read.val_main_v35 (F := Ideal) (X m c) (G m c) (Wt m c) = Tail.shift (outB m c) := by
  funext i
  obtain ⟨b, k, rfl⟩ : ∃ b k, i = ix4 0 b 0 k := by
    idx_vars i
    exact ⟨i1, i3, by rw [Subsingleton.elim i0 0, Subsingleton.elim i2 0]⟩
  exact ((Cert.Reference2Ideal.Proj.shift_apply _ _ _ b k).trans (same m c _ _)).trans (Tail.shift_apply m c b k).symm

theorem algebraic : Cert.algebraic_Kernel2Ideal_Reference2Ideal := by
  intro m ρ m' ρ' _ hag
  refine ⟨outA m, outB m, outG m, fun c => Tail.keys (outA m c), fun c => Tail.values (outA m c), fun c => Tail.shift (outB m c),
    run_results m ρ, ?_⟩
  refine (θ_run Cert.Reference2Ideal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.Reference2Ideal.Value.run m' ρ')
  all_goals rw [(hag c).1, (hag c).2.1, (hag c).2.2]
  · exact attention_eq m c
  · exact recurrence_eq m c
  · exact gate_eq m c
  · exact keys_eq m c
  · exact values_eq m c
  · exact shift_eq m c

end Cert.Projection

end
-- ==== Proof.SampleBlocks.lean ====
/- What the sample batch's projection kernel's region leaves in its three arrays, from the argument arrays. -/
module

public import proofs.«01_k».proof.Proof.ProjBlocks
public import proofs.«01_k».proof.Proof.Gen.Kernel3Ideal.Frame
public import Idealize.ShloMosaic.Lib.Pipeline.Value
public import Idealize.ShloMosaic.Lib.Claim
public import Idealize.ShloMosaic.Lib.Pipeline.ValueKit.Point

@[expose] public section

set_option maxRecDepth 16384

noncomputable section

namespace Cert.Kernel3Ideal.Blocks

open Cert.Kernel3Ideal Cert.Kernel3Ideal.Gen Idealize.ShloMosaic Idealize.ShloMosaic.TcCoe Idealize.SL.Sem
open Idealize.ShloMosaic.Pipeline (Dat)
open Cert.Project

/-! ## One block: the prompt kernel's block, whatever the number of blocks -/

theorem out3_apply (x : Vec Ideal S256x1024 .f32) (g : Vec Ideal S1x1024 .f32) (w : Vec Ideal S1024x5376 .bf16) (r : Fin 256)
    (l : Fin 1536) :
    out0_3 x g w (ix2 r l) = proj (fun e => x (ix2 r e)) (fun e => g (ix2 0 e)) (fun e => w (ix2 e ⟨l.val, by omega⟩)) :=
  Cert.Kernel2Ideal.Blocks.out3_apply x g w r l

theorem out4_apply (x : Vec Ideal S256x1024 .f32) (g : Vec Ideal S1x1024 .f32) (w : Vec Ideal S1024x5376 .bf16) (r : Fin 256)
    (l : Fin 1792) :
    out0_4 x g w (ix2 r l) = proj (fun e => x (ix2 r e)) (fun e => g (ix2 0 e)) (fun e => w (ix2 e ⟨1536 + l.val, by omega⟩)) :=
  Cert.Kernel2Ideal.Blocks.out4_apply x g w r l

theorem out5_apply (x : Vec Ideal S256x1024 .f32) (g : Vec Ideal S1x1024 .f32) (w : Vec Ideal S1024x5376 .bf16) (r : Fin 256)
    (l : Fin 2048) :
    out0_5 x g w (ix2 r l) = proj (fun e => x (ix2 r e)) (fun e => g (ix2 0 e)) (fun e => w (ix2 e ⟨3328 + l.val, by omega⟩)) :=
  Cert.Kernel2Ideal.Blocks.out5_apply x g w r l

variable (m : (ℓ : Loc nD τ sig) → Buf (Elt Ideal) ℓ)

/-! ## The region's arrays -/

/-- Where each window stands at each grid point. -/
theorem idx : ∀ t : Fin grid0.N,
    win0_0.index t = ![t.val, 0] ∧ win0_1.index t = ![0, 0] ∧ win0_2.index t = ![0, 0] ∧ win0_3.index t = ![t.val, 0]
      ∧ win0_4.index t = ![t.val, 0] ∧ win0_5.index t = ![t.val, 0] := by
  decide +kernel

/-- The argument arrays. -/
abbrev X (c : Dev nD) : Vec Ideal S16x32x1024 .f32 := m ((c : Thread nD τ).loc main_arg0)
abbrev G (c : Dev nD) : Vec Ideal S1x1024 .f32 := m ((c : Thread nD τ).loc main_arg1)
abbrev Wt (c : Dev nD) : Vec Ideal S1x1024x5376 .f32 := m ((c : Thread nD τ).loc main_arg2)

theorem V_rows (c : Dev nD) : V m c main_v0 = shapeCast S512x1024 (X m c) shapeCasts_S16x32x1024_S512x1024 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

theorem V_gains (c : Dev nD) : V m c main_v4
    = shapeCast S1x1024 (shapeCast S1024 (G m c) shapeCasts_S1x1024_S1024) shapeCasts_S1024_S1x1024 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

theorem V_weights (c : Dev nD) : V m c main_v3
    = truncf (F := Ideal) (φ := .f32) .bf16 (shapeCast S1024x5376 (Wt m c) shapeCasts_S1x1024x5376_S1024x5376) bitsLt_bf16_f32 := by
  simp only [V, V0, hostOps0, List.flatten_cons, List.flatten_nil, List.append_nil, StableHlo.TRef.binary, StableHlo.TRef.ternary,
    StableHlo.TRef.unary, StableHlo.TRef.toBuf, StableHlo.TRef.ofBuf, cast_eq]
  after_results_simp
  rfl

/-- A row of the activations, a column of the weights, and the projection of the one on the other. -/
abbrev row (c : Dev nD) (b : Fin 16) (t : Fin 32) : Fin 1024 → EReal := fun e => X m c (ix3 b t e)
abbrev col (c : Dev nD) (k : Fin 5376) : Fin 1024 → EReal := fun e => Wt m c (ix3 0 e k)
def P (c : Dev nD) (R : Fin 512) (k : Fin 5376) : EReal :=
  proj (row m c ⟨R.val / 32, by omega⟩ ⟨R.val % 32, by omega⟩) (fun e => G m c (ix2 0 e)) (col m c k)

theorem blk0 (c : Dev nD) (t : Fin 2) (r : Fin 256) (e : Fin 1024) :
    iblk m c 0 t (ix2 r e)
      = row m c ⟨(256 * t.val + r.val) / 32, by omega⟩ ⟨(256 * t.val + r.val) % 32, by omega⟩ e := by
  have h : iblk m c 0 t (ix2 r e) = V m c main_v0 (ix2 ⟨256 * t.val + r.val, by omega⟩ e) := by
    blk_ext [iblk, idx t]
  rw [h, V_rows]
  pointwise

theorem blk1 (c : Dev nD) (t : Fin 2) (e : Fin 1024) : iblk m c 1 t (ix2 0 e) = G m c (ix2 0 e) := by
  have h : iblk m c 1 t (ix2 0 e) = V m c main_v4 (ix2 0 e) := by
    blk_ext [iblk, idx t]
  rw [h, V_gains]
  pointwise

theorem blk2 (c : Dev nD) (t : Fin 2) (e : Fin 1024) (k : Fin 5376) : iblk m c 2 t (ix2 e k) = col m c k e := by
  have h : iblk m c 2 t (ix2 e k) = V m c main_v3 (ix2 e k) := by
    blk_ext [iblk, idx t]
  rw [h, V_weights]
  pointwise

/-- The block of output rows at a grid point. -/
theorem proj_blk (c : Dev nD) (t : Fin 2) (r : Fin 256) (k : Fin 5376) :
    proj (fun e => iblk m c 0 t (ix2 r e)) (fun e => iblk m c 1 t (ix2 0 e)) (fun e => iblk m c 2 t (ix2 e k))
      = P m c ⟨256 * t.val + r.val, by omega⟩ k := by
  rw [funext (blk0 m c t r), funext (blk1 m c t), funext fun e => blk2 m c t e k]
  rfl

/-- The three arrays: the projection on the attention's, the recurrence's and the gate's columns. -/
def outA (c : Dev nD) : Vec Ideal S512x1536 .f32 := fun i => P m c (i 0) ⟨(i 1).val, by have := (i 1).isLt; simp at this; omega⟩
def outB (c : Dev nD) : Vec Ideal S512x1792 .f32 := fun i => P m c (i 0) ⟨1536 + (i 1).val, by have := (i 1).isLt; simp at this; omega⟩
def outG (c : Dev nD) : Vec Ideal S512x2048 .f32 := fun i => P m c (i 0) ⟨3328 + (i 1).val, by have := (i 1).isLt; simp at this; omega⟩

theorem arr3 (c : Dev nD) : (dats m 0 c).arrAt 3 (cfgs 0).N = outA m c := by
  refine (dats m 0 c).arrAt_eq_of_covers 3 _ (by decide +kernel) fun t hf y => ?_
  blk_simp
  rw [after0_3]
  have hy : y = ix2 (n0 := 256) (n1 := 1536) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 1536, l = y 1 := ⟨_, rfl⟩
  rw [hy, ← hr, ← hl]
  refine (out3_apply _ _ _ r l).trans ?_
  refine (proj_blk m c t r _).trans ?_
  refine congrArg₂ (P m c) (Fin.ext ?_) (Fin.ext ?_)
  · blk_simp [(idx t).2.2.2.1]
    dsimp only
    omega
  · blk_simp [(idx t).2.2.2.1]

theorem arr4 (c : Dev nD) : (dats m 0 c).arrAt 4 (cfgs 0).N = outB m c := by
  refine (dats m 0 c).arrAt_eq_of_covers 4 _ (by decide +kernel) fun t hf y => ?_
  blk_simp
  rw [after0_4]
  have hy : y = ix2 (n0 := 256) (n1 := 1792) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 1792, l = y 1 := ⟨_, rfl⟩
  rw [hy, ← hr, ← hl]
  refine (out4_apply _ _ _ r l).trans ?_
  refine (proj_blk m c t r _).trans ?_
  refine congrArg₂ (P m c) (Fin.ext ?_) (Fin.ext ?_)
  · blk_simp [(idx t).2.2.2.2.1]
    dsimp only
    omega
  · blk_simp [(idx t).2.2.2.2.1]

theorem arr5 (c : Dev nD) : (dats m 0 c).arrAt 5 (cfgs 0).N = outG m c := by
  refine (dats m 0 c).arrAt_eq_of_covers 5 _ (by decide +kernel) fun t hf y => ?_
  blk_simp
  rw [after0_5]
  have hy : y = ix2 (n0 := 256) (n1 := 2048) (y 0) (y 1) := by
    funext a
    match a with
    | ⟨0, _⟩ => rfl
    | ⟨1, _⟩ => rfl
  obtain ⟨r, hr⟩ : ∃ r : Fin 256, r = y 0 := ⟨_, rfl⟩
  obtain ⟨l, hl⟩ : ∃ l : Fin 2048, l = y 1 := ⟨_, rfl⟩
  rw [hy, ← hr, ← hl]
  refine (out5_apply _ _ _ r l).trans ?_
  refine (proj_blk m c t r _).trans ?_
  refine congrArg₂ (P m c) (Fin.ext ?_) (Fin.ext ?_)
  · blk_simp [(idx t).2.2.2.2.2]
    dsimp only
    omega
  · blk_simp [(idx t).2.2.2.2.2]

end Cert.Kernel3Ideal.Blocks

end
-- ==== Proof.SampleTail.lean ====
/- The sample batch's projection: the region's arrays, and what the host keeps of them. -/
module

public import proofs.«01_k».proof.Proof.SampleBlocks

@[expose] public section

set_option maxRecDepth 16384

noncomputable section

namespace Cert.Kernel3Ideal.Tail

open Cert.Kernel3Ideal Cert.Kernel3Ideal.Gen Cert.Kernel3Ideal.Blocks Idealize.ShloMosaic Idealize.ShloMosaic.TcCoe
  Idealize.SL.Sem
open Idealize.ShloMosaic.Pipeline (Dat)

variable (m : (ℓ : Loc nD τ sig) → Buf (Elt Ideal) ℓ) (ρ : Dev nD → PrngReg)

/-- The rows' keys and values, laid out by head. -/
def heads (z : Vec Ideal S16x32x512 .f32) : Vec Ideal S1x16x8x32x64 .f32 :=
  broadcastInDim S1x16x8x32x64 ![1, 2, 3, 4] bcast_S16x8x32x64_S1x16x8x32x64_1_2_3_4
    (transpose S16x8x32x64 [0, 2, 1, 3] (shapeCast S16x32x8x64 z shapeCasts_S16x32x512_S16x32x8x64)
      transposes_S16x32x8x64_S16x8x32x64_0_2_1_3)

def keys (a : Vec Ideal S512x1536 .f32) : Vec Ideal S1x16x8x32x64 .f32 :=
  heads (extractStridedSlice S16x32x512 ![0, 0, 512] (shapeCast S16x32x1536 a shapeCasts_S512x1536_S16x32x1536) slices_S16x32x1536_S16x32x512_0_0_512)

def values (a : Vec Ideal S512x1536 .f32) : Vec Ideal S1x16x8x32x64 .f32 :=
  heads (extractStridedSlice S16x32x512 ![0, 0, 1024] (shapeCast S16x32x1536 a shapeCasts_S512x1536_S16x32x1536) slices_S16x32x1536_S16x32x512_0_0_1024)

def shift (a : Vec Ideal S512x1792 .f32) : Vec Ideal S1x16x1x1792 .f32 :=
  broadcastInDim S1x16x1x1792 ![1, 2, 3] bcast_S16x1x1792_S1x16x1x1792_1_2_3
    (extractStridedSlice S16x1x1792 ![0, 31, 0] (shapeCast S16x32x1792 a shapeCasts_S512x1792_S16x32x1792)
      slices_S16x32x1792_S16x1x1792_0_31_0)

theorem after_keys (U : Valuation τ sig (Elt Ideal)) :
    StableHlo.after hostOps1 U (Proc.devRef .tc main_v15) = keys (U (Proc.devRef .tc main_v5_0)) := by
  simp only [hostOps1, StableHlo.TRef.binary, StableHlo.TRef.ternary, StableHlo.TRef.unary, StableHlo.TRef.toBuf,
    StableHlo.TRef.ofBuf, cast_eq]
  after_results_simp
  rfl

theorem after_values (U : Valuation τ sig (Elt Ideal)) :
    StableHlo.after hostOps1 U (Proc.devRef .tc main_v16) = values (U (Proc.devRef .tc main_v5_0)) := by
  simp only [hostOps1, StableHlo.TRef.binary, StableHlo.TRef.ternary, StableHlo.TRef.unary, StableHlo.TRef.toBuf,
    StableHlo.TRef.ofBuf, cast_eq]
  after_results_simp
  rfl

theorem after_shift (U : Valuation τ sig (Elt Ideal)) :
    StableHlo.after hostOps1 U (Proc.devRef .tc main_v17) = shift (U (Proc.devRef .tc main_v5_1)) := by
  simp only [hostOps1, StableHlo.TRef.binary, StableHlo.TRef.ternary, StableHlo.TRef.unary, StableHlo.TRef.toBuf,
    StableHlo.TRef.ofBuf, cast_eq]
  after_results_simp
  rfl

theorem tail_arr (c : Dev nD) (w : Fin 6) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr (cfgs 0).spec (by decide) c _ _ w

theorem tail_keys (c : Dev nD) : Pipeline.afterTail₀ cfgs (dats m) 0 (V0 m) [hostOps1] c main_v15 = keys (outA m c) := by
  refine (after_keys _).trans (congrArg keys ?_)
  exact (tail_arr m c 3).trans (arr3 m c)

theorem tail_values (c : Dev nD) : Pipeline.afterTail₀ cfgs (dats m) 0 (V0 m) [hostOps1] c main_v16 = values (outA m c) := by
  refine (after_values _).trans (congrArg values ?_)
  exact (tail_arr m c 3).trans (arr3 m c)

theorem tail_shift (c : Dev nD) : Pipeline.afterTail₀ cfgs (dats m) 0 (V0 m) [hostOps1] c main_v17 = shift (outB m c) := by
  refine (after_shift _).trans (congrArg shift ?_)
  exact (tail_arr m c 4).trans (arr4 m c)

theorem read_eq (c : Dev nD) {R R' : Fin 512} {k k' : Fin 5376} (hR : R.val = R'.val) (hk : k.val = k'.val) :
    P m c R k = P m c R' k' := by rw [Fin.ext hR, Fin.ext hk]

theorem keys_apply (c : Dev nD) (b : Fin 16) (h : Fin 8) (t : Fin 32) (e : Fin 64) :
    keys (outA m c) (ix5 0 b h t e)
      = P m c ⟨32 * b.val + t.val, by omega⟩ ⟨512 + 64 * h.val + e.val, by omega⟩ := by
  pointwise [keys, heads]
  exact read_eq m c (by dsimp only [ix2]; omega) (by dsimp only [ix2]; omega)

theorem values_apply (c : Dev nD) (b : Fin 16) (h : Fin 8) (t : Fin 32) (e : Fin 64) :
    values (outA m c) (ix5 0 b h t e)
      = P m c ⟨32 * b.val + t.val, by omega⟩ ⟨1024 + 64 * h.val + e.val, by omega⟩ := by
  pointwise [values, heads]
  exact read_eq m c (by dsimp only [ix2]; omega) (by dsimp only [ix2]; omega)

theorem shift_apply (c : Dev nD) (b : Fin 16) (k : Fin 1792) :
    shift (outB m c) (ix4 0 b 0 k)
      = P m c ⟨32 * b.val + 31, by omega⟩ ⟨1536 + k.val, by omega⟩ := by
  pointwise [shift]
  exact read_eq m c (by dsimp only [ix2]; omega) rfl

end Cert.Kernel3Ideal.Tail

end
-- ==== Proof.SampleRef.lean ====
/- The sample batch's reference read at an index. -/
module

public import proofs.«01_k».proof.Proof.Project
public import proofs.«01_k».proof.Proof.Gen.Reference3Ideal.Read
public import Idealize.ShloMosaic.Lib.Pointwise
public import Idealize.ShloMosaic.Lib.KernelVsHost

@[expose] public section

set_option maxRecDepth 16384

noncomputable section

namespace Cert.Reference3Ideal.Proj

open Cert.Reference3Ideal Cert.Reference3Ideal.Gen Cert.Reference3Ideal.Read Idealize.ShloMosaic Idealize.ShloMosaic.TcCoe
  Idealize.SL.Sem
open Cert.Project

variable (x : Vec Ideal S16x32x1024 .f32) (g : Vec Ideal S1x1024 .f32) (w : Vec Ideal S1x1024x5376 .f32)

theorem scale_apply (b : Fin 16) (t : Fin 32) :
    val_main_v8 (F := Ideal) x (ix3 b t 0) = scale (fun e => x (ix3 b t e)) := by
  pointwise [val_main_v8, val_main_v7, val_main_v6, val_main_v5, val_main_v4, val_main_v3, val_main_v2, val_main_v1, scale,
    val_main_cst, val_main_cst_0, val_main_cst_1]

theorem normed_apply (b : Fin 16) (t : Fin 32) (e : Fin 1024) :
    val_main_v13 (F := Ideal) x g (ix3 b t e) = x (ix3 b t e) * scale (fun e => x (ix3 b t e)) * g (ix2 0 e) := by
  rw [← scale_apply]
  pointwise [val_main_v13, val_main_v12, val_main_v11, val_main_v10, val_main_v9, val_main_v0]

theorem proj_apply (b : Fin 16) (t : Fin 32) (k : Fin 5376) :
    val_main_v15 (F := Ideal) x g w (ix3 b t k)
      = proj (fun e => x (ix3 b t e)) (fun e => g (ix2 0 e)) (fun e => w (ix3 0 e k)) := by
  unfold proj
  pointwise [val_main_v15, val_main_v14]
  exact Finset.sum_congr rfl fun e _ => by rw [normed_apply]

/-- A row's projection on one column, the rows of both sequences numbered through. -/
def P (R : Fin 512) (k : Fin 5376) : EReal :=
  proj (fun e => x (ix3 ⟨R.val / 32, by omega⟩ ⟨R.val % 32, by omega⟩ e)) (fun e => g (ix2 0 e)) (fun e => w (ix3 0 e k))

theorem P_eq (b : Fin 16) (t : Fin 32) (k k' : Fin 5376) (R : Fin 512) (hR : R.val = b.val * 32 + t.val)
    (hk : k.val = k'.val) : val_main_v15 (F := Ideal) x g w (ix3 b t k) = P x g w R k' := by
  rw [proj_apply, Fin.ext hk, P, show (⟨R.val / 32, by omega⟩ : Fin 16) = b from Fin.ext (by dsimp only; omega),
    show (⟨R.val % 32, by omega⟩ : Fin 32) = t from Fin.ext (by dsimp only; omega)]

theorem attention_apply (R : Fin 512) (k : Fin 1536) :
    val_main_v25 (F := Ideal) x g w (ix2 R k) = P x g w R ⟨k.val, by omega⟩ := by
  pointwise [val_main_v25, val_main_v16]
  exact P_eq x g w _ _ _ _ _ (by dsimp only; omega) rfl

theorem recurrence_apply (R : Fin 512) (k : Fin 1792) :
    val_main_v26 (F := Ideal) x g w (ix2 R k) = P x g w R ⟨1536 + k.val, by omega⟩ := by
  pointwise [val_main_v26, val_main_v17]
  exact P_eq x g w _ _ _ _ _ (by dsimp only; omega) rfl

theorem gate_apply (R : Fin 512) (k : Fin 2048) :
    val_main_v27 (F := Ideal) x g w (ix2 R k) = P x g w R ⟨3328 + k.val, by omega⟩ := by
  pointwise [val_main_v27, val_main_v18]
  exact P_eq x g w _ _ _ _ _ (by dsimp only; omega) rfl

theorem keys_apply (b : Fin 16) (h : Fin 8) (t : Fin 32) (e : Fin 64) :
    val_main_v29 (F := Ideal) x g w (ix5 0 b h t e)
      = P x g w ⟨32 * b.val + t.val, by omega⟩ ⟨512 + 64 * h.val + e.val, by omega⟩ := by
  pointwise [val_main_v29, val_main_v28, val_main_v23, val_main_v20, val_main_v16]
  exact P_eq x g w _ _ _ _ _ (by dsimp only; omega) (by dsimp only; omega)

theorem values_apply (b : Fin 16) (h : Fin 8) (t : Fin 32) (e : Fin 64) :
    val_main_v31 (F := Ideal) x g w (ix5 0 b h t e)
      = P x g w ⟨32 * b.val + t.val, by omega⟩ ⟨1024 + 64 * h.val + e.val, by omega⟩ := by
  pointwise [val_main_v31, val_main_v30, val_main_v24, val_main_v21, val_main_v16]
  exact P_eq x g w _ _ _ _ _ (by dsimp only; omega) (by dsimp only; omega)

theorem shift_apply (b : Fin 16) (k : Fin 1792) :
    val_main_v33 (F := Ideal) x g w (ix4 0 b 0 k)
      = P x g w ⟨32 * b.val + 31, by omega⟩ ⟨1536 + k.val, by omega⟩ := by
  pointwise [val_main_v33, val_main_v32, val_main_v17]
  exact P_eq x g w _ _ _ _ _ (by dsimp only; omega) rfl

end Cert.Reference3Ideal.Proj

end
-- ==== Proof.Sample.lean ====
/- The sample batch's input projection: its claim. -/
module

public import proofs.«01_k».proof.Defs
public import proofs.«01_k».proof.Proof.SampleTail
public import proofs.«01_k».proof.Proof.SampleRef
public import proofs.«01_k».proof.Proof.Gen.Reference3Ideal.Run

@[expose] public section

set_option maxRecDepth 16384

noncomputable section

namespace Cert.Sample

open Idealize.ShloMosaic Idealize.ShloMosaic.TcCoe Idealize.SL.Sem Cert.Kernel3Ideal Cert.Kernel3Ideal.Gen Cert.Kernel3Ideal.Blocks

variable (m : (ℓ : Loc nD τ sig) → Buf (Elt Ideal) ℓ) (ρ : Dev nD → PrngReg)

/-- The run's results. -/
theorem run_results : θ_run Cert.Kernel3Ideal.defs (onTc (τ := τ) (main (F := Ideal))) ⟨m, fun _ => 0, ρ⟩ fun r => ∀ c : Dev nD,
    r.2.mem ((c.tc : Thread nD τ).loc main_v5_0) = outA m c
      ∧ r.2.mem ((c.tc : Thread nD τ).loc main_v5_1) = outB m c
      ∧ r.2.mem ((c.tc : Thread nD τ).loc main_v5_2) = outG m c
      ∧ r.2.mem ((c.tc : Thread nD τ).loc main_v15) = Tail.keys (outA m c)
      ∧ r.2.mem ((c.tc : Thread nD τ).loc main_v16) = Tail.values (outA m c)
      ∧ r.2.mem ((c.tc : Thread nD τ).loc main_v17) = Tail.shift (outB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.Kernel3Ideal.defs _ _).mono (fun _ h c =>
    ⟨((h c).1 3).trans (arr3 m c), ((h c).1 4).trans (arr4 m c), ((h c).1 5).trans (arr5 m c),
      ((h c).2 main_v15 (Pipeline.mem_restRefs_of main_v15 (by decide) (by decide))).trans (Tail.tail_keys m c),
      ((h c).2 main_v16 (Pipeline.mem_restRefs_of main_v16 (by decide) (by decide))).trans (Tail.tail_values m c),
      ((h c).2 main_v17 (Pipeline.mem_restRefs_of main_v17 (by decide) (by decide))).trans (Tail.tail_shift m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

theorem same (c : Dev nD) (R : Fin 512) (k : Fin 5376) :
    Cert.Reference3Ideal.Proj.P (X m c) (G m c) (Wt m c) R k = P m c R k := rfl

variable (c : Dev nD)

theorem attention_eq : Cert.Reference3Ideal.Read.val_main_v25 (F := Ideal) (X m c) (G m c) (Wt m c) = outA m c := by
  funext i
  idx_vars i
  exact (Cert.Reference3Ideal.Proj.attention_apply _ _ _ _ _).trans (same m c _ _)

theorem recurrence_eq : Cert.Reference3Ideal.Read.val_main_v26 (F := Ideal) (X m c) (G m c) (Wt m c) = outB m c := by
  funext i
  idx_vars i
  exact (Cert.Reference3Ideal.Proj.recurrence_apply _ _ _ _ _).trans (same m c _ _)

theorem gate_eq : Cert.Reference3Ideal.Read.val_main_v27 (F := Ideal) (X m c) (G m c) (Wt m c) = outG m c := by
  funext i
  idx_vars i
  exact (Cert.Reference3Ideal.Proj.gate_apply _ _ _ _ _).trans (same m c _ _)

theorem keys_eq : Cert.Reference3Ideal.Read.val_main_v29 (F := Ideal) (X m c) (G m c) (Wt m c) = Tail.keys (outA m c) := by
  funext i
  obtain ⟨b, h, t, e, rfl⟩ : ∃ b h t e, i = ix5 0 b h t e := by
    idx_vars i
    exact ⟨i1, i2, i3, i4, by rw [Subsingleton.elim i0 0]⟩
  exact ((Cert.Reference3Ideal.Proj.keys_apply _ _ _ b h t e).trans (same m c _ _)).trans (Tail.keys_apply m c b h t e).symm

theorem values_eq : Cert.Reference3Ideal.Read.val_main_v31 (F := Ideal) (X m c) (G m c) (Wt m c) = Tail.values (outA m c) := by
  funext i
  obtain ⟨b, h, t, e, rfl⟩ : ∃ b h t e, i = ix5 0 b h t e := by
    idx_vars i
    exact ⟨i1, i2, i3, i4, by rw [Subsingleton.elim i0 0]⟩
  exact ((Cert.Reference3Ideal.Proj.values_apply _ _ _ b h t e).trans (same m c _ _)).trans (Tail.values_apply m c b h t e).symm

theorem shift_eq : Cert.Reference3Ideal.Read.val_main_v33 (F := Ideal) (X m c) (G m c) (Wt m c) = Tail.shift (outB m c) := by
  funext i
  obtain ⟨b, k, rfl⟩ : ∃ b k, i = ix4 0 b 0 k := by
    idx_vars i
    exact ⟨i1, i3, by rw [Subsingleton.elim i0 0, Subsingleton.elim i2 0]⟩
  exact ((Cert.Reference3Ideal.Proj.shift_apply _ _ _ b k).trans (same m c _ _)).trans (Tail.shift_apply m c b k).symm

theorem algebraic : Cert.algebraic_Kernel3Ideal_Reference3Ideal := by
  intro m ρ m' ρ' _ hag
  refine ⟨outA m, outB m, outG m, fun c => Tail.keys (outA m c), fun c => Tail.values (outA m c), fun c => Tail.shift (outB m c),
    run_results m ρ, ?_⟩
  refine (θ_run Cert.Reference3Ideal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.Reference3Ideal.Value.run m' ρ')
  all_goals rw [(hag c).1, (hag c).2.1, (hag c).2.2]
  · exact attention_eq m c
  · exact recurrence_eq m c
  · exact gate_eq m c
  · exact keys_eq m c
  · exact values_eq m c
  · exact shift_eq m c

end Cert.Sample

end
-- ==== Proof.Merge.lean ====
/- The merge of the two branches: the recurrence's output normalised over each head, gated and projected, then the residual. -/
module

public import proofs.«01_k».proof.Proof.Soft
public import proofs.«01_k».proof.Proof.Project

@[expose] public section

noncomputable section

namespace Cert.Merge

open Idealize.ShloMosaic
open Cert.Soft (Real')

/-- The mean of a row over the head a column lies in. -/
def headMean (y : Fin 512 → EReal) (k : Fin 512) : EReal :=
  Ideal.div (∑ e : Fin 64, y ⟨64 * (k.val / 64) + e.val, by omega⟩) (Ideal.ofBits .f32 0x42800000#32)

/-- A row less its head's mean. -/
def dev (y : Fin 512 → EReal) (k : Fin 512) : EReal := y k - headMean y k

/-- The reciprocal of the head's standard deviation. -/
def devScale (y : Fin 512 → EReal) (k : Fin 512) : EReal :=
  Ideal.rsqrt (headMean (fun k => dev y k * dev y k) k + Ideal.ofBits .f32 0x3A27C5AC#32)

/-- The recurrence's branch: the normalised row with its gains, biases and bonus, gated. -/
def branch (y lg lb bonus g : Fin 512 → EReal) (k : Fin 512) : EReal :=
  (dev y k * devScale y k * lg k + lb k + bonus k) * g k

def sigmoid (z : EReal) : EReal :=
  Ideal.div (Ideal.ofBits .f32 0x3F800000#32) (Ideal.ofBits .f32 0x3F800000#32 + Ideal.exp (-z))

/-- The two branches, projected and weighted by their gates. -/
def merged (oa ob : Fin 512 → EReal) (za zb : Fin 1024 → EReal) (wa wb : Fin 512 → Fin 1024 → EReal) (l : Fin 1024) : EReal :=
  sigmoid (za l) * (∑ k : Fin 512, oa k * wa k l) + sigmoid (zb l) * (∑ k : Fin 512, ob k * wb k l)

/-- The residual row. -/
def residue (x u : Fin 1024 → EReal) (wo : Fin 1024 → Fin 1024 → EReal) (j : Fin 1024) : EReal :=
  x j + ∑ l : Fin 1024, u l * wo l j

/-- The residual row divided by its root mean square, with its gains. -/
def normed (r g : Fin 1024 → EReal) (j : Fin 1024) : EReal := r j * Cert.Project.scale r * g j

/-! ## The head's mean as a product with the matrix that is one inside a head and zero outside -/

/-- The mask: one where the two columns lie in one head. -/
def mask (j k : Fin 512) : EReal := if j.val / 64 = k.val / 64 then 1 else 0

/-- The mean the product yields: the row, and what a narrower format loses of it. -/
def maskMean (y : Fin 512 → EReal) (hs : Fin 512 → Fin 512 → EReal) (k : Fin 512) : EReal :=
  ((∑ j : Fin 512, y j * hs j k) + ∑ j : Fin 512, (y j - y j) * hs j k) * Ideal.ofBits .f32 0x3C800000#32

theorem sum_mask (y : Fin 512 → EReal) (k : Fin 512) :
    ∑ j : Fin 512, y j * mask j k = ∑ e : Fin 64, y ⟨64 * (k.val / 64) + e.val, by omega⟩ := by
  have hb : k.val / 64 < 8 := by omega
  rw [← (finProdFinEquiv (m := 8) (n := 64)).sum_comp (fun j : Fin 512 => y j * mask j k), Fintype.sum_prod_type]
  rw [Finset.sum_eq_single (⟨k.val / 64, hb⟩ : Fin 8)]
  · refine Finset.sum_congr rfl fun e _ => ?_
    have hj : (finProdFinEquiv ((⟨k.val / 64, hb⟩ : Fin 8), e) : Fin 512) = ⟨64 * (k.val / 64) + e.val, by omega⟩ :=
      Fin.ext (by simp [finProdFinEquiv]; omega)
    rw [hj, mask, if_pos (by dsimp only; omega), mul_one]
  · intro a _ ha
    refine Finset.sum_eq_zero fun e _ => ?_
    have hv : (finProdFinEquiv (a, e) : Fin 512).val = e.val + 64 * a.val := rfl
    rw [mask, if_neg, mul_zero]
    rw [hv]
    intro h
    exact ha (Fin.ext (by dsimp only; omega))
  · intro h
    exact absurd (Finset.mem_univ _) h

theorem sub_self_of_real {x : EReal} : Real' x → x - x = 0 := by
  rintro ⟨r, rfl⟩
  rw [← EReal.coe_sub, sub_self, EReal.coe_zero]

theorem word_64 : Ideal.ofBits .f32 0x42800000#32 = ((64 : ℝ) : EReal) := by
  simp [Ideal.ofBits, Ideal.ieee]
  norm_num
  rw [← EReal.coe_mul]
  norm_num

theorem word_inv_64 : Ideal.ofBits .f32 0x3C800000#32 = (((64 : ℝ)⁻¹ : ℝ) : EReal) := by
  simp [Ideal.ofBits, Ideal.ieee]
  norm_num
  rw [← EReal.coe_mul]
  norm_num

theorem div_64 (x : EReal) : Ideal.div x (Ideal.ofBits .f32 0x42800000#32) = x * Ideal.ofBits .f32 0x3C800000#32 := by
  rw [word_64, word_inv_64, EReal.coe_inv]
  unfold Ideal.div
  rw [if_neg (by simp)]

theorem maskMean_eq (y : Fin 512 → EReal) (hy : ∀ k, Real' (y k)) (k : Fin 512) : maskMean y mask k = headMean y k := by
  unfold maskMean headMean
  rw [sum_mask, div_64, Finset.sum_eq_zero (s := Finset.univ) (f := fun j => (y j - y j) * mask j k), add_zero]
  intro j _
  rw [sub_self_of_real (hy j), zero_mul]

theorem real_headMean (y : Fin 512 → EReal) (hy : ∀ k, Real' (y k)) (k : Fin 512) : Real' (headMean y k) := by
  unfold headMean
  rw [div_64, word_inv_64]
  exact (Real'.sum _ _ fun e _ => hy _).mul ⟨_, rfl⟩

theorem real_dev (y : Fin 512 → EReal) (hy : ∀ k, Real' (y k)) (k : Fin 512) : Real' (dev y k) := by
  obtain ⟨a, ha⟩ := hy k
  obtain ⟨b, hb⟩ := real_headMean y hy k
  exact ⟨a - b, by rw [dev, ha, hb, EReal.coe_sub]⟩

/-- A row less its head's mean, the mean taken by the product. -/
def maskDev (y : Fin 512 → EReal) (hs : Fin 512 → Fin 512 → EReal) (k : Fin 512) : EReal := y k - maskMean y hs k

def maskScale (d : Fin 512 → EReal) (hs : Fin 512 → Fin 512 → EReal) (k : Fin 512) : EReal :=
  Ideal.rsqrt (maskMean (fun k => d k * d k) hs k + Ideal.ofBits .f32 0x3A27C5AC#32)

theorem maskDev_eq (y : Fin 512 → EReal) (hy : ∀ k, Real' (y k)) : maskDev y mask = dev y :=
  funext fun k => by rw [maskDev, maskMean_eq y hy, dev]

theorem maskScale_eq (y : Fin 512 → EReal) (hy : ∀ k, Real' (y k)) : maskScale (dev y) mask = devScale y :=
  funext fun k => by rw [maskScale, maskMean_eq _ fun k => (real_dev y hy k).mul (real_dev y hy k), devScale]

end Cert.Merge

end
-- ==== Proof.MergeBlock.lean ====
/- What one grid step of the merge kernel leaves of its first two results, from the blocks it reads. -/
module

public import proofs.«01_k».proof.Proof.Merge
public import proofs.«01_k».proof.Proof.Gen.Kernel4Ideal.Frame
public import Idealize.ShloMosaic.Lib.Pipeline.Value
public import Idealize.ShloMosaic.Lib.Claim
public import Idealize.ShloMosaic.Lib.Pipeline.ValueKit.Tiles
public import Idealize.ShloMosaic.Lib.Pipeline.ValueKit.Point

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Cert.Merge

/-! ## The step's values as whole blocks -/

/-- The rows of one pair of heads. -/
def pair (p : Fin 4) (y : Vec Ideal S4x2x1x128x128 .f32) : Vec Ideal S1x2x1x128x128 .f32 := fun i => y (ix5 p (i 1) 0 (i 3) (i 4))

/-- The gates' columns of either branch. -/
def gates (o : ℕ) (ho : o + 1024 ≤ 2048) (z : Vec Ideal S256x2048 .f32) : Vec Ideal S256x1024 .f32 :=
  fun i => z (ix2 (i 0) ⟨o + (i 1).val, by have h : (i 1).val < 1024 := (i 1).isLt; omega⟩)

variable (c : Dev nD)
  (i : grid0.Coords) (arg1 : Memref sig .tc .vmem S256x1024 .f32) (harg1 : arg1.IsWhole)
   (arg2 : Memref sig .tc .vmem S256x512 .f32) (harg2 : arg2.IsWhole) (arg3 : Memref sig .tc .vmem S4x2x1x128x128 .f32)
   (harg3 : arg3.IsWhole) (arg4 : Memref sig .tc .vmem S256x512 .f32) (harg4 : arg4.IsWhole)
   (arg5 : Memref sig .tc .vmem S256x512 .f32) (harg5 : arg5.IsWhole) (arg6 : Memref sig .tc .vmem S256x2048 .f32)
   (harg6 : arg6.IsWhole) (arg7 : Memref sig .tc .vmem S1x512 .f32) (harg7 : arg7.IsWhole)
   (arg8 : Memref sig .tc .vmem S1x512 .f32) (harg8 : arg8.IsWhole) (arg9 : Memref sig .tc .vmem S512x512 .bf16)
   (harg9 : arg9.IsWhole) (arg10 : Memref sig .tc .vmem S512x1024 .bf16) (harg10 : arg10.IsWhole)
   (arg11 : Memref sig .tc .vmem S512x1024 .bf16) (harg11 : arg11.IsWhole) (arg12 : Memref sig .tc .vmem S1024x1024 .bf16)
   (harg12 : arg12.IsWhole) (arg13 : Memref sig .tc .vmem S1x1024 .f32) (harg13 : arg13.IsWhole)
   (arg14 : Memref sig .tc .vmem S2048x1024 .bf16) (harg14 : arg14.IsWhole) (arg15 : Memref sig .tc .vmem S2048x1024 .bf16)
   (harg15 : arg15.IsWhole) (arg16 : Memref sig .tc .vmem S256x8x128 .f32) (harg16 : arg16.IsWhole)
   (arg17 : Memref sig .tc .vmem S256x8x128 .f32) (harg17 : arg17.IsWhole) (arg18 : Memref sig .tc .vmem S256x128 .i32)
   (harg18 : arg18.IsWhole) (arg19 : Memref sig .tc .vmem S128x256 .f32) (harg19 : arg19.IsWhole)
   (arg20 : Memref sig .tc .vmem S2048x256 .f32) (harg20 : arg20.IsWhole) (arg21 : Memref sig .tc .vmem S128x256 .i32)
   (harg21 : arg21.IsWhole)
  (x0 : Vec Ideal S256x1024 .f32) (x1 : Vec Ideal S256x512 .f32) (x2 : Vec Ideal S4x2x1x128x128 .f32)
   (x3 : Vec Ideal S256x512 .f32) (x4 : Vec Ideal S256x512 .f32) (x5 : Vec Ideal S256x2048 .f32) (x6 : Vec Ideal S1x512 .f32)
   (x7 : Vec Ideal S1x512 .f32) (x8 : Vec Ideal S512x512 .bf16) (x9 : Vec Ideal S512x1024 .bf16)
   (x10 : Vec Ideal S512x1024 .bf16) (x11 : Vec Ideal S1024x1024 .bf16) (x12 : Vec Ideal S1x1024 .f32)
   (x13 : Vec Ideal S2048x1024 .bf16) (x14 : Vec Ideal S2048x1024 .bf16)

def D : FVec Ideal S256x512 .f32 := k0_pay161 (pair 0 x2) (pair 1 x2) (pair 2 x2) (pair 3 x2) x8

def B : FVec Ideal S256x1024 .f32 :=
  k0_pay167 (D x2 x8) (k0_pay163 x8) (k0_pay164 (pair 0 x2) (pair 1 x2) (pair 2 x2) (pair 3 x2) x8)
    (k0_pay165 (pair 0 x2) (pair 1 x2) (pair 2 x2) (pair 3 x2) x8) x6 x7 x3 x4 x10

def X1 : FVec Ideal S256x1024 .f32 :=
  k0_pay169 (k0_pay166 x1 x9) (B x2 x3 x4 x6 x7 x8 x10) (k0_pay168 (gates 0 (by omega) x5)) (gates 1024 (by omega) x5) x0 x11

def HN : FVec Ideal S256x1024 .f32 :=
  k0_pay170 (k0_pay166 x1 x9) (B x2 x3 x4 x6 x7 x8 x10) (k0_pay168 (gates 0 (by omega) x5)) (gates 1024 (by omega) x5) x0 x11 x12

/-! ## The step's stores: eight strips of 128 columns -/

theorem strip (X : FVec Ideal S256x1024 .f32) (w : S256x1x128.Idx → EReal) (o : Fin 8) (r : Fin 256) (s : Fin 8) (l : Fin 128)
    (hw : ∀ (r : Fin 256) (l : Fin 128), w (ix3 r 0 l) = X (ix2 r ⟨128 * o.val + l.val, by omega⟩)) :
    View.TileAt (Val := Elt Ideal) (e := .f32) (S := S256x8x128) (ix3 r s l) ![0, o.val, 0] S256x1x128.size w
      (X (ix2 r ⟨128 * s.val + l.val, by omega⟩)) := by
  intro x hx
  have h0 : (r : ℕ) = 0 + (x 0).val := hx 0
  have h1 : (s : ℕ) = o.val + (x 1).val := hx 1
  have h2 : (l : ℕ) = 0 + (x 2).val := hx 2
  have h3 : (x 1).val < 1 := (x 1).isLt
  have e : x = (ix3 r 0 l : S256x1x128.Idx) := by
    funext a
    match a with
    | ⟨0, _⟩ => exact Fin.ext (h0.trans (Nat.zero_add _)).symm
    | ⟨1, _⟩ => exact Fin.ext (by show (x 1).val = 0; omega)
    | ⟨2, _⟩ => exact Fin.ext (h2.trans (Nat.zero_add _)).symm
  rw [e]
  refine (hw r l).trans (congrArg (fun k => X (ix2 r k)) (Fin.ext ?_))
  dsimp only
  omega

/-! ## The step's loads -/

theorem zero2 : (![0, 0] : Fin 2 → ℕ) = fun _ => 0 := by
  funext a
  match a with
  | ⟨0, _⟩ => rfl
  | ⟨1, _⟩ => rfl

theorem load_pair (p : Fin 4) (off : Fin 5 → ℕ) (hoff : off = ![p.val, 0, 0, 0, 0]) (y : Vec Ideal S4x2x1x128x128 .f32)
    (inb : ∀ a, off a + S1x2x1x128x128.size a ≤ S4x2x1x128x128.size a) :
    View.ld (Val := Elt Ideal) (e' := .f32) (S := S4x2x1x128x128) y (Rect.unit off ![1, 2, 1, 128, 128] inb) = pair p y := by
  subst hoff
  funext x
  refine View.ld_unit_apply_of (Val := Elt Ideal) (e := .f32) (S := S4x2x1x128x128) y _ _ inb x _ fun a => ?_
  have h0 : (x 0).val < 1 := (x 0).isLt
  have h2 : (x 2).val < 1 := (x 2).isLt
  match a with
  | ⟨0, _⟩ => show p.val = p.val + (x 0).val; omega
  | ⟨1, _⟩ => exact (Nat.zero_add _).symm
  | ⟨2, _⟩ => show 0 = 0 + (x 2).val; omega
  | ⟨3, _⟩ => exact (Nat.zero_add _).symm
  | ⟨4, _⟩ => exact (Nat.zero_add _).symm

theorem load_gates (o : ℕ) (ho : o + 1024 ≤ 2048) (z : Vec Ideal S256x2048 .f32)
    (inb : ∀ a, (![0, o] : Fin 2 → ℕ) a + S256x1024.size a ≤ S256x2048.size a) :
    View.ld (Val := Elt Ideal) (e' := .f32) (S := S256x2048) z (Rect.unit ![0, o] S256x1024.size inb) = gates o ho z := by
  funext x
  refine View.ld_unit_apply_of (Val := Elt Ideal) (e := .f32) (S := S256x2048) z _ _ inb x _ fun a => ?_
  match a with
  | ⟨0, _⟩ => exact (Nat.zero_add _).symm
  | ⟨1, _⟩ => rfl

theorem projA_eq : kernelRun0_A.sl.r_4 c arg2 harg2 arg10 harg10 x1 x9 = k0_pay166 x1 x9 := by
  sl_unfold_words
  simp only [View.readAt_eq_ld, Memref.IsWhole.read_unread, View.ld_unit_zero (S := S256x512) zero2,
    View.ld_unit_zero (S := S512x1024) zero2]
  all_goals rfl

theorem projB_eq : kernelRun0_A.sl.r_5 c arg3 harg3 arg4 harg4 arg5 harg5 arg7 harg7 arg8 harg8 arg9 harg9 arg11 harg11 x2 x3 x4
    x6 x7 x8 x10 = B x2 x3 x4 x6 x7 x8 x10 := by
  sl_unfold_words
  simp only [View.readAt_eq_ld, Memref.IsWhole.read_unread, View.ld_unit_zero (S := S256x512) zero2,
    View.ld_unit_zero (S := S512x1024) zero2, View.ld_unit_zero (S := S1x512) zero2, View.ld_unit_zero (S := S512x512) zero2]
  rw [load_pair 0 ![0, 0, 0, 0, 0] rfl, load_pair 1 ![1, 0, 0, 0, 0] rfl,
    load_pair 2 ![2, 0, 0, 0, 0] rfl, load_pair 3 ![3, 0, 0, 0, 0] rfl]
  all_goals rfl

theorem gateA_eq : kernelRun0_A.sl.r_6 c arg6 harg6 x5 = k0_pay168 (gates 0 (by omega) x5) := by
  sl_unfold_words
  simp only [View.readAt_eq_ld, Memref.IsWhole.read_unread]
  rw [load_gates 0 (by omega)]

theorem gateB_eq : View.readAt (Elt Ideal) arg6.view (Rect.unit (s := S256x2048) ![0, 1024] S256x1024.size inb_S256x2048_S256x1024_0_1024).toLoadRect
    (harg6.unread x5) = gates 1024 (by omega) x5 := by
  rw [View.readAt_eq_ld, harg6.read_unread, load_gates 1024 (by omega)]

theorem x1_eq : kernelRun0_A.sl.r_7 c arg1 harg1 arg2 harg2 arg3 harg3 arg4 harg4 arg5 harg5 arg6 harg6 arg7 harg7 arg8 harg8
        arg9 harg9 arg10 harg10 arg11 harg11 arg12 harg12 x0 x1 x2 x3 x4 x5 x6 x7 x8 x9 x10 x11 = X1 x0 x1 x2 x3 x4 x5
        x6 x7 x8 x9 x10 x11 := by
  unfold kernelRun0_A.sl.r_7
  rw [projA_eq, projB_eq, gateA_eq, gateB_eq]
  simp only [View.readAt_eq_ld, Memref.IsWhole.read_unread, View.ld_unit_zero (S := S256x1024) zero2,
    View.ld_unit_zero (S := S1024x1024) zero2]
  rfl

theorem hn_eq : kernelRun0_A.sl.r_8 c arg1 harg1 arg2 harg2 arg3 harg3 arg4 harg4 arg5 harg5 arg6 harg6 arg7 harg7 arg8 harg8
        arg9 harg9 arg10 harg10 arg11 harg11 arg12 harg12 arg13 harg13 x0 x1 x2 x3 x4 x5 x6 x7 x8 x9 x10 x11 x12 = HN
        x0 x1 x2 x3 x4 x5 x6 x7 x8 x9 x10 x11 x12 := by
  unfold kernelRun0_A.sl.r_8
  rw [projA_eq, projB_eq, gateA_eq, gateB_eq]
  simp only [View.readAt_eq_ld, Memref.IsWhole.read_unread, View.ld_unit_zero (S := S256x1024) zero2,
    View.ld_unit_zero (S := S1024x1024) zero2, View.ld_unit_zero (S := S1x1024) zero2]
  rfl

/-- The step's first result, from its blocks. -/
theorem out15_apply (r : Fin 256) (s : Fin 8) (l : Fin 128) :
    out0_A_15 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14 (ix3 r s l) = X1 x0 x1 x2 x3 x4 x5 x6 x7 x8 x9 x10 x11 (ix2 r ⟨128 * s.val + l.val, by omega⟩) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14)]
  refine View.canon_eq_of_allAt _ _ _ (cover0_A_15 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14 _) ?_
  unfold kernelRun0_A
  dsimp only
  unfold kernelRun0_A.sl.H15_8 kernelRun0_A.sl.r_10
  rw [x1_eq, projA_eq, projB_eq, gateA_eq, gateB_eq]
  simp only [View.readAt_eq_ld, Memref.IsWhole.read_unread, View.ld_unit_zero (S := S256x1024) zero2,
    View.ld_unit_zero (S := S1024x1024) zero2]
  refine View.allAt_cons_unit _ _ _ _ _ (strip _ _ 7 r s l fun r l => by pointwise [k0_pay187]) ?_
  refine View.allAt_cons_unit _ _ _ _ _ (strip _ _ 6 r s l fun r l => by pointwise [k0_pay185]) ?_
  refine View.allAt_cons_unit _ _ _ _ _ (strip _ _ 5 r s l fun r l => by pointwise [k0_pay183]) ?_
  refine View.allAt_cons_unit _ _ _ _ _ (strip _ _ 4 r s l fun r l => by pointwise [k0_pay181, k0_pay180]) ?_
  refine View.allAt_cons_unit _ _ _ _ _ (strip _ _ 3 r s l fun r l => by pointwise [k0_pay178]) ?_
  refine View.allAt_cons_unit _ _ _ _ _ (strip _ _ 2 r s l fun r l => by pointwise [k0_pay176]) ?_
  refine View.allAt_cons_unit _ _ _ _ _ (strip _ _ 1 r s l fun r l => by pointwise [k0_pay174]) ?_
  refine View.allAt_cons_unit _ _ _ _ _ (strip _ _ 0 r s l fun r l => by pointwise [k0_pay171, X1]) ?_
  exact View.allAt_nil _ _

/-- The step's second result, from its blocks. -/
theorem out16_apply (r : Fin 256) (s : Fin 8) (l : Fin 128) :
    out0_A_16 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14 (ix3 r s l) = HN x0 x1 x2 x3 x4 x5 x6 x7 x8 x9 x10 x11 x12 (ix2 r ⟨128 * s.val + l.val, by omega⟩) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14)]
  refine View.canon_eq_of_allAt _ _ _ (cover0_A_16 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 x0 x1 x2 x3 x4 x5 x6 x7 x8 x9 x10 x11 x12 x13 x14 _) ?_
  unfold kernelRun0_A
  dsimp only
  unfold kernelRun0_A.sl.H16_8 kernelRun0_A.sl.r_9
  rw [hn_eq, projA_eq, projB_eq, gateA_eq, gateB_eq]
  simp only [View.readAt_eq_ld, Memref.IsWhole.read_unread, View.ld_unit_zero (S := S256x1024) zero2,
    View.ld_unit_zero (S := S1024x1024) zero2, View.ld_unit_zero (S := S1x1024) zero2]
  refine View.allAt_cons_unit _ _ _ _ _ (strip _ _ 7 r s l fun r l => by pointwise [k0_pay188]) ?_
  refine View.allAt_cons_unit _ _ _ _ _ (strip _ _ 6 r s l fun r l => by pointwise [k0_pay186]) ?_
  refine View.allAt_cons_unit _ _ _ _ _ (strip _ _ 5 r s l fun r l => by pointwise [k0_pay184]) ?_
  refine View.allAt_cons_unit _ _ _ _ _ (strip _ _ 4 r s l fun r l => by pointwise [k0_pay182]) ?_
  refine View.allAt_cons_unit _ _ _ _ _ (strip _ _ 3 r s l fun r l => by pointwise [k0_pay179]) ?_
  refine View.allAt_cons_unit _ _ _ _ _ (strip _ _ 2 r s l fun r l => by pointwise [k0_pay177]) ?_
  refine View.allAt_cons_unit _ _ _ _ _ (strip _ _ 1 r s l fun r l => by pointwise [k0_pay175]) ?_
  refine View.allAt_cons_unit _ _ _ _ _ (strip _ _ 0 r s l fun r l => by pointwise [k0_pay173, k0_pay172, HN]) ?_
  exact View.allAt_nil _ _

end Cert.Kernel4Ideal.Block

end
-- ==== Proof.MergeStep.lean ====
/- One grid step of the merge kernel as the mathematics of its rows. -/
module

public import proofs.«01_k».proof.Proof.MergeBlock

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Cert.Merge

variable (x0 : Vec Ideal S256x1024 .f32) (x1 : Vec Ideal S256x512 .f32) (x2 : Vec Ideal S4x2x1x128x128 .f32)
  (x3 : Vec Ideal S256x512 .f32) (x4 : Vec Ideal S256x512 .f32) (x5 : Vec Ideal S256x2048 .f32) (x6 : Vec Ideal S1x512 .f32)
  (x7 : Vec Ideal S1x512 .f32) (x8 : Vec Ideal S512x512 .bf16) (x9 : Vec Ideal S512x1024 .bf16) (x10 : Vec Ideal S512x1024 .bf16)
  (x11 : Vec Ideal S1024x1024 .bf16) (x12 : Vec Ideal S1x1024 .f32)

/-- A row of the step's block of the recurrence's output. -/
def yRow (r : Fin 256) (k : Fin 512) : EReal :=
  x2 (ix5 ⟨k.val / 128, by omega⟩ ⟨r.val / 128, by omega⟩ 0 ⟨r.val % 128, by omega⟩ ⟨k.val % 128, by omega⟩)

/-- The pairs of heads side by side. -/
def rows : FVec Ideal S256x512 .f32 :=
  concatenate S256x512 1
    [⟨S256x128, shapeCast S256x128 (shapeCast S2x1x128x128 (pair 0 x2) shapeCasts_S1x2x1x128x128_S2x1x128x128) shapeCasts_S2x1x128x128_S256x128⟩,
      ⟨S256x128, shapeCast S256x128 (shapeCast S2x1x128x128 (pair 1 x2) shapeCasts_S1x2x1x128x128_S2x1x128x128) shapeCasts_S2x1x128x128_S256x128⟩,
      ⟨S256x128, shapeCast S256x128 (shapeCast S2x1x128x128 (pair 2 x2) shapeCasts_S1x2x1x128x128_S2x1x128x128) shapeCasts_S2x1x128x128_S256x128⟩,
      ⟨S256x128, shapeCast S256x128 (shapeCast S2x1x128x128 (pair 3 x2) shapeCasts_S1x2x1x128x128_S2x1x128x128) shapeCasts_S2x1x128x128_S256x128⟩]
    concatenates_S256x128_S256x128_S256x128_S256x128_S256x512_d1

theorem rows_apply (r : Fin 256) (k : Fin 512) : rows x2 (ix2 r k) = yRow x2 r k := by
  have e : ∀ (p : Fin 4) (l : Fin 128), k.val = 128 * p.val + l.val →
      pair p x2 (ix5 0 ⟨r.val / 128, by omega⟩ 0 ⟨r.val % 128, by omega⟩ l) = yRow x2 r k := by
    intro p l h
    have h0 : p = ⟨k.val / 128, by omega⟩ := Fin.ext (by dsimp only; omega)
    have h1 : l = ⟨k.val % 128, by omega⟩ := Fin.ext (by dsimp only; omega)
    exact congrArg₂ (fun a b => x2 (ix5 a _ 0 _ b)) h0 h1
  pointwise [rows]
  split
  · exact e 0 _ (by dsimp only; omega)
  · split
    · exact e 1 _ (by dsimp only; omega)
    · split
      · exact e 2 _ (by dsimp only; omega)
      · exact e 3 _ (by dsimp only; omega)

theorem D_apply (r : Fin 256) (k : Fin 512) : D x2 x8 (ix2 r k) = maskDev (yRow x2 r) (fun j k => x8 (ix2 j k)) k := by
  have e : D x2 x8 = subf (rows x2) (mulf (addf (matmul (φ₂ := .bf16) dot_S256x512_S512x512_S256x512_1_0_0_1_n_n none (truncf .bf16 (rows x2) bitsLt_bf16_f32)
      x8 (constant S256x512 .f32 0x00000000#32)) (matmul (φ₂ := .bf16) dot_S256x512_S512x512_S256x512_1_0_0_1_n_n none
      (truncf .bf16 (subf (rows x2) (rows x2)) bitsLt_bf16_f32) x8 (constant S256x512 .f32 0x00000000#32)))
      (broadcast S256x512 (Ideal.ofBits .f32 0x3C800000#32))) := by
    unfold D k0_pay161
    dsimp only
    rw [shapeCast_self]
    rfl
  rw [e]
  unfold maskDev maskMean
  pointwise [rows_apply]

theorem B_apply (r : Fin 256) (l : Fin 1024) :
    B x2 x3 x4 x6 x7 x8 x10 (ix2 r l)
      = ∑ k : Fin 512, (maskDev (yRow x2 r) (fun j k => x8 (ix2 j k)) k
          * maskScale (maskDev (yRow x2 r) (fun j k => x8 (ix2 j k))) (fun j k => x8 (ix2 j k)) k * x6 (ix2 0 k) + x7 (ix2 0 k)
          + x3 (ix2 r k)) * x4 (ix2 r k) * x10 (ix2 k l) := by
  have e1 : k0_pay164 (pair 0 x2) (pair 1 x2) (pair 2 x2) (pair 3 x2) x8 = mulf (D x2 x8) (D x2 x8) := rfl
  have e2 : k0_pay165 (pair 0 x2) (pair 1 x2) (pair 2 x2) (pair 3 x2) x8
      = subf (mulf (D x2 x8) (D x2 x8)) (mulf (D x2 x8) (D x2 x8)) := rfl
  unfold B
  rw [e1, e2]
  unfold maskScale maskMean
  pointwise [k0_pay167, k0_pay163, D_apply]

theorem X1_apply (r : Fin 256) (j : Fin 1024) :
    X1 x0 x1 x2 x3 x4 x5 x6 x7 x8 x9 x10 x11 (ix2 r j)
      = x0 (ix2 r j) + ∑ l : Fin 1024, (sigmoid (x5 (ix2 r ⟨l.val, by omega⟩)) * (∑ k : Fin 512, x1 (ix2 r k) * x9 (ix2 k l))
          + sigmoid (x5 (ix2 r ⟨1024 + l.val, by omega⟩)) * B x2 x3 x4 x6 x7 x8 x10 (ix2 r l)) * x11 (ix2 l j) := by
  unfold sigmoid
  pointwise [X1, k0_pay169, k0_pay166, k0_pay168, gates]
  simp only [zero_sub]

theorem HN_apply (r : Fin 256) (j : Fin 1024) :
    HN x0 x1 x2 x3 x4 x5 x6 x7 x8 x9 x10 x11 x12 (ix2 r j)
      = normed (fun j => X1 x0 x1 x2 x3 x4 x5 x6 x7 x8 x9 x10 x11 (ix2 r j)) (fun j => x12 (ix2 0 j)) j := by
  have e : HN x0 x1 x2 x3 x4 x5 x6 x7 x8 x9 x10 x11 x12 = k0_pay170 (k0_pay166 x1 x9) (B x2 x3 x4 x6 x7 x8 x10)
    (k0_pay168 (gates 0 (by omega) x5)) (gates 1024 (by omega) x5) x0 x11 x12 := rfl
  have e' : k0_pay169 (k0_pay166 x1 x9) (B x2 x3 x4 x6 x7 x8 x10) (k0_pay168 (gates 0 (by omega) x5)) (gates 1024 (by omega) x5) x0 x11
    = X1 x0 x1 x2 x3 x4 x5 x6 x7 x8 x9 x10 x11 := rfl
  unfold normed Cert.Project.scale
  rw [e]
  unfold k0_pay170
  dsimp only
  rw [e']
  generalize X1 x0 x1 x2 x3 x4 x5 x6 x7 x8 x9 x10 x11 = X
  pointwise

end Cert.Kernel4Ideal.Block

end
-- ==== Proof.MergeHost.lean ====
/- The arrays the merge kernel's host operations hand to its region. -/
module

public import proofs.«01_k».proof.Proof.Merge
public import proofs.«01_k».proof.Proof.Gen.Kernel4Ideal.Frame
public import Idealize.ShloMosaic.Lib.Pipeline.Value
public import Idealize.ShloMosaic.Lib.Claim
public import Idealize.ShloMosaic.Lib.Pipeline.ValueKit.Point

@[expose] public section

set_option maxRecDepth 16384

noncomputable section

namespace Cert.Kernel4Ideal.Host

open Cert.Kernel4Ideal Cert.Kernel4Ideal.Gen Idealize.ShloMosaic Idealize.ShloMosaic.TcCoe Idealize.SL.Sem
open Cert.Merge

variable (m : (ℓ : Loc nD τ sig) → Buf (Elt Ideal) ℓ) (c : Dev nD)

/-- The argument arrays. -/
abbrev X : Vec Ideal S2x16384x1024 .f32 := m ((c : Thread nD τ).loc main_arg0)
abbrev OA : Vec Ideal S32768x512 .f32 := m ((c : Thread nD τ).loc main_arg1)
abbrev Y : Vec Ideal S4x128x2x128x128 .f32 := m ((c : Thread nD τ).loc main_arg2)
abbrev Bonus : Vec Ideal S32768x512 .f32 := m ((c : Thread nD τ).loc main_arg3)
abbrev G : Vec Ideal S32768x512 .f32 := m ((c : Thread nD τ).loc main_arg4)
abbrev Zg : Vec Ideal S32768x2048 .f32 := m ((c : Thread nD τ).loc main_arg5)
abbrev Lg : Vec Ideal S1x512 .f32 := m ((c : Thread nD τ).loc main_arg6)
abbrev Lb : Vec Ideal S1x512 .f32 := m ((c : Thread nD τ).loc main_arg7)
abbrev Wa : Vec Ideal S1x512x1024 .f32 := m ((c : Thread nD τ).loc main_arg8)
abbrev Wb : Vec Ideal S1x512x1024 .f32 := m ((c : Thread nD τ).loc main_arg9)
abbrev Wo : Vec Ideal S1x1024x1024 .f32 := m ((c : Thread nD τ).loc main_arg10)
abbrev Ng : Vec Ideal S1x1024 .f32 := m ((c : Thread nD τ).loc main_arg11)

theorem V_x : V m c main_v25 = shapeCast S32768x1024 (X m c) shapeCasts_S2x16384x1024_S32768x1024 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_lg : V m c main_v2 = shapeCast S1x512 (shapeCast S512 (Lg m c) shapeCasts_S1x512_S512) shapeCasts_S512_S1x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_lb : V m c main_v4 = shapeCast S1x512 (shapeCast S512 (Lb m c) shapeCasts_S1x512_S512) shapeCasts_S512_S1x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_wa : V m c main_v15 = truncf (F := Ideal) (φ := .f32) .bf16
    (shapeCast S512x1024 (Wa m c) shapeCasts_S1x512x1024_S512x1024) bitsLt_bf16_f32 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_wb : V m c main_v17 = truncf (F := Ideal) (φ := .f32) .bf16
    (shapeCast S512x1024 (Wb m c) shapeCasts_S1x512x1024_S512x1024) bitsLt_bf16_f32 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_wo : V m c main_v19 = truncf (F := Ideal) (φ := .f32) .bf16
    (shapeCast S1024x1024 (Wo m c) shapeCasts_S1x1024x1024_S1024x1024) bitsLt_bf16_f32 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_ng : V m c main_v21 = shapeCast S1x1024 (shapeCast S1024 (Ng m c) shapeCasts_S1x1024_S1024) shapeCasts_S1024_S1x1024 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

/-- The head a column lies in, as the host computes it. -/
def heads : IVec S512 32 :=
  let i : IVec S512 32 := iotaInDim S512 32 0
  let d : IVec S_ 32 := constantI S_ 32 64#32
  let e : IVec S512 32 := broadcastInDim S512 ![] bcast_S_S512 d
  let q : IVec S512 32 := Host.divsi i e
  select (andi (cmpi .ne (signi i) (broadcastInDim S512 ![] bcast_S_S512 (signi d)))
    (cmpi .ne (Host.remsi i e) (broadcastInDim S512 ![] bcast_S_S512 (constantI S_ 32 0#32))))
    (subi q (broadcastInDim S512 ![] bcast_S_S512 (constantI S_ 32 1#32))) q

def maskArray : FVec Ideal S512x512 .f32 :=
  select (cmpi .eq (broadcastInDim S512x512 ![0, 1] bcast_S512x1_S512x512_0_1 (broadcastInDim S512x1 ![0] bcast_S512_S512x1_0 heads))
      (broadcastInDim S512x512 ![0, 1] bcast_S1x512_S512x512_0_1 (broadcastInDim S1x512 ![1] bcast_S512_S1x512_1 heads)))
    (broadcastInDim S512x512 ![] bcast_S_S512x512 (constant (F := Ideal) S_ .f32 0x3F800000#32))
    (broadcastInDim S512x512 ![] bcast_S_S512x512 (constant (F := Ideal) S_ .f32 0x00000000#32))

theorem V_mask : V m c main_v13 = maskArray := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem heads_apply : ∀ k : Fin 512, heads (ix1 k) = BitVec.ofNat 32 (k.val / 64) := by
  decide +kernel

theorem word_eq (a b : ℕ) (ha : a < 8) (hb : b < 8) : (BitVec.ofNat 32 a == BitVec.ofNat 32 b) = decide (a = b) := by
  interval_cases a <;> interval_cases b <;> rfl

theorem mask_apply (j k : Fin 512) : maskArray (ix2 j k) = mask j k := by
  pointwise [maskArray, heads_apply]
  unfold Scalar.select IntOp.cmpi mask
  rw [word_eq _ _ (by omega) (by omega)]
  by_cases h : j.val / 64 = k.val / 64
  · simp [h]
  · simp [h]

end Cert.Kernel4Ideal.Host

end
-- ==== Proof.MergeRef.lean ====
/- The merge's reference read at an index. -/
module

public import proofs.«01_k».proof.Proof.Merge
public import proofs.«01_k».proof.Proof.Gen.Reference4Ideal.Read
public import Idealize.ShloMosaic.Lib.Pointwise
public import Idealize.ShloMosaic.Lib.KernelVsHost

@[expose] public section

set_option maxRecDepth 16384

noncomputable section

namespace Cert.Reference4Ideal.Merge

open Cert.Reference4Ideal Cert.Reference4Ideal.Gen Cert.Reference4Ideal.Read Idealize.ShloMosaic Idealize.ShloMosaic.TcCoe
  Idealize.SL.Sem
open Cert.Merge

variable (x : Vec Ideal S2x16384x1024 .f32) (oa : Vec Ideal S32768x512 .f32) (y : Vec Ideal S4x128x2x128x128 .f32)
  (bonus : Vec Ideal S32768x512 .f32) (g : Vec Ideal S32768x512 .f32) (zg : Vec Ideal S32768x2048 .f32)
  (lg : Vec Ideal S1x512 .f32) (lb : Vec Ideal S1x512 .f32) (wa : Vec Ideal S1x512x1024 .f32) (wb : Vec Ideal S1x512x1024 .f32)
  (wo : Vec Ideal S1x1024x1024 .f32) (ng : Vec Ideal S1x1024 .f32)

/-- A row of the recurrence's output. -/
def yRow (b : Fin 2) (t : Fin 16384) (k : Fin 512) : EReal :=
  y (ix5 ⟨k.val / 128, by omega⟩ ⟨t.val / 128, by omega⟩ b ⟨t.val % 128, by omega⟩ ⟨k.val % 128, by omega⟩)

/-- A row of an array of the rows of both sequences. -/
def at2 {n : ℕ} (a : Vec Ideal ⟨2, ![32768, n]⟩ .f32) (b : Fin 2) (t : Fin 16384) (k : Fin n) : EReal :=
  a (ix2 ⟨b.val * 16384 + t.val, by omega⟩ k)

theorem y_eq {a a' : Fin 4} {c c' : Fin 128} {b b' : Fin 2} {t t' e e' : Fin 128} (h0 : a.val = a'.val) (h1 : c.val = c'.val)
    (h2 : b.val = b'.val) (h3 : t.val = t'.val) (h4 : e.val = e'.val) : y (ix5 a c b t e) = y (ix5 a' c' b' t' e') := by
  rw [Fin.ext h0, Fin.ext h1, Fin.ext h2, Fin.ext h3, Fin.ext h4]

theorem y_apply (b : Fin 2) (t : Fin 16384) (h : Fin 8) (e : Fin 64) :
    val_main_v1 (F := Ideal) y (ix4 b t h e) = yRow y b t ⟨64 * h.val + e.val, by omega⟩ := by
  pointwise [val_main_v1, val_main_v0]
  exact y_eq y (by dsimp only <;> omega) (by dsimp only <;> omega) (by dsimp only <;> omega) (by dsimp only <;> omega) (by dsimp only <;> omega)

theorem mean_eq (f : Fin 512 → EReal) (h : Fin 8) (e : Fin 64) :
    headMean f ⟨64 * h.val + e.val, by omega⟩
      = Ideal.div (∑ e : Fin 64, f ⟨64 * h.val + e.val, by omega⟩) (Ideal.ofBits .f32 0x42800000#32) := by
  unfold headMean
  refine congrArg (Ideal.div · _) (Finset.sum_congr rfl fun e' _ => congrArg f (Fin.ext ?_))
  dsimp only
  omega

theorem mean_apply (b : Fin 2) (t : Fin 16384) (h : Fin 8) (e : Fin 64) :
    val_main_v6 (F := Ideal) y (ix4 b t h e) = headMean (yRow y b t) ⟨64 * h.val + e.val, by omega⟩ := by
  rw [mean_eq]
  pointwise [val_main_v6, val_main_v5, val_main_v4, val_main_v3, val_main_v2, val_main_cst, val_main_cst_0, y_apply]

theorem dev_apply (b : Fin 2) (t : Fin 16384) (h : Fin 8) (e : Fin 64) :
    val_main_v7 (F := Ideal) y (ix4 b t h e) = dev (yRow y b t) ⟨64 * h.val + e.val, by omega⟩ := by
  unfold dev
  rw [← y_apply, ← mean_apply]
  rfl

theorem scale_apply (b : Fin 2) (t : Fin 16384) (h : Fin 8) (e : Fin 64) :
    val_main_v18 (F := Ideal) y (ix4 b t h e) = devScale (yRow y b t) ⟨64 * h.val + e.val, by omega⟩ := by
  unfold devScale
  rw [mean_eq]
  pointwise [val_main_v18, val_main_v17, val_main_v16, val_main_v15, val_main_v12, val_main_v11, val_main_v10, val_main_v9, val_main_v8,
    val_main_cst_1, val_main_cst_2, val_main_cst_3, dev_apply]

theorem normed_apply (b : Fin 2) (t : Fin 16384) (h : Fin 8) (e : Fin 64) :
    val_main_v19 (F := Ideal) y (ix4 b t h e)
      = dev (yRow y b t) ⟨64 * h.val + e.val, by omega⟩ * devScale (yRow y b t) ⟨64 * h.val + e.val, by omega⟩ := by
  rw [← dev_apply, ← scale_apply]
  rfl

theorem rows_apply (b : Fin 2) (t : Fin 16384) (k : Fin 512) :
    val_main_v20 (F := Ideal) y (ix3 b t k) = dev (yRow y b t) k * devScale (yRow y b t) k := by
  have e : (⟨64 * (k.val / 64) + k.val % 64, by omega⟩ : Fin 512) = k := Fin.ext (by dsimp only <;> omega)
  have n := normed_apply y b t ⟨k.val / 64, by omega⟩ ⟨k.val % 64, by omega⟩
  dsimp only at n
  rw [e] at n
  rw [← n]
  pointwise [val_main_v20]

theorem branch_apply (b : Fin 2) (t : Fin 16384) (k : Fin 512) :
    val_main_v32 (F := Ideal) y bonus g lg lb (ix3 b t k)
      = branch (yRow y b t) (fun k => lg (ix2 0 k)) (fun k => lb (ix2 0 k)) (at2 bonus b t) (at2 g b t) k := by
  unfold branch at2
  rw [← rows_apply]
  pointwise [val_main_v32, val_main_v31, val_main_v30, val_main_v29, val_main_v28, val_main_v27, val_main_v26, val_main_v25,
    val_main_v24, val_main_v23, val_main_v22, val_main_v21]

theorem gateA_apply (b : Fin 2) (t : Fin 16384) (l : Fin 1024) :
    val_main_v40 (F := Ideal) zg (ix3 b t l) = sigmoid (at2 zg b t ⟨l.val, by omega⟩) := by
  unfold sigmoid at2
  pointwise [val_main_v40, val_main_v39, val_main_v38, val_main_v37, val_main_v36, val_main_v35, val_main_v34, val_main_v33,
    val_main_cst_4, val_main_cst_5]

theorem gateB_apply (b : Fin 2) (t : Fin 16384) (l : Fin 1024) :
    val_main_v51 (F := Ideal) zg (ix3 b t l) = sigmoid (at2 zg b t ⟨1024 + l.val, by omega⟩) := by
  unfold sigmoid at2
  pointwise [val_main_v51, val_main_v50, val_main_v49, val_main_v48, val_main_v47, val_main_v46, val_main_v45, val_main_v33,
    val_main_cst_6, val_main_cst_7]

theorem projA_apply (b : Fin 2) (t : Fin 16384) (l : Fin 1024) :
    val_main_v43 (F := Ideal) oa wa (ix3 b t l) = ∑ k : Fin 512, at2 oa b t k * wa (ix3 0 k l) := by
  unfold at2
  pointwise [val_main_v43, val_main_v42, val_main_v41]

theorem projB_apply (b : Fin 2) (t : Fin 16384) (l : Fin 1024) :
    val_main_v53 (F := Ideal) y bonus g lg lb wb (ix3 b t l)
      = ∑ k : Fin 512, branch (yRow y b t) (fun k => lg (ix2 0 k)) (fun k => lb (ix2 0 k)) (at2 bonus b t) (at2 g b t) k
          * wb (ix3 0 k l) := by
  pointwise [val_main_v53, val_main_v52, branch_apply]

/-- A row of the two branches together. -/
def mergedRow (b : Fin 2) (t : Fin 16384) : Fin 1024 → EReal :=
  merged (at2 oa b t) (branch (yRow y b t) (fun k => lg (ix2 0 k)) (fun k => lb (ix2 0 k)) (at2 bonus b t) (at2 g b t))
    (fun l => at2 zg b t ⟨l.val, by omega⟩) (fun l => at2 zg b t ⟨1024 + l.val, by omega⟩) (fun k l => wa (ix3 0 k l))
    (fun k l => wb (ix3 0 k l))

theorem merged_apply (b : Fin 2) (t : Fin 16384) (l : Fin 1024) :
    val_main_v55 (F := Ideal) oa y bonus g zg lg lb wa wb (ix3 b t l) = mergedRow oa y bonus g zg lg lb wa wb b t l := by
  unfold mergedRow merged
  rw [← gateA_apply, ← gateB_apply, ← projA_apply, ← projB_apply]
  rfl

/-- A row of the residual stream after the merge. -/
def resRow (b : Fin 2) (t : Fin 16384) : Fin 1024 → EReal :=
  residue (fun j => x (ix3 b t j)) (mergedRow oa y bonus g zg lg lb wa wb b t) (fun l j => wo (ix3 0 l j))

theorem res_apply (b : Fin 2) (t : Fin 16384) (j : Fin 1024) :
    val_main_v58 (F := Ideal) x oa y bonus g zg lg lb wa wb wo (ix3 b t j) = resRow x oa y bonus g zg lg lb wa wb wo b t j := by
  unfold resRow residue
  pointwise [val_main_v58, val_main_v57, val_main_v56, merged_apply]

theorem norm_apply (b : Fin 2) (t : Fin 16384) (j : Fin 1024) :
    val_main_v72 (F := Ideal) x oa y bonus g zg lg lb wa wb wo ng (ix3 b t j)
      = normed (resRow x oa y bonus g zg lg lb wa wb wo b t) (fun j => ng (ix2 0 j)) j := by
  unfold normed Cert.Project.scale
  pointwise [val_main_v72, val_main_v71, val_main_v70, val_main_v69, val_main_v68, val_main_v67, val_main_v66, val_main_v65,
    val_main_v64, val_main_v63, val_main_v62, val_main_v61, val_main_v60, val_main_v59, val_main_cst_8, val_main_cst_9,
    val_main_cst_10, res_apply]

theorem out_eq {b b' : Fin 2} {t t' : Fin 16384} {j j' : Fin 1024} (f : Fin 2 → Fin 16384 → Fin 1024 → EReal)
    (hb : b.val = b'.val) (ht : t.val = t'.val) (hj : j.val = j'.val) : f b t j = f b' t' j' := by
  rw [Fin.ext hb, Fin.ext ht, Fin.ext hj]

theorem x1_apply (R : Fin 32768) (s : Fin 8) (l : Fin 128) :
    val_main_v73 (F := Ideal) x oa y bonus g zg lg lb wa wb wo (ix3 R s l)
      = resRow x oa y bonus g zg lg lb wa wb wo ⟨R.val / 16384, by omega⟩ ⟨R.val % 16384, by omega⟩ ⟨128 * s.val + l.val, by omega⟩ := by
  pointwise [val_main_v73, res_apply]
  exact out_eq (resRow x oa y bonus g zg lg lb wa wb wo) (by dsimp only <;> omega) (by dsimp only <;> omega) (by dsimp only <;> omega)

theorem hn_apply (R : Fin 32768) (s : Fin 8) (l : Fin 128) :
    val_main_v74 (F := Ideal) x oa y bonus g zg lg lb wa wb wo ng (ix3 R s l)
      = normed (resRow x oa y bonus g zg lg lb wa wb wo ⟨R.val / 16384, by omega⟩ ⟨R.val % 16384, by omega⟩)
          (fun j => ng (ix2 0 j)) ⟨128 * s.val + l.val, by omega⟩ := by
  pointwise [val_main_v74, norm_apply]
  exact out_eq (fun b t => normed (resRow x oa y bonus g zg lg lb wa wb wo b t) (fun j => ng (ix2 0 j)))
    (by dsimp only <;> omega) (by dsimp only <;> omega) (by dsimp only <;> omega)

end Cert.Reference4Ideal.Merge

end
-- ==== Proof.MergeArrays.lean ====
/- What the merge kernel's region leaves in its first two arrays, from the argument arrays. -/
module

public import proofs.«01_k».proof.Proof.MergeStep
public import proofs.«01_k».proof.Proof.MergeHost
public import proofs.«01_k».proof.Proof.MergeRef

@[expose] public section

set_option maxRecDepth 16384

noncomputable section

namespace Cert.Kernel4Ideal.Arrays

open Cert.Kernel4Ideal Cert.Kernel4Ideal.Gen Cert.Kernel4Ideal.Host Idealize.ShloMosaic Idealize.ShloMosaic.TcCoe Idealize.SL.Sem
open Idealize.ShloMosaic.Pipeline (Dat)
open Cert.Merge
open Cert.Soft (Real')

/-- Where each window stands at each grid point. -/
theorem idx : ∀ t : Fin grid0.N,
    win0_0.index t = ![t.val, 0] ∧ win0_1.index t = ![t.val, 0] ∧ win0_2.index t = ![0, t.val % 64, t.val / 64, 0, 0]
      ∧ win0_3.index t = ![t.val, 0] ∧ win0_4.index t = ![t.val, 0] ∧ win0_5.index t = ![t.val, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_12.index t = ![0, 0] ∧ win0_15.index t = ![t.val, 0, 0] ∧ win0_16.index t = ![t.val, 0, 0] := by
  decide +kernel

theorem idx15 (t : Fin grid0.N) : win0_15.index t = ![t.val, 0, 0] := (idx t).2.2.2.2.2.2.2.2.2.2.2.2.2.1

theorem idx16 (t : Fin grid0.N) : win0_16.index t = ![t.val, 0, 0] := (idx t).2.2.2.2.2.2.2.2.2.2.2.2.2.2

variable (m : (ℓ : Loc nD τ sig) → Buf (Elt Ideal) ℓ) (c : Dev nD) (t : Fin 128)

/-- The sequence and the step a grid point's row belongs to. -/
def seq (r : Fin 256) : Fin 2 := ⟨(256 * t.val + r.val) / 16384, by omega⟩
def step (r : Fin 256) : Fin 16384 := ⟨(256 * t.val + r.val) % 16384, by omega⟩

theorem blk0 (r : Fin 256) (j : Fin 1024) : iblk m c 0 t (ix2 r j) = X m c (ix3 (seq t r) (step t r) j) := by
  have h : iblk m c 0 t (ix2 r j) = V m c main_v25 (ix2 ⟨256 * t.val + r.val, by omega⟩ j) := by
    blk_ext [iblk, idx t]
  rw [h, V_x]
  pointwise
  rfl

theorem row_eq {n : ℕ} (a : Vec Ideal ⟨2, ![32768, n]⟩ .f32) (r : Fin 256) (k : Fin n) :
    a (ix2 ⟨256 * t.val + r.val, by omega⟩ k) = Cert.Reference4Ideal.Merge.at2 a (seq t r) (step t r) k := by
  unfold Cert.Reference4Ideal.Merge.at2 seq step
  refine congrArg (fun R => a (ix2 R k)) (Fin.ext ?_)
  dsimp only
  omega

theorem blk1 (r : Fin 256) (k : Fin 512) :
    iblk m c 1 t (ix2 r k) = Cert.Reference4Ideal.Merge.at2 (OA m c) (seq t r) (step t r) k := by
  have h : iblk m c 1 t (ix2 r k) = V m c main_arg1 (ix2 ⟨256 * t.val + r.val, by omega⟩ k) := by
    blk_ext [iblk, idx t]
  rw [h, V_main_arg1]
  exact row_eq t _ r k

theorem blk2 (r : Fin 256) (k : Fin 512) :
    Block.yRow (iblk m c 2 t) r k = Cert.Reference4Ideal.Merge.yRow (Y m c) (seq t r) (step t r) k := by
  unfold Block.yRow Cert.Reference4Ideal.Merge.yRow
  have h : iblk m c 2 t (ix5 ⟨k.val / 128, by omega⟩ ⟨r.val / 128, by omega⟩ 0 ⟨r.val % 128, by omega⟩ ⟨k.val % 128, by omega⟩)
      = V m c main_arg2 (ix5 ⟨k.val / 128, by omega⟩ ⟨2 * (t.val % 64) + r.val / 128, by omega⟩ ⟨t.val / 64, by omega⟩
          ⟨r.val % 128, by omega⟩ ⟨k.val % 128, by omega⟩) := by
    blk_ext [iblk, idx t]
  rw [h, V_main_arg2]
  exact Cert.Reference4Ideal.Merge.y_eq (Y m c) rfl (by dsimp only [step]; omega) (by dsimp only [seq]; omega)
    (by dsimp only [step]; omega) rfl

theorem blk3 (r : Fin 256) (k : Fin 512) :
    iblk m c 3 t (ix2 r k) = Cert.Reference4Ideal.Merge.at2 (Bonus m c) (seq t r) (step t r) k := by
  have h : iblk m c 3 t (ix2 r k) = V m c main_arg3 (ix2 ⟨256 * t.val + r.val, by omega⟩ k) := by
    blk_ext [iblk, idx t]
  rw [h, V_main_arg3]
  exact row_eq t _ r k

theorem blk4 (r : Fin 256) (k : Fin 512) :
    iblk m c 4 t (ix2 r k) = Cert.Reference4Ideal.Merge.at2 (G m c) (seq t r) (step t r) k := by
  have h : iblk m c 4 t (ix2 r k) = V m c main_arg4 (ix2 ⟨256 * t.val + r.val, by omega⟩ k) := by
    blk_ext [iblk, idx t]
  rw [h, V_main_arg4]
  exact row_eq t _ r k

theorem blk5 (r : Fin 256) (k : Fin 2048) :
    iblk m c 5 t (ix2 r k) = Cert.Reference4Ideal.Merge.at2 (Zg m c) (seq t r) (step t r) k := by
  have h : iblk m c 5 t (ix2 r k) = V m c main_arg5 (ix2 ⟨256 * t.val + r.val, by omega⟩ k) := by
    blk_ext [iblk, idx t]
  rw [h, V_main_arg5]
  exact row_eq t _ r k

theorem blk6 (k : Fin 512) : iblk m c 6 t (ix2 0 k) = Lg m c (ix2 0 k) := by
  have h : iblk m c 6 t (ix2 0 k) = V m c main_v2 (ix2 0 k) := by
    blk_ext [iblk, idx t]
  rw [h, V_lg]
  pointwise

theorem blk7 (k : Fin 512) : iblk m c 7 t (ix2 0 k) = Lb m c (ix2 0 k) := by
  have h : iblk m c 7 t (ix2 0 k) = V m c main_v4 (ix2 0 k) := by
    blk_ext [iblk, idx t]
  rw [h, V_lb]
  pointwise

theorem blk8 (j k : Fin 512) : iblk m c 8 t (ix2 j k) = mask j k := by
  have h : iblk m c 8 t (ix2 j k) = V m c main_v13 (ix2 j k) := by
    blk_ext [iblk, idx t]
  rw [h, V_mask]
  exact mask_apply j k

theorem blk9 (k : Fin 512) (l : Fin 1024) : iblk m c 9 t (ix2 k l) = Wa m c (ix3 0 k l) := by
  have h : iblk m c 9 t (ix2 k l) = V m c main_v15 (ix2 k l) := by
    blk_ext [iblk, idx t]
  rw [h, V_wa]
  pointwise

theorem blk10 (k : Fin 512) (l : Fin 1024) : iblk m c 10 t (ix2 k l) = Wb m c (ix3 0 k l) := by
  have h : iblk m c 10 t (ix2 k l) = V m c main_v17 (ix2 k l) := by
    blk_ext [iblk, idx t]
  rw [h, V_wb]
  pointwise

theorem blk11 (l j : Fin 1024) : iblk m c 11 t (ix2 l j) = Wo m c (ix3 0 l j) := by
  have h : iblk m c 11 t (ix2 l j) = V m c main_v19 (ix2 l j) := by
    blk_ext [iblk, idx t]
  rw [h, V_wo]
  pointwise

theorem blk12 (j : Fin 1024) : iblk m c 12 t (ix2 0 j) = Ng m c (ix2 0 j) := by
  have h : iblk m c 12 t (ix2 0 j) = V m c main_v21 (ix2 0 j) := by
    blk_ext [iblk, idx t]
  rw [h, V_ng]
  pointwise

/-- A row of the residual stream, of the argument arrays. -/
def res (b : Fin 2) (u : Fin 16384) : Fin 1024 → EReal :=
  Cert.Reference4Ideal.Merge.resRow (X m c) (OA m c) (Y m c) (Bonus m c) (G m c) (Zg m c) (Lg m c) (Lb m c) (Wa m c) (Wb m c)
    (Wo m c) b u

/-- The two arrays. -/
def outX (c : Dev nD) : Vec Ideal S32768x8x128 .f32 := fun i =>
  res m c ⟨(i 0).val / 16384, by have h : (i 0).val < 32768 := (i 0).isLt; omega⟩ ⟨(i 0).val % 16384, by omega⟩
    ⟨128 * (i 1).val + (i 2).val, by have h : (i 1).val < 8 := (i 1).isLt; have h' : (i 2).val < 128 := (i 2).isLt; omega⟩

def outN (c : Dev nD) : Vec Ideal S32768x8x128 .f32 := fun i =>
  normed (res m c ⟨(i 0).val / 16384, by have h : (i 0).val < 32768 := (i 0).isLt; omega⟩ ⟨(i 0).val % 16384, by omega⟩)
    (fun j => Ng m c (ix2 0 j))
    ⟨128 * (i 1).val + (i 2).val, by have h : (i 1).val < 8 := (i 1).isLt; have h' : (i 2).val < 128 := (i 2).isLt; omega⟩

variable (hy : ∀ (c : Dev nD) (b : Fin 2) (u : Fin 16384) (k : Fin 512), Real' (Cert.Reference4Ideal.Merge.yRow (Y m c) b u k))

include hy in
theorem branch_blk (r : Fin 256) (l : Fin 1024) :
    Block.B (iblk m c 2 t) (iblk m c 3 t) (iblk m c 4 t) (iblk m c 6 t) (iblk m c 7 t) (iblk m c 8 t) (iblk m c 10 t) (ix2 r l)
      = ∑ k : Fin 512, branch (Cert.Reference4Ideal.Merge.yRow (Y m c) (seq t r) (step t r)) (fun k => Lg m c (ix2 0 k))
          (fun k => Lb m c (ix2 0 k)) (Cert.Reference4Ideal.Merge.at2 (Bonus m c) (seq t r) (step t r))
          (Cert.Reference4Ideal.Merge.at2 (G m c) (seq t r) (step t r)) k * Wb m c (ix3 0 k l) := by
  refine (Block.B_apply _ _ _ _ _ _ _ r l).trans (Finset.sum_congr rfl fun k _ => ?_)
  rw [show (fun j k => iblk m c 8 t (ix2 j k)) = mask from funext fun j => funext fun k => blk8 m c t j k,
    show Block.yRow (iblk m c 2 t) r = Cert.Reference4Ideal.Merge.yRow (Y m c) (seq t r) (step t r) from funext fun k => blk2 m c t r k,
    maskDev_eq _ (hy c _ _), maskScale_eq _ (hy c _ _), blk6, blk7, blk3, blk4, blk10]
  rfl

include hy in
theorem x1_blk (r : Fin 256) (j : Fin 1024) :
    Block.X1 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r j) = res m c (seq t r) (step t r) j := by
  refine (Block.X1_apply _ _ _ _ _ _ _ _ _ _ _ _ r j).trans ?_
  unfold res Cert.Reference4Ideal.Merge.resRow residue Cert.Reference4Ideal.Merge.mergedRow merged
  refine congrArg₂ (· + ·) (blk0 m c t r j) (Finset.sum_congr rfl fun l _ => ?_)
  rw [branch_blk m c t hy, blk5, blk5, blk11]
  simp only [blk1, blk9]

include hy in
theorem hn_blk (r : Fin 256) (j : Fin 1024) :
    Block.HN (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r j)
      = normed (res m c (seq t r) (step t r)) (fun j => Ng m c (ix2 0 j)) j := by
  refine (Block.HN_apply _ _ _ _ _ _ _ _ _ _ _ _ _ r j).trans ?_
  exact congrArg₂ (fun f g => normed f g j) (funext fun j => x1_blk m c t hy r j) (funext fun j => blk12 m c t j)

include hy in
theorem arr15 : (dats m 0 c).arrAt 15 (cfgs 0).N = outX m c := by
  refine (dats m 0 c).arrAt_eq_of_covers 15 _ (by decide +kernel) fun t hf y => ?_
  blk_simp
  rw [after0_15]
  unfold outsAt0
  dsimp only
  have hy' : y = ix3 (n0 := 256) (n1 := 8) (n2 := 128) (y 0) (y 1) (y 2) := by
    funext a
    match a with
    | ⟨0, _⟩ => rfl
    | ⟨1, _⟩ => rfl
    | ⟨2, _⟩ => rfl
  obtain ⟨r, hr⟩ : ∃ r : Fin 256, r = y 0 := ⟨_, rfl⟩
  obtain ⟨s, hs⟩ : ∃ s : Fin 8, s = y 1 := ⟨_, rfl⟩
  obtain ⟨l, hl⟩ : ∃ l : Fin 128, l = y 2 := ⟨_, rfl⟩
  rw [hy', ← hr, ← hs, ← hl]
  refine ((Block.out15_apply (r := r) (s := s) (l := l) ..).trans (x1_blk m c t hy r _)).trans ?_
  refine Cert.Reference4Ideal.Merge.out_eq (res m c) ?_ ?_ ?_
  · unfold seq
    blk_simp [idx15 t]
    dsimp only
    omega
  · unfold step
    blk_simp [idx15 t]
    dsimp only
    omega
  · blk_simp [idx15 t]

include hy in
theorem arr16 : (dats m 0 c).arrAt 16 (cfgs 0).N = outN m c := by
  refine (dats m 0 c).arrAt_eq_of_covers 16 _ (by decide +kernel) fun t hf y => ?_
  blk_simp
  rw [after0_16]
  unfold outsAt0
  dsimp only
  have hy' : y = ix3 (n0 := 256) (n1 := 8) (n2 := 128) (y 0) (y 1) (y 2) := by
    funext a
    match a with
    | ⟨0, _⟩ => rfl
    | ⟨1, _⟩ => rfl
    | ⟨2, _⟩ => rfl
  obtain ⟨r, hr⟩ : ∃ r : Fin 256, r = y 0 := ⟨_, rfl⟩
  obtain ⟨s, hs⟩ : ∃ s : Fin 8, s = y 1 := ⟨_, rfl⟩
  obtain ⟨l, hl⟩ : ∃ l : Fin 128, l = y 2 := ⟨_, rfl⟩
  rw [hy', ← hr, ← hs, ← hl]
  refine ((Block.out16_apply (r := r) (s := s) (l := l) ..).trans (hn_blk m c t hy r _)).trans ?_
  refine Cert.Reference4Ideal.Merge.out_eq (fun b u => normed (res m c b u) fun j => Ng m c (ix2 0 j)) ?_ ?_ ?_
  · unfold seq
    blk_simp [idx16 t]
    dsimp only
    omega
  · unfold step
    blk_simp [idx16 t]
    dsimp only
    omega
  · blk_simp [idx16 t]

end Cert.Kernel4Ideal.Arrays

end
-- ==== Proof.MergeClaim.lean ====
/- The merge's claim. -/
module

public import proofs.«01_k».proof.Defs
public import proofs.«01_k».proof.Proof.Attention
public import proofs.«01_k».proof.Proof.MergeArrays
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_rows

@[expose] public section

set_option maxRecDepth 16384

noncomputable section

namespace Cert.MergeClaim

open Idealize.ShloMosaic Idealize.ShloMosaic.TcCoe Idealize.SL.Sem Cert.Kernel4Ideal Cert.Kernel4Ideal.Gen Cert.Kernel4Ideal.Host
  Cert.Kernel4Ideal.Arrays

variable {m : (ℓ : Loc nD τ sig) → Buf (Elt Ideal) ℓ}

theorem rows_real (h : Cert.Pre_Kernel4Ideal_finite_rows m) (c : Dev nD) (b : Fin 2) (u : Fin 16384) (k : Fin 512) :
    Soft.Real' (Cert.Reference4Ideal.Merge.yRow (Y m c) b u k) :=
  Cert.Attention.real_of_word (congrFun (h c) (ix5 _ _ _ _ _))

theorem x1_eq (c : Dev nD) : Cert.Reference4Ideal.Read.val_main_v73 (F := Ideal) (X m c) (OA m c) (Y m c) (Bonus m c) (G m c) (Zg m c)
    (Lg m c) (Lb m c) (Wa m c) (Wb m c) (Wo m c) = outX m c := by
  funext i
  idx_vars i
  exact Cert.Reference4Ideal.Merge.x1_apply _ _ _ _ _ _ _ _ _ _ _ _ _ _

theorem hn_eq (c : Dev nD) : Cert.Reference4Ideal.Read.val_main_v74 (F := Ideal) (X m c) (OA m c) (Y m c) (Bonus m c) (G m c) (Zg m c)
    (Lg m c) (Lb m c) (Wa m c) (Wb m c) (Wo m c) (Ng m c) = outN m c := by
  funext i
  idx_vars i
  exact Cert.Reference4Ideal.Merge.hn_apply _ _ _ _ _ _ _ _ _ _ _ _ _ _ _

theorem algebraic : Cert.algebraic_Kernel4Ideal_Reference4Ideal_pre_finite_rows := by
  intro m ρ m' ρ' hpre hag
  refine ⟨outX m, outN m, ?_, ?_⟩
  · refine (θ_run Cert.Kernel4Ideal.defs _ _).mono (fun _ h c => ⟨(h c).1.trans (arr15 m c (rows_real hpre)),
      (h c).2.1.trans (arr16 m c (rows_real hpre)), (h c).2.2.2.2⟩)
      (Cert.Kernel4Ideal.Value.run_blocks m ρ)
  · refine (θ_run Cert.Reference4Ideal.defs _ _).mono (fun _ h c => ⟨(h c).1.trans ?_, (h c).2.1.trans ?_, (h c).2.2⟩)
      (Cert.Reference4Ideal.Value.run m' ρ')
    all_goals obtain ⟨h0, h1, h2, h3, h4, h5, h6, h7, h8, h9, h10, h11, _⟩ := hag c
    · rw [Cert.Reference4Ideal.Read.val_main_v73_eq, h0, h1, h2, h3, h4, h5, h6, h7, h8, h9, h10]
      exact x1_eq c
    · rw [Cert.Reference4Ideal.Read.val_main_v74_eq, h0, h1, h2, h3, h4, h5, h6, h7, h8, h9, h10, h11]
      exact hn_eq c

end Cert.MergeClaim

end
-- ==== Proof.CacheHead.lean ====
/- One head of the sample's attention on one sequence of 32 tokens: what the kernel stores for it, as one term, and that term
   read at a row and a lane. -/
module

public import proofs.«01_k».proof.Proof.Gen.Kernel5Ideal.Frame
public import Idealize.ShloMosaic.Lib.Pointwise
public import proofs.«01_k».proof.Proof.Soft

@[expose] public section

set_option maxRecDepth 16384

noncomputable section

namespace Cert.Kernel5Ideal.Att

open Cert.Kernel5Ideal Cert.Kernel5Ideal.Gen Idealize.ShloMosaic Cert.Soft

/-- A vector of the products' precision. -/
def low {s : Shape} (x : Vec Ideal s .f32) : FVec Ideal s .bf16 := truncf (F := Ideal) (φ := .f32) .bf16 x bitsLt_bf16_f32

/-- The cached keys or values of one head. -/
def plain (x : Vec Ideal S1x1x512x64 .f32) : Vec Ideal S512x64 .f32 := shapeCast S512x64 x shapeCasts_S1x1x512x64_S512x64

/-- The scaled scores against the cached keys, the bias added. -/
def scoresC (q : Vec Ideal S32x64 .f32) (k : Vec Ideal S1x1x512x64 .f32) (b : Vec Ideal S1x32x512 .f32) : FVec Ideal S32x512 .f32 :=
  addf (mulf (matmul dot_S32x64_S512x64_S32x512_1_1_0_0_n_n none (low q) (low (plain k)) (constant S32x512 .f32 0x00000000#32))
    (broadcast S32x512 (Scalar.ofBits .f32 0x3E000000#32))) (shapeCast S32x512 b shapeCasts_S1x32x512_S32x512)

/-- The scaled scores against the new keys, the bias added. -/
def scoresN (q k : Vec Ideal S32x64 .f32) (b : Vec Ideal S1x32x32 .f32) : FVec Ideal S32x32 .f32 :=
  addf (mulf (matmul dot_S32x64_S32x64_S32x32_1_1_0_0_n_n none (low q) (low k) (constant S32x32 .f32 0x00000000#32))
    (broadcast S32x32 (Scalar.ofBits .f32 0x3E000000#32))) (shapeCast S32x32 b shapeCasts_S1x32x32_S32x32)

/-- The largest score of each row. -/
def top (a : FVec Ideal S32x512 .f32) (b : FVec Ideal S32x32 .f32) : FVec Ideal S32x1 .f32 :=
  maximumf (shapeCast S32x1 (multiReduction .maximumf [1] S32 a 0xFF800000#32 reduces_S32x512_S32 (.inl rfl) rfl) shapeCasts_S32_S32x1)
    (shapeCast S32x1 (multiReduction .maximumf [1] S32 b 0xFF800000#32 reduces_S32x32_S32 (.inl rfl) rfl) shapeCasts_S32_S32x1)

/-- The exponentials of the scores less their row's `m`. -/
def weightsC (s : FVec Ideal S32x512 .f32) (m : FVec Ideal S32x1 .f32) : FVec Ideal S32x512 .f32 :=
  exp (subf s (broadcastTo S32x512 m broadcasts_S32x1_S32x512))
def weightsN (s : FVec Ideal S32x32 .f32) (m : FVec Ideal S32x1 .f32) : FVec Ideal S32x32 .f32 :=
  exp (subf s (broadcastTo S32x32 m broadcasts_S32x1_S32x32))

/-- The sum of each row. -/
def total (a : FVec Ideal S32x512 .f32) (b : FVec Ideal S32x32 .f32) : FVec Ideal S32x1 .f32 :=
  addf (shapeCast S32x1 (multiReduction .add [1] S32 a 0x00000000#32 reduces_S32x512_S32 (.inl rfl) rfl) shapeCasts_S32_S32x1)
    (shapeCast S32x1 (multiReduction .add [1] S32 b 0x00000000#32 reduces_S32x32_S32 (.inl rfl) rfl) shapeCasts_S32_S32x1)

/-- The weights times the values. -/
def mix (a : FVec Ideal S32x512 .f32) (b : FVec Ideal S32x32 .f32) (va : Vec Ideal S512x64 .f32) (vb : Vec Ideal S32x64 .f32) :
    FVec Ideal S32x64 .f32 :=
  addf (matmul dot_S32x512_S512x64_S32x64_1_0_0_1_n_n none (low a) (low va) (constant S32x64 .f32 0x00000000#32))
    (matmul dot_S32x32_S32x64_S32x64_1_0_0_1_n_n none (low b) (low vb) (constant S32x64 .f32 0x00000000#32))

/-- The attention from its two sets of scores and values. -/
def soft (a : FVec Ideal S32x512 .f32) (b : FVec Ideal S32x32 .f32) (va : Vec Ideal S512x64 .f32) (vb : Vec Ideal S32x64 .f32) :
    FVec Ideal S32x64 .f32 :=
  divf (mix (weightsC a (top a b)) (weightsN b (top a b)) va vb)
    (broadcastTo S32x64 (total (weightsC a (top a b)) (weightsN b (top a b))) broadcasts_S32x1_S32x64)

/-- What the kernel stores for one head. -/
def head (q kn vn : Vec Ideal S32x64 .f32) (kc vc : Vec Ideal S1x1x512x64 .f32) (bc : Vec Ideal S1x32x512 .f32)
    (bn : Vec Ideal S1x32x32 .f32) : FVec Ideal S32x64 .f32 :=
  soft (scoresC q kc bc) (scoresN q kn bn) (plain vc) vn

theorem neg_inf : Ideal.ofBits .f32 0xFF800000#32 = ⊥ := by simp [Ideal.ofBits, Ideal.ieee]

theorem soft_apply (a : FVec Ideal S32x512 .f32) (b : FVec Ideal S32x32 .f32) (va : Vec Ideal S512x64 .f32) (vb : Vec Ideal S32x64 .f32)
    (r : Fin 32) (d : Fin 64) :
    soft a b va vb (ix2 r d)
      = row (fun j => a (ix2 r j)) (fun j => b (ix2 r j)) (fun j => va (ix2 j d)) (fun j => vb (ix2 j d)) := by
  pointwise [soft, mix, total, weightsC, weightsN, top, low, row, neg_inf]

theorem scoresC_apply (q : Vec Ideal S32x64 .f32) (k : Vec Ideal S1x1x512x64 .f32) (b : Vec Ideal S1x32x512 .f32) (r : Fin 32)
    (j : Fin 512) : scoresC q k b (ix2 r j)
      = (∑ e : Fin 64, q (ix2 r e) * k (ix4 0 0 j e)) * Ideal.ofBits .f32 0x3E000000#32 + b (ix3 0 r j) := by
  pointwise [scoresC, low, plain]

theorem scoresN_apply (q k : Vec Ideal S32x64 .f32) (b : Vec Ideal S1x32x32 .f32) (r j : Fin 32) : scoresN q k b (ix2 r j)
      = (∑ e : Fin 64, q (ix2 r e) * k (ix2 j e)) * Ideal.ofBits .f32 0x3E000000#32 + b (ix3 0 r j) := by
  pointwise [scoresN, low]

theorem plain_apply (x : Vec Ideal S1x1x512x64 .f32) (j : Fin 512) (e : Fin 64) : plain x (ix2 j e) = x (ix4 0 0 j e) := by
  pointwise [plain]

/-- The block of the result: row `r`, lane `l`, whose head is `l / 64`. -/
def block (q kn vn : Vec Ideal S32x512 .f32) (kc vc : Vec Ideal S1x8x512x64 .f32) (bc : Vec Ideal S8x32x512 .f32)
    (bn : Vec Ideal S8x32x32 .f32) (r : Fin 32) (l : Fin 512) : EReal :=
  row (fun j : Fin 512 => (∑ e : Fin 64, q (ix2 r ⟨64 * (l.val / 64) + e.val, by omega⟩) * kc (ix4 0 ⟨l.val / 64, by omega⟩ j e))
        * Ideal.ofBits .f32 0x3E000000#32 + bc (ix3 ⟨l.val / 64, by omega⟩ r j))
    (fun j : Fin 32 => (∑ e : Fin 64, q (ix2 r ⟨64 * (l.val / 64) + e.val, by omega⟩) * kn (ix2 j ⟨64 * (l.val / 64) + e.val, by omega⟩))
        * Ideal.ofBits .f32 0x3E000000#32 + bn (ix3 ⟨l.val / 64, by omega⟩ r j))
    (fun j => vc (ix4 0 ⟨l.val / 64, by omega⟩ j ⟨l.val % 64, by omega⟩)) (fun j => vn (ix2 j l))

theorem head_ld (q kn vn : Vec Ideal S32x512 .f32) (kc vc : Vec Ideal S1x8x512x64 .f32) (bc : Vec Ideal S8x32x512 .f32)
    (bn : Vec Ideal S8x32x32 .f32) (h : ℕ) (hh : h < 8)
    (i1 : ∀ a, (![0, 64 * h] : Fin 2 → ℕ) a + S32x64.size a ≤ S32x512.size a)
    (i2 : ∀ a, (![0, h, 0, 0] : Fin 4 → ℕ) a + S1x1x512x64.size a ≤ S1x8x512x64.size a)
    (i3 : ∀ a, (![h, 0, 0] : Fin 3 → ℕ) a + S1x32x512.size a ≤ S8x32x512.size a)
    (i4 : ∀ a, (![h, 0, 0] : Fin 3 → ℕ) a + S1x32x32.size a ≤ S8x32x32.size a) (r : Fin 32) (d : Fin 64) :
    head (View.ld q (Rect.unit (s := S32x512) ![0, 64 * h] S32x64.size i1))
        (View.ld kn (Rect.unit (s := S32x512) ![0, 64 * h] S32x64.size i1))
        (View.ld vn (Rect.unit (s := S32x512) ![0, 64 * h] S32x64.size i1))
        (View.ld kc (Rect.unit (s := S1x8x512x64) ![0, h, 0, 0] S1x1x512x64.size i2))
        (View.ld vc (Rect.unit (s := S1x8x512x64) ![0, h, 0, 0] S1x1x512x64.size i2))
        (View.ld bc (Rect.unit (s := S8x32x512) ![h, 0, 0] S1x32x512.size i3))
        (View.ld bn (Rect.unit (s := S8x32x32) ![h, 0, 0] S1x32x32.size i4)) (ix2 r d)
      = block q kn vn kc vc bc bn r ⟨64 * h + d.val, by omega⟩ := by
  have hd : (64 * h + d.val) / 64 = h := by omega
  have hm : (64 * h + d.val) % 64 = d.val := by omega
  rw [head, soft_apply]
  simp only [scoresC_apply, scoresN_apply, plain_apply, block, hd, hm]
  pointwise

/-- The block as one array. -/
def blockVec (q kn vn : Vec Ideal S32x512 .f32) (kc vc : Vec Ideal S1x8x512x64 .f32) (bc : Vec Ideal S8x32x512 .f32)
    (bn : Vec Ideal S8x32x32 .f32) : Vec Ideal S32x512 .f32 := fun y => block q kn vn kc vc bc bn (y 0) (y 1)

/-- The body's stores, each the same function of its own columns. -/
def pieces (q kn vn : Vec Ideal S32x512 .f32) (kc vc : Vec Ideal S1x8x512x64 .f32) (bc : Vec Ideal S8x32x512 .f32)
    (bn : Vec Ideal S8x32x32 .f32) : List (View.Piece (Elt Ideal) S32x512 .f32) :=
  [⟨r0_28, head (View.ld q r0_28) (View.ld kn r0_28) (View.ld vn r0_28) (View.ld kc r0_29) (View.ld vc r0_29) (View.ld bc r0_30) (View.ld bn r0_31)⟩,
    ⟨r0_24, head (View.ld q r0_24) (View.ld kn r0_24) (View.ld vn r0_24) (View.ld kc r0_25) (View.ld vc r0_25) (View.ld bc r0_26) (View.ld bn r0_27)⟩,
    ⟨r0_20, head (View.ld q r0_20) (View.ld kn r0_20) (View.ld vn r0_20) (View.ld kc r0_21) (View.ld vc r0_21) (View.ld bc r0_22) (View.ld bn r0_23)⟩,
    ⟨r0_16, head (View.ld q r0_16) (View.ld kn r0_16) (View.ld vn r0_16) (View.ld kc r0_17) (View.ld vc r0_17) (View.ld bc r0_18) (View.ld bn r0_19)⟩,
    ⟨r0_12, head (View.ld q r0_12) (View.ld kn r0_12) (View.ld vn r0_12) (View.ld kc r0_13) (View.ld vc r0_13) (View.ld bc r0_14) (View.ld bn r0_15)⟩,
    ⟨r0_8, head (View.ld q r0_8) (View.ld kn r0_8) (View.ld vn r0_8) (View.ld kc r0_9) (View.ld vc r0_9) (View.ld bc r0_10) (View.ld bn r0_11)⟩,
    ⟨r0_4, head (View.ld q r0_4) (View.ld kn r0_4) (View.ld vn r0_4) (View.ld kc r0_5) (View.ld vc r0_5) (View.ld bc r0_6) (View.ld bn r0_7)⟩,
    ⟨r0_0, head (View.ld q r0_0) (View.ld kn r0_0) (View.ld vn r0_0) (View.ld kc r0_1) (View.ld vc r0_1) (View.ld bc r0_2) (View.ld bn r0_3)⟩]

theorem out_eq (q kn vn : Vec Ideal S32x512 .f32) (kc vc : Vec Ideal S1x8x512x64 .f32) (bc : Vec Ideal S8x32x512 .f32)
    (bn : Vec Ideal S8x32x32 .f32) : out0_7 q kn vn kc vc bc bn = View.canon (pieces q kn vn kc vc bc bn) := by
  unfold_out out0_7
  rfl

/-- What the body leaves in the output's buffer. -/
theorem out_apply (q kn vn : Vec Ideal S32x512 .f32) (kc vc : Vec Ideal S1x8x512x64 .f32) (bc : Vec Ideal S8x32x512 .f32)
    (bn : Vec Ideal S8x32x32 .f32) (r : Fin 32) (l : Fin 512) :
    out0_7 q kn vn kc vc bc bn (ix2 r l) = block q kn vn kc vc bc bn r l := by
  have piece : ∀ (h : ℕ) (hh : h < 8)
      (i1 : ∀ a, (![0, 64 * h] : Fin 2 → ℕ) a + S32x64.size a ≤ S32x512.size a)
      (i2 : ∀ a, (![0, h, 0, 0] : Fin 4 → ℕ) a + S1x1x512x64.size a ≤ S1x8x512x64.size a)
      (i3 : ∀ a, (![h, 0, 0] : Fin 3 → ℕ) a + S1x32x512.size a ≤ S8x32x512.size a)
      (i4 : ∀ a, (![h, 0, 0] : Fin 3 → ℕ) a + S1x32x32.size a ≤ S8x32x32.size a) (x : S32x64.Idx),
      head (View.ld q (Rect.unit (s := S32x512) ![0, 64 * h] S32x64.size i1))
        (View.ld kn (Rect.unit (s := S32x512) ![0, 64 * h] S32x64.size i1))
        (View.ld vn (Rect.unit (s := S32x512) ![0, 64 * h] S32x64.size i1))
        (View.ld kc (Rect.unit (s := S1x8x512x64) ![0, h, 0, 0] S1x1x512x64.size i2))
        (View.ld vc (Rect.unit (s := S1x8x512x64) ![0, h, 0, 0] S1x1x512x64.size i2))
        (View.ld bc (Rect.unit (s := S8x32x512) ![h, 0, 0] S1x32x512.size i3))
        (View.ld bn (Rect.unit (s := S8x32x32) ![h, 0, 0] S1x32x32.size i4)) x
      = blockVec q kn vn kc vc bc bn ((Rect.unit (s := S32x512) ![0, 64 * h] S32x64.size i1).emb x) := by
    intro h hh i1 i2 i3 i4 x
    idx_vars x
    rw [head_ld q kn vn kc vc bc bn h hh i1 i2 i3 i4]
    rw [blockVec]
    congr 1 <;> apply Fin.ext <;> simp [Rect.emb, Rect.unit]
  rw [out_eq, pieces]
  refine View.canon_apply_of_pieces (blockVec q kn vn kc vc bc bn) _ ?_ (ix2 r l) ?_
  · intro p hp
    simp only [List.mem_cons, List.not_mem_nil, or_false] at hp
    rcases hp with rfl | rfl | rfl | rfl | rfl | rfl | rfl | rfl
    · exact piece 7 (by omega) _ _ _ _
    · exact piece 6 (by omega) _ _ _ _
    · exact piece 5 (by omega) _ _ _ _
    · exact piece 4 (by omega) _ _ _ _
    · exact piece 3 (by omega) _ _ _ _
    · exact piece 2 (by omega) _ _ _ _
    · exact piece 1 (by omega) _ _ _ _
    · exact piece 0 (by omega) _ _ _ _
  · have hr := r.isLt
    have hl := l.isLt
    simp only [List.exists_mem_cons_iff, Rect.mem_set_unit, List.not_mem_nil, false_and, exists_false, or_false]
    have key : ∀ h : ℕ, 64 * h ≤ l.val → l.val < 64 * h + 64 → ∀ a, (![0, 64 * h] : Fin 2 → ℕ) a ≤ ((ix2 r l : S32x512.Idx) a : ℕ)
        ∧ ((ix2 r l : S32x512.Idx) a : ℕ) < (![0, 64 * h] : Fin 2 → ℕ) a + S32x64.size a := by
      intro h h1 h2 a
      match a with
      | ⟨0, _⟩ => exact ⟨Nat.zero_le _, by show r.val < 0 + 32; omega⟩
      | ⟨1, _⟩ => exact ⟨h1, h2⟩
    have cases : l.val / 64 = 7 ∨ l.val / 64 = 6 ∨ l.val / 64 = 5 ∨ l.val / 64 = 4 ∨ l.val / 64 = 3 ∨ l.val / 64 = 2
        ∨ l.val / 64 = 1 ∨ l.val / 64 = 0 := by omega
    exact cases.imp (fun e => key 7 (by omega) (by omega)) fun c => c.imp (fun e => key 6 (by omega) (by omega)) fun c =>
      c.imp (fun e => key 5 (by omega) (by omega)) fun c => c.imp (fun e => key 4 (by omega) (by omega)) fun c =>
      c.imp (fun e => key 3 (by omega) (by omega)) fun c => c.imp (fun e => key 2 (by omega) (by omega)) fun c =>
      c.imp (fun e => key 1 (by omega) (by omega)) fun e => key 0 (by omega) (by omega)

end Cert.Kernel5Ideal.Att

end
-- ==== Proof.CacheTable.lean ====
/- The bias table that the host operations of the sample's attention lay out, read at an index. -/
module

public import proofs.«01_k».proof.Proof.Gen.Kernel5Ideal.Frame
public import proofs.«01_k».proof.Proof.Gather

@[expose] public section

set_option maxRecDepth 16384

noncomputable section

namespace Cert.Kernel5Ideal.Table

open Cert.Kernel5Ideal Cert.Kernel5Ideal.Gen Idealize.ShloMosaic Idealize.ShloMosaic.TcCoe Idealize.SL.Sem

/-- The distance of a query from a near key, as a word. -/
def dist : IVec S32x160 32 :=
  subi (broadcastInDim S32x160 ![0, 1] bcast_S32x1_S32x160_0_1
      (addi (broadcastInDim S32x1 ![0] bcast_S32_S32x1_0 (iotaInDim S32 32 0))
        (broadcastInDim S32x1 ![] bcast_S_S32x1 (constantI S_ 32 512#32))))
    (broadcastInDim S32x160 ![0, 1] bcast_S1x160_S32x160_0_1
      (broadcastInDim S1x160 ![1] bcast_S160_S1x160_1
        (addi (broadcastInDim S160 ![] bcast_S_S160 (constantI S_ 32 384#32)) (iotaInDim S160 32 0))))

/-- The table position of that distance, clipped and moved to start at zero. -/
def pos : IVec S32x160 32 :=
  addi (minsi (broadcastInDim S32x160 ![] bcast_S_S32x160 (constantI S_ 32 128#32))
      (maxsi (broadcastInDim S32x160 ![] bcast_S_S32x160 (constantI S_ 32 4294967168#32)) dist))
    (broadcastInDim S32x160 ![] bcast_S_S32x160 (constantI S_ 32 128#32))

/-- The position, a negative one counted from the end. -/
def wrapped : IVec S32x160x1 32 :=
  broadcastInDim S32x160x1 ![0, 1] bcast_S32x160_S32x160x1_0_1
    (select (cmpi .slt pos (broadcastInDim S32x160 ![] bcast_S_S32x160 (constantI S_ 32 0#32)))
      (addi pos (broadcastInDim S32x160 ![] bcast_S_S32x160 (constantI S_ 32 257#32))) pos)

/-- The far keys' part beside the near keys'. -/
def beside (a : Vec Ideal S8x32x384 .f32) (b : Vec Ideal S8x32x160 .f32) : Vec Ideal S8x32x544 .f32 :=
  concatenate S8x32x544 2 [⟨S8x32x384, a⟩, ⟨S8x32x160, b⟩] concatenates_S8x32x384_S8x32x160_S8x32x544_d2

/-- The biases of the queries against the keys of the cache and the new ones. -/
def band (rel : Vec Ideal S8x257 .f32) : Vec Ideal S8x32x544 .f32 :=
  beside (broadcastInDim S8x32x384 ![0, 1, 2] bcast_S8x1x1_S8x32x384_0_1_2
        (broadcastInDim S8x1x1 ![0] bcast_S8_S8x1x1_0
          (shapeCast S8 (extractStridedSlice S8x1 ![0, 256] rel slices_S8x257_S8x1_0_256) shapeCasts_S8x1_S8)))
    (Host.gather gather_S8x257_S32x160x1_S8x32x160_0_1_n_n_1_2_81 rel wrapped)

/-- The region finds the cache's part of the table in its buffer. -/
theorem V_cached (m : (ℓ : Loc nD τ sig) → Buf (Elt Ideal) ℓ) (c : Dev nD) :
    V m c main_v26 = extractStridedSlice S8x32x512 ![0, 0, 0] (band (m ((c : Thread nD τ).loc main_arg3)))
      slices_S8x32x544_S8x32x512_0_0_0 := by
  unfold V
  simp only [hostOps0, hostOps0_1, hostOps0_2, List.flatten_cons, List.flatten_nil, List.append_nil, List.cons_append,
    List.nil_append, StableHlo.TRef.binary, StableHlo.TRef.ternary, StableHlo.TRef.unary, StableHlo.TRef.toBuf,
    StableHlo.TRef.ofBuf, cast_eq]
  after_results_simp
  show extractStridedSlice S8x32x512 ![0, 0, 0] (beside _ _) slices_S8x32x544_S8x32x512_0_0_0 = _
  after_results_simp
  rfl

/-- And the new keys' part. -/
theorem V_fresh (m : (ℓ : Loc nD τ sig) → Buf (Elt Ideal) ℓ) (c : Dev nD) :
    V m c main_v27 = extractStridedSlice S8x32x32 ![0, 0, 512] (band (m ((c : Thread nD τ).loc main_arg3)))
      slices_S8x32x544_S8x32x32_0_0_512 := by
  unfold V
  simp only [hostOps0, hostOps0_1, hostOps0_2, List.flatten_cons, List.flatten_nil, List.append_nil, List.cons_append,
    List.nil_append, StableHlo.TRef.binary, StableHlo.TRef.ternary, StableHlo.TRef.unary, StableHlo.TRef.toBuf,
    StableHlo.TRef.ofBuf, cast_eq]
  after_results_simp
  show extractStridedSlice S8x32x32 ![0, 0, 512] (beside _ _) slices_S8x32x544_S8x32x32_0_0_512 = _
  after_results_simp
  rfl

theorem wrapped_apply (r : Fin 32) (j : Fin 160) :
    (wrapped (ix3 r j 0)).toInt.toNat = min (r.val + 256 - j.val) 256 := by
  pointwise [wrapped, pos, dist]
  revert r j
  decide +kernel

theorem band_apply (rel : Vec Ideal S8x257 .f32) (h : Fin 8) (r : Fin 32) (n : Fin 544) :
    band rel (ix3 h r n) = rel (ix2 h ⟨min (r.val + 640 - n.val) 256, by omega⟩) := by
  have hn := n.isLt
  pointwise [band, beside]
  split
  · refine congrArg (fun a => rel (ix2 h a)) (Fin.ext ?_)
    refine (show (256 : Fin 257).val = 256 by decide).trans ?_
    dsimp only
    omega
  · refine (Gather.cols_apply gather_S8x257_S32x160x1_S8x32x160_0_1_n_n_1_2_81_wf _ _ _ _ _).trans ?_
    refine congrArg (fun a => rel (ix2 h a)) (Fin.ext ?_)
    dsimp only
    rw [wrapped_apply]
    dsimp only
    omega

end Cert.Kernel5Ideal.Table

end
-- ==== Proof.CacheTarget.lean ====
/- The sample's attention of one token and one lane, from the rows of the projections, the cached keys and values and the
   table of biases: what both programs are shown to compute. -/
module

public import proofs.«01_k».proof.Proof.Target

@[expose] public section

noncomputable section

namespace Cert.CacheTarget

open Idealize.ShloMosaic Cert.Soft

variable (Z : Fin 512 → Fin 1536 → EReal) (K V : Fin 16 → Fin 8 → Fin 512 → Fin 64 → EReal) (B : Fin 8 → Fin 257 → EReal)

/-- Element `e` of head `h` of key `n` of the window of row `R`: the cached ones, and then those of the row's own sequence;
    the same of the values, which start at another column. -/
def entry (o : ℕ) (ho : o ≤ 1024) (C : Fin 16 → Fin 8 → Fin 512 → Fin 64 → EReal) (R : Fin 512) (h : Fin 8) (n : Fin (512 + 32))
    (e : Fin 64) : EReal :=
  if hn : n.val < 512 then C ⟨R.val / 32, by omega⟩ h ⟨n.val, hn⟩ e
  else Z ⟨R.val / 32 * 32 + (n.val - 512), by omega⟩ ⟨o + (64 * h.val + e.val), by omega⟩

def score (R : Fin 512) (h : Fin 8) (n : Fin (512 + 32)) : EReal :=
  (∑ e : Fin 64, Z R ⟨64 * h.val + e.val, by omega⟩ * entry Z 512 (by omega) K R h n e) * Target.scale
    + B h ⟨min (R.val % 32 + 640 - n.val) 256, by omega⟩

def value (R : Fin 512) (l : Fin 512) (n : Fin (512 + 32)) : EReal :=
  entry Z 1024 (by omega) V R ⟨l.val / 64, by omega⟩ n ⟨l.val % 64, by omega⟩

def att (R : Fin 512) (l : Fin 512) : EReal := softRow (score Z K B R ⟨l.val / 64, by omega⟩) (value Z V R l)

variable {Z K B}

theorem score_real (hZ : ∀ R (k : Fin 1536), k.val < 1024 → Real' (Z R k)) (hK : ∀ s h n e, Real' (K s h n e))
    (hB : ∀ h k, Real' (B h k)) (R : Fin 512) (h : Fin 8) (n : Fin (512 + 32)) : Real' (score Z K B R h n) := by
  unfold score
  refine ((Real'.sum _ _ fun e _ => (hZ _ _ (by dsimp only; omega)).mul ?_).mul Target.scale_real).add (hB _ _)
  unfold entry
  split
  · exact hK _ _ _ _
  · exact hZ _ _ (by dsimp only; omega)

end Cert.CacheTarget

end
-- ==== Proof.CacheBlocks.lean ====
/- What the run of the sample's attention kernel leaves in its result, row by row, from the argument arrays. -/
module

public import proofs.«01_k».proof.Proof.CacheHead
public import proofs.«01_k».proof.Proof.CacheTable
public import proofs.«01_k».proof.Proof.CacheTarget
public import proofs.«01_k».proof.Proof.Gen.Kernel5Ideal.Value
public import Idealize.ShloMosaic.Lib.Pipeline.Value
public import Idealize.ShloMosaic.Lib.Claim
public import Idealize.ShloMosaic.Lib.Pipeline.ValueKit.Point

@[expose] public section

set_option maxRecDepth 16384

noncomputable section

namespace Cert.Kernel5Ideal.Blocks

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window stands at each grid point. -/
theorem idx : ∀ t : Fin grid0.N,
    win0_0.index t = ![t.val, 0] ∧ win0_1.index t = ![t.val, 1] ∧ win0_2.index t = ![t.val, 2]
      ∧ win0_3.index t = ![t.val, 0, 0, 0] ∧ win0_4.index t = ![t.val, 0, 0, 0]
      ∧ win0_5.index t = ![0, 0, 0] ∧ win0_6.index t = ![0, 0, 0] ∧ win0_7.index t = ![t.val, 0] := by
  decide +kernel

/-- The argument arrays. -/
abbrev Z (c : Dev nD) : Vec Ideal S512x1536 .f32 := m ((c : Thread nD τ).loc main_arg0)
abbrev K (c : Dev nD) : Vec Ideal S16x8x512x64 .f32 := m ((c : Thread nD τ).loc main_arg1)
abbrev W (c : Dev nD) : Vec Ideal S16x8x512x64 .f32 := m ((c : Thread nD τ).loc main_arg2)
abbrev B (c : Dev nD) : Vec Ideal S8x257 .f32 := m ((c : Thread nD τ).loc main_arg3)

theorem blk0 (c : Dev nD) (t : Fin 16) (r : Fin 32) (l : Fin 512) :
    iblk m c 0 t (ix2 r l) = Z m c (ix2 ⟨32 * t.val + r.val, by omega⟩ ⟨l.val, by omega⟩) := by
  blk_ext [iblk, V_main_arg0 m c, idx t]

theorem blk1 (c : Dev nD) (t : Fin 16) (r : Fin 32) (l : Fin 512) :
    iblk m c 1 t (ix2 r l) = Z m c (ix2 ⟨32 * t.val + r.val, by omega⟩ ⟨512 + l.val, by omega⟩) := by
  blk_ext [iblk, V_main_arg0 m c, idx t]

theorem blk2 (c : Dev nD) (t : Fin 16) (r : Fin 32) (l : Fin 512) :
    iblk m c 2 t (ix2 r l) = Z m c (ix2 ⟨32 * t.val + r.val, by omega⟩ ⟨1024 + l.val, by omega⟩) := by
  blk_ext [iblk, V_main_arg0 m c, idx t]

theorem blk3 (c : Dev nD) (t : Fin 16) (h : Fin 8) (j : Fin 512) (e : Fin 64) :
    iblk m c 3 t (ix4 0 h j e) = K m c (ix4 t h j e) := by
  blk_ext [iblk, V_main_arg1 m c, idx t]

theorem blk4 (c : Dev nD) (t : Fin 16) (h : Fin 8) (j : Fin 512) (e : Fin 64) :
    iblk m c 4 t (ix4 0 h j e) = W m c (ix4 t h j e) := by
  blk_ext [iblk, V_main_arg2 m c, idx t]

theorem blk5 (c : Dev nD) (t : Fin 16) (h : Fin 8) (r : Fin 32) (j : Fin 512) :
    iblk m c 5 t (ix3 h r j) = B m c (ix2 h ⟨min (r.val + 640 - j.val) 256, by omega⟩) := by
  have e : iblk m c 5 t (ix3 h r j) = V m c main_v26 (ix3 h r j) := by blk_ext [iblk, idx t]
  rw [e, Table.V_cached]
  pointwise
  exact Table.band_apply _ h r ⟨j.val, by omega⟩

theorem blk6 (c : Dev nD) (t : Fin 16) (h : Fin 8) (r : Fin 32) (j : Fin 32) :
    iblk m c 6 t (ix3 h r j) = B m c (ix2 h ⟨min (r.val + 640 - (512 + j.val)) 256, by omega⟩) := by
  have e : iblk m c 6 t (ix3 h r j) = V m c main_v27 (ix3 h r j) := by blk_ext [iblk, idx t]
  rw [e, Table.V_fresh]
  pointwise
  exact Table.band_apply _ h r ⟨512 + j.val, by omega⟩

/-- The arrays at an index. -/
abbrev Zf (c : Dev nD) : Fin 512 → Fin 1536 → EReal := fun R k => Z m c (ix2 R k)
abbrev Kf (c : Dev nD) : Fin 16 → Fin 8 → Fin 512 → Fin 64 → EReal := fun s h n e => K m c (ix4 s h n e)
abbrev Wf (c : Dev nD) : Fin 16 → Fin 8 → Fin 512 → Fin 64 → EReal := fun s h n e => W m c (ix4 s h n e)
abbrev Bf (c : Dev nD) : Fin 8 → Fin 257 → EReal := fun h k => B m c (ix2 h k)

theorem read_eq (x : Vec Ideal S512x1536 .f32) {R R' : Fin 512} {k k' : Fin 1536} (hR : R.val = R'.val) (hk : k.val = k'.val) :
    x (ix2 R k) = x (ix2 R' k') := by rw [Fin.ext hR, Fin.ext hk]

/-- An element of a cached key or value of row `r` of block `t`. -/
theorem cached (c : Dev nD) (C : Vec Ideal S16x8x512x64 .f32) (o : ℕ) (ho : o ≤ 1024) (t : Fin 16) (r : Fin 32) (h : Fin 8)
    (j : Fin 512) (e : Fin 64) :
    CacheTarget.entry (Zf m c) o ho (fun s h n e => C (ix4 s h n e)) ⟨32 * t.val + r.val, by omega⟩ h (Fin.castAdd 32 j) e
      = C (ix4 t h j e) := by
  unfold CacheTarget.entry
  rw [dif_pos (by exact j.isLt)]
  exact congrArg (fun s => C (ix4 s h j e)) (Fin.ext (by dsimp only; omega))

/-- An element of a new one. -/
theorem fresh (c : Dev nD) (C : Fin 16 → Fin 8 → Fin 512 → Fin 64 → EReal) (o : ℕ) (ho : o ≤ 1024) (t : Fin 16) (r : Fin 32)
    (h : Fin 8) (j : Fin 32) (e : Fin 64) :
    CacheTarget.entry (Zf m c) o ho C ⟨32 * t.val + r.val, by omega⟩ h (Fin.natAdd 512 j) e
      = Z m c (ix2 ⟨32 * t.val + j.val, by omega⟩ ⟨o + (64 * h.val + e.val), by omega⟩) := by
  unfold CacheTarget.entry
  rw [dif_neg (by rw [Fin.val_natAdd]; omega)]
  exact read_eq _ (by simp only [Fin.val_natAdd]; omega) rfl

variable (hZ : ∀ c R (k : Fin 1536), k.val < 1024 → Soft.Real' (Zf m c R k)) (hK : ∀ c s h n e, Soft.Real' (Kf m c s h n e))
  (hB : ∀ c h k, Soft.Real' (Bf m c h k))

include hZ hK hB in
theorem block_att (c : Dev nD) (t : Fin 16) (r : Fin 32) (l : Fin 512) :
    Att.block (iblk m c 0 t) (iblk m c 1 t) (iblk m c 2 t) (iblk m c 3 t) (iblk m c 4 t) (iblk m c 5 t) (iblk m c 6 t) r l
      = CacheTarget.att (Zf m c) (Kf m c) (Wf m c) (Bf m c) ⟨32 * t.val + r.val, by omega⟩ l := by
  have real := CacheTarget.score_real (hZ c) (hK c) (hB c) ⟨32 * t.val + r.val, by omega⟩ ⟨l.val / 64, by omega⟩
  unfold CacheTarget.att
  rw [← Soft.row_append _ _ (fun n => (real n).ne_top) ⟨0, by omega⟩ (real _).ne_bot]
  unfold Att.block
  refine congr (congr (congr (congrArg Soft.row (funext fun j => ?_)) (funext fun j => ?_)) (funext fun j => ?_)) (funext fun j => ?_)
  · unfold CacheTarget.score
    simp only [blk0, blk3, blk5, cached]
    refine congr (congrArg _ rfl) (congrArg (fun a => B m c (ix2 _ a)) (Fin.ext ?_))
    simp only [Fin.val_castAdd]
    omega
  · unfold CacheTarget.score
    simp only [blk0, blk1, blk6, fresh]
    refine congr (congrArg _ rfl) (congrArg (fun a => B m c (ix2 _ a)) (Fin.ext ?_))
    simp only [Fin.val_natAdd]
    omega
  · unfold CacheTarget.value
    rw [blk4, cached]
  · unfold CacheTarget.value
    rw [blk2, fresh]
    exact read_eq _ rfl (by dsimp only; omega)

/-- The result array. -/
def out (c : Dev nD) : Vec Ideal S512x512 .f32 := fun i => CacheTarget.att (Zf m c) (Kf m c) (Wf m c) (Bf m c) (i 0) (i 1)

include hZ hK hB in
theorem arr (c : Dev nD) : (dats m 0 c).arrAt 7 (cfgs 0).N = out m c := by
  refine (dats m 0 c).arrAt_eq_of_covers 7 _ (by decide +kernel) fun t hf y => ?_
  blk_simp
  rw [after0_7]
  have hy : y = ix2 (n0 := 32) (n1 := 512) (y 0) (y 1) := by
    funext a
    match a with
    | ⟨0, _⟩ => rfl
    | ⟨1, _⟩ => rfl
  obtain ⟨r, hr⟩ : ∃ r : Fin 32, r = y 0 := ⟨_, rfl⟩
  obtain ⟨l, hl⟩ : ∃ l : Fin 512, l = y 1 := ⟨_, rfl⟩
  rw [hy, ← hr, ← hl]
  refine (Att.out_apply _ _ _ _ _ _ _ r l).trans ?_
  refine (block_att m hZ hK hB c t r l).trans ?_
  refine congrArg₂ (CacheTarget.att _ _ _ _) (Fin.ext ?_) (Fin.ext ?_)
  · blk_simp [(idx t).2.2.2.2.2.2.2]
    dsimp only
    omega
  · blk_simp [(idx t).2.2.2.2.2.2.2]

end Cert.Kernel5Ideal.Blocks

end
-- ==== Proof.CacheRef.lean ====
/- The reference of the sample's attention read at an index. -/
module

public import proofs.«01_k».proof.Proof.CacheTarget
public import proofs.«01_k».proof.Proof.Gather
public import proofs.«01_k».proof.Proof.Gen.Reference5Ideal.Read

@[expose] public section

set_option maxRecDepth 16384

noncomputable section

namespace Cert.Reference5Ideal.Att

open Cert.Reference5Ideal Cert.Reference5Ideal.Gen Cert.Reference5Ideal.Read Idealize.ShloMosaic Idealize.ShloMosaic.TcCoe
  Idealize.SL.Sem

variable (x0 : Vec Ideal S512x1536 .f32) (x1 x2 : Vec Ideal S16x8x512x64 .f32) (x3 : Vec Ideal S8x257 .f32)

theorem read_eq (x : Vec Ideal S512x1536 .f32) {R R' : Fin 512} {k k' : Fin 1536} (hR : R.val = R'.val) (hk : k.val = k'.val) :
    x (ix2 R k) = x (ix2 R' k') := by rw [Fin.ext hR, Fin.ext hk]

/-- The arrays at an index. -/
abbrev Zf : Fin 512 → Fin 1536 → EReal := fun R k => x0 (ix2 R k)
abbrev Cf (x : Vec Ideal S16x8x512x64 .f32) : Fin 16 → Fin 8 → Fin 512 → Fin 64 → EReal := fun s h n e => x (ix4 s h n e)
abbrev Bf : Fin 8 → Fin 257 → EReal := fun h k => x3 (ix2 h k)

/-- The row of a sequence and a place in it. -/
abbrev at' (s : Fin 16) (i : Fin 32) : Fin 512 := ⟨s.val * 32 + i.val, by omega⟩

theorem q_apply (s : Fin 16) (i : Fin 32) (h : Fin 8) (e : Fin 64) :
    val_main_v4 (F := Ideal) x0 (ix4 s i h e) = x0 (ix2 (at' s i) ⟨64 * h.val + e.val, by omega⟩) := by
  pointwise [val_main_v4, val_main_v1, val_main_v0]
  exact read_eq _ rfl (by dsimp only; omega)

theorem k_apply (s : Fin 16) (i : Fin 32) (h : Fin 8) (e : Fin 64) :
    val_main_v7 (F := Ideal) x0 (ix4 s h i e) = x0 (ix2 (at' s i) ⟨512 + (64 * h.val + e.val), by omega⟩) := by
  pointwise [val_main_v7, val_main_v5, val_main_v2, val_main_v0]
  exact read_eq _ rfl (by dsimp only; omega)

theorem v_apply (s : Fin 16) (i : Fin 32) (h : Fin 8) (e : Fin 64) :
    val_main_v9 (F := Ideal) x0 (ix4 s h i e) = x0 (ix2 (at' s i) ⟨1024 + (64 * h.val + e.val), by omega⟩) := by
  pointwise [val_main_v9, val_main_v6, val_main_v3, val_main_v0]
  exact read_eq _ rfl (by dsimp only; omega)

theorem keys_apply (s : Fin 16) (h : Fin 8) (n : Fin 544) (e : Fin 64) (i : Fin 32) :
    val_main_v8 (F := Ideal) x0 x1 (ix4 s h n e) = CacheTarget.entry (Zf x0) 512 (by omega) (Cf x1) (at' s i) h n e := by
  have hs : (at' s i).val / 32 = s.val := by dsimp only; omega
  unfold CacheTarget.entry
  pointwise [val_main_v8]
  split
  · exact congrArg (fun s => x1 (ix4 s h _ e)) (Fin.ext hs.symm)
  · rw [k_apply]
    exact read_eq _ (by dsimp only; omega) rfl

theorem values_apply (s : Fin 16) (h : Fin 8) (n : Fin 544) (e : Fin 64) (i : Fin 32) :
    val_main_v10 (F := Ideal) x0 x2 (ix4 s h n e) = CacheTarget.entry (Zf x0) 1024 (by omega) (Cf x2) (at' s i) h n e := by
  have hs : (at' s i).val / 32 = s.val := by dsimp only; omega
  unfold CacheTarget.entry
  pointwise [val_main_v10]
  split
  · exact congrArg (fun s => x2 (ix4 s h _ e)) (Fin.ext hs.symm)
  · rw [v_apply]
    exact read_eq _ (by dsimp only; omega) rfl

theorem word_apply (i : Fin 32) (n : Fin 544) :
    (val_main_v31 (F := Ideal) (ix3 i n 0)).toInt.toNat = min (i.val + 640 - n.val) 256 := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_c, val_main_c_0, val_main_c_1, val_main_c_2, val_main_c_3, val_main_c_4, val_main_call0_v0,
    val_main_call0_v1, val_main_call0_v2, val_main_call0_v3, val_main_call0_v4]
  revert i n
  decide +kernel

theorem bias_apply (h : Fin 8) (i : Fin 32) (n : Fin 544) :
    val_main_v32 (F := Ideal) x3 (ix3 h i n) = x3 (ix2 h ⟨min (i.val + 640 - n.val) 256, by omega⟩) := by
  refine (Gather.cols_apply gather_S8x257_S32x544x1_S8x32x544_0_1_n_n_1_2_81_wf _ _ _ _ _).trans ?_
  refine congrArg (fun a => x3 (ix2 h a)) (Fin.ext ?_)
  dsimp only
  rw [word_apply]
  omega

/-- The scores of a row, as the reference has them. -/
abbrev scores (s : Fin 16) (h : Fin 8) (i : Fin 32) : Fin 544 → EReal := fun n => val_main_v35 (F := Ideal) x0 x1 x3 (ix4 s h i n)

theorem scores_eq (s : Fin 16) (h : Fin 8) (i : Fin 32) (n : Fin 544) :
    scores x0 x1 x3 s h i n = CacheTarget.score (Zf x0) (Cf x1) (Bf x3) (at' s i) h n := by
  have e : scores x0 x1 x3 s h i n
      = (∑ x, val_main_v4 x0 (ix4 s i h x) * val_main_v8 x0 x1 (ix4 s h n x)) * val_main_cst (F := Ideal) ix0
        + val_main_v32 x3 (ix3 h i n) := by
    show val_main_v35 (F := Ideal) x0 x1 x3 (ix4 s h i n) = _
    pointwise [val_main_v35, val_main_v34, val_main_v33, val_main_v13, val_main_v12, val_main_v11]
  rw [e, bias_apply]
  unfold CacheTarget.score
  simp only [q_apply, keys_apply x0 x1 s h n _ i]
  refine congr (congrArg _ rfl) ?_
  refine congrArg (fun a => x3 (ix2 h a)) (Fin.ext ?_)
  dsimp only
  omega

/-- The largest along the last of four axes, read at an index. -/
theorem largest_apply {n0 n1 n2 n3 : ℕ} (y : Vec Ideal ⟨4, ![n0, n1, n2, n3]⟩ .f32) (z : Vec Ideal S_ .f32)
    (hr : Shape.ReducesTo ⟨4, ![n0, n1, n2, n3]⟩ [3] ⟨3, ![n0, n1, n2]⟩) (hu : 0 < S_.numel) (b : Fin n0) (h : Fin n1) (i : Fin n2) :
    Host.reduce (FloatOps.maximumf (F := Ideal) (φ := .f32)) y z hr hu (ix3 b h i)
      = Finset.univ.fold max (z (Shape.Idx.first hu)) fun n : Fin n3 => y (ix4 b h i n) := by
  rw [Host.reduce_eq_fold, Shape.ReducesTo.fold_fiber_r4_a3]
  rfl

theorem low_eq (i : S_.Idx) : val_main_cst_5 (F := Ideal) i = ⊥ := by
  show Ideal.ofBits .f32 0xFF800000#32 = ⊥
  simp [Ideal.ofBits, Ideal.ieee]

theorem low_eq' (i : S_.Idx) : val_main_cst_6 (F := Ideal) i = ⊥ := by
  show Ideal.ofBits .f32 0xFF800000#32 = ⊥
  simp [Ideal.ofBits, Ideal.ieee]

theorem most_apply (s : Fin 16) (h : Fin 8) (i : Fin 32) :
    val_main_v36 (F := Ideal) x0 x1 x3 (ix3 s h i) = Finset.univ.fold max ⊥ (scores x0 x1 x3 s h i) := by
  rw [← low_eq (Shape.Idx.first h_S_)]
  unfold scores val_main_v36
  generalize val_main_v35 (F := Ideal) x0 x1 x3 = y
  exact largest_apply y _ reducesTo_S16x8x32x544_S16x8x32_d3 _ s h i

theorem top_apply (s : Fin 16) (h : Fin 8) (i : Fin 32) :
    val_main_v38 (F := Ideal) x0 x1 x3 (ix3 s h i) = Finset.univ.fold max ⊥ (scores x0 x1 x3 s h i) := by
  have e : val_main_v38 (F := Ideal) x0 x1 x3 (ix3 s h i)
      = max (val_main_cst_6 (F := Ideal) ix0) (val_main_v36 (F := Ideal) x0 x1 x3 (ix3 s h i)) := by
    rw [val_main_v38_apply, val_main_v37_apply]
    rfl
  rw [e, low_eq', most_apply]
  exact max_eq_right bot_le

theorem exp_apply (s : Fin 16) (h : Fin 8) (i : Fin 32) (n : Fin 544) :
    val_main_v42 (F := Ideal) x0 x1 x3 (ix4 s h i n)
      = Ideal.exp (scores x0 x1 x3 s h i n - Finset.univ.fold max ⊥ (scores x0 x1 x3 s h i)) := by
  rw [← top_apply]
  pointwise [val_main_v42, val_main_v41, val_main_v40, val_main_v39]

theorem weight_apply (s : Fin 16) (h : Fin 8) (i : Fin 32) (n : Fin 544) :
    val_main_v46 (F := Ideal) x0 x1 x3 (ix4 s h i n)
      = Ideal.div (Ideal.exp (scores x0 x1 x3 s h i n - Finset.univ.fold max ⊥ (scores x0 x1 x3 s h i)))
          (∑ k, Ideal.exp (scores x0 x1 x3 s h i k - Finset.univ.fold max ⊥ (scores x0 x1 x3 s h i))) := by
  have e : val_main_v46 (F := Ideal) x0 x1 x3 (ix4 s h i n) = Ideal.div (val_main_v42 (F := Ideal) x0 x1 x3 (ix4 s h i n))
      (val_main_cst_7 (Shape.Idx.first h_S_) + ∑ k, val_main_v42 (F := Ideal) x0 x1 x3 (ix4 s h i k)) := by
    pointwise [val_main_v46, val_main_v45, val_main_v44, val_main_v43]
  have h0 : val_main_cst_7 (F := Ideal) (Shape.Idx.first h_S_) = 0 := by
    show Ideal.ofBits .f32 0x00000000#32 = 0
    simp [Ideal.ofBits, Ideal.ieee]
  rw [e, h0, zero_add, exp_apply]
  exact congrArg (Ideal.div _) (Finset.sum_congr rfl fun k _ => exp_apply x0 x1 x3 s h i k)

/-- The reference at an index. -/
theorem out_apply (R : Fin 512) (l : Fin 512) :
    val_main_v49 (F := Ideal) x0 x1 x2 x3 (ix2 R l) = CacheTarget.att (Zf x0) (Cf x1) (Cf x2) (Bf x3) R l := by
  have e : val_main_v49 (F := Ideal) x0 x1 x2 x3 (ix2 R l) = ∑ n,
      val_main_v10 x0 x2 (ix4 ⟨R.val / 32, by omega⟩ ⟨l.val / 64, by omega⟩ n ⟨l.val % 64, by omega⟩)
        * val_main_v46 x0 x1 x3 (ix4 ⟨R.val / 32, by omega⟩ ⟨l.val / 64, by omega⟩ ⟨R.val % 32, by omega⟩ n) := by
    pointwise [val_main_v49, val_main_v48, val_main_v47]
  have hR : at' ⟨R.val / 32, by omega⟩ ⟨R.val % 32, by omega⟩ = R := Fin.ext (by dsimp only; omega)
  have hs : scores x0 x1 x3 ⟨R.val / 32, by omega⟩ ⟨l.val / 64, by omega⟩ ⟨R.val % 32, by omega⟩
      = CacheTarget.score (Zf x0) (Cf x1) (Bf x3) R ⟨l.val / 64, by omega⟩ := by
    funext n
    rw [scores_eq, hR]
  rw [e]
  unfold CacheTarget.att Soft.softRow
  refine Finset.sum_congr rfl fun n _ => ?_
  rw [weight_apply, hs, mul_comm]
  refine congrArg _ ?_
  rw [values_apply x0 x2 _ _ _ _ ⟨R.val % 32, by omega⟩, hR]
  rfl

end Cert.Reference5Ideal.Att

end
-- ==== Proof.CacheClaim.lean ====
/- The claim on the sample's attention. -/
module

public import proofs.«01_k».proof.Proof.Attention
public import proofs.«01_k».proof.Proof.CacheBlocks
public import proofs.«01_k».proof.Proof.CacheRef
public import proofs.«01_k».proof.Proof.Gen.Reference5Ideal.Run
public import proofs.«01_k».proof.Proof.Gen.Pre_finite_keys

@[expose] public section

set_option maxRecDepth 16384

noncomputable section

namespace Cert.CacheClaim

open Idealize.ShloMosaic Idealize.ShloMosaic.TcCoe Idealize.SL.Sem Cert.Kernel5Ideal

variable {m : (ℓ : Loc nD τ sig) → Buf (Elt Ideal) ℓ}

theorem mask_apply (z : Vec Ideal S512x1536 .f32) (k v : Vec Ideal S16x8x512x64 .f32) (b : Vec Ideal S8x257 .f32) (R : Fin 512)
    (j : Fin 1024) :
    (Cert.Pre_finite_keys.fn (F := Ideal) z k v b).1 (ix2 R j)
      = Ideal.cmp .olt (max (z (ix2 R ⟨j.val, by omega⟩)) (-z (ix2 R ⟨j.val, by omega⟩))) (Ideal.ofBits .f32 0x7F800000#32) := by
  pointwise [Cert.Pre_finite_keys.fn]
  rfl

theorem row_real (h : Cert.Pre_Kernel5Ideal_finite_keys m) (c : Dev nD) (R : Fin 512) (k : Fin 1536) (hk : k.val < 1024) :
    Soft.Real' (Blocks.Zf m c R k) :=
  Attention.real_of_word ((mask_apply _ _ _ _ R ⟨k.val, hk⟩).symm.trans (congrFun (h c).1 (ix2 R ⟨k.val, hk⟩)))

theorem cache_real (h : Cert.Pre_Kernel5Ideal_finite_keys m) (c : Dev nD) (s : Fin 16) (g : Fin 8) (n : Fin 512) (e : Fin 64) :
    Soft.Real' (Blocks.Kf m c s g n e) :=
  Attention.real_of_word (congrFun (h c).2.1 (ix4 s g n e))

theorem bias_real (h : Cert.Pre_Kernel5Ideal_finite_keys m) (c : Dev nD) (g : Fin 8) (k : Fin 257) : Soft.Real' (Blocks.Bf m c g k) :=
  Attention.real_of_word (congrFun (h c).2.2 (ix2 g k))

theorem algebraic : Cert.algebraic_Kernel5Ideal_Reference5Ideal_pre_finite_keys := by
  intro m ρ m' ρ' hpre hag
  refine ⟨fun c => Blocks.out m c, ?_, ?_⟩
  · exact (θ_run Cert.Kernel5Ideal.defs _ _).mono
      (fun _ h c => ⟨(h c).1.trans (Blocks.arr m (row_real hpre) (cache_real hpre) (bias_real hpre) c), (h c).2⟩)
      (Cert.Kernel5Ideal.Value.run_blocks m ρ)
  · refine (θ_run Cert.Reference5Ideal.defs _ _).mono (fun _ h c => ⟨(h c).1.trans ?_, (h c).2⟩)
      (Cert.Reference5Ideal.Value.run m' ρ')
    rw [Cert.Reference5Ideal.Read.val_main_v49_eq, (hag c).1, (hag c).2.1, (hag c).2.2.1, (hag c).2.2.2]
    funext i
    rw [show i = ix2 (i 0) (i 1) from by funext a; match a with | ⟨0, _⟩ => rfl | ⟨1, _⟩ => rfl]
    exact Cert.Reference5Ideal.Att.out_apply _ _ _ _ (i 0) (i 1)

end Cert.CacheClaim

end
-- ==== Proof.Prep.lean ====
/- The recurrence's inputs of a row: the token shift, the decay, the in-context rate and the modified key. -/
module

public import proofs.«01_k».proof.Proof.Merge

@[expose] public section

set_option maxRecDepth 16384

noncomputable section

namespace Cert.Prep

open Idealize.ShloMosaic

/-- A row mixed with the row before it. -/
def shifted (z p μ : EReal) : EReal := z + (p - z) * μ

/-- The softplus, as the logarithm of one plus an exponential that cannot overflow. -/
def soft (u : EReal) : EReal := max u 0 + Ideal.log (1 + Ideal.exp (-(max u (-u))))

/-- The decay of a raw decay. -/
def decay (w : EReal) : EReal := Ideal.exp (-(Ideal.exp (-(soft (-w)) - Ideal.ofBits .f32 0x3F000000#32)))

/-- The key the state takes, from the key, the rate and the key's gain. -/
def modKey (k a g : EReal) : EReal :=
  k * (Ideal.ofBits .f32 0x3F800000#32 + (a - Ideal.ofBits .f32 0x3F800000#32) * g)

/-- A product with a matrix whose lower half is zero. -/
theorem sum_upper (f w : Fin 128 → EReal) (h : ∀ l : Fin 128, 64 ≤ l.val → w l = 0) :
    ∑ l : Fin 128, f l * w l = ∑ l : Fin 64, f ⟨l.val, by omega⟩ * w ⟨l.val, by omega⟩ := by
  rw [Fin.sum_univ_add (a := 64) (b := 64) (fun l : Fin 128 => f l * w l), Finset.sum_eq_zero (s := Finset.univ)
    (f := fun l : Fin 64 => f (Fin.natAdd 64 l) * w (Fin.natAdd 64 l)) fun l _ => ?_, add_zero]
  · rfl
  · rw [h _ (by show 64 ≤ 64 + l.val; omega), mul_zero]

/-- A product with a matrix whose upper half is zero. -/
theorem sum_lower (f w : Fin 128 → EReal) (h : ∀ l : Fin 128, l.val < 64 → w l = 0) :
    ∑ l : Fin 128, f l * w l = ∑ l : Fin 64, f ⟨64 + l.val, by omega⟩ * w ⟨64 + l.val, by omega⟩ := by
  rw [Fin.sum_univ_add (a := 64) (b := 64) (fun l : Fin 128 => f l * w l), Finset.sum_eq_zero (s := Finset.univ)
    (f := fun l : Fin 64 => f (Fin.castAdd 64 l) * w (Fin.castAdd 64 l)) fun l _ => ?_, zero_add]
  · rfl
  · rw [h _ (by show l.val < 64; omega), mul_zero]

end Cert.Prep

end
-- ==== Proof.PrepBlock.lean ====
/- What one grid step of the kernel that prepares the recurrence stores, from the blocks it reads. -/
module

public import proofs.«01_k».proof.Proof.Prep
public import proofs.«01_k».proof.Proof.Gen.Kernel6Ideal.Frame
public import Idealize.ShloMosaic.Lib.Pipeline.Value
public import Idealize.ShloMosaic.Lib.Claim
public import Idealize.ShloMosaic.Lib.Pipeline.ValueKit.Tiles
public import Idealize.ShloMosaic.Lib.Pipeline.ValueKit.Point

@[expose] public section

set_option maxRecDepth 16384

noncomputable section

namespace Cert.Kernel6Ideal.Block

open Cert.Kernel6Ideal Cert.Kernel6Ideal.Gen Idealize.ShloMosaic Idealize.ShloMosaic.TcCoe Idealize.SL.Sem
open Cert.Prep
open Cert.Merge (sigmoid)

variable (i : grid0.Coords) (x0 : Vec Ideal S256x1792 .f32) (x1 : Vec Ideal S8x1792 .f32) (x2 : Vec Ideal S8x1792 .f32)
  (x3 : Vec Ideal S1x1792 .f32) (x4 : Vec Ideal S1x512 .f32) (x5 : Vec Ideal S128x512 .f32) (x6 : Vec Ideal S1x512 .f32)
  (x7 : Vec Ideal S128x512 .f32) (x8 : Vec Ideal S128x512 .f32) (x9 : Vec Ideal S1x512 .f32) (x10 : Vec Ideal S1x512 .f32)
  (x11 : Vec Ideal S1x512 .f32) (x12 : Vec Ideal S512x512 .bf16)

/-! ## The step's values -/

/-- The last row before the step's rows. -/
def last : Vec Ideal S1x1792 .f32 := fun j => x1 (ix2 7 (j 1))

/-- The row before a row: none at a sequence's first step, the block before's last row at a block's first. -/
def before (r : Fin 256) (k : Fin 1792) : EReal :=
  if (256 * (i 0).val + r.val) % 16384 = 0 then x2 (ix2 ⟨r.val / 32, by omega⟩ k)
  else if r.val = 0 then x1 (ix2 7 k) else x0 (ix2 ⟨r.val - 1, by omega⟩ k)

def Z : FVec Ideal S256x1792 .f32 := k0_pay3 i x0 (last x1) x2 x3

theorem first_word (t r : ℕ) (ht : t < 128) (hr : r < 256) (a b : EReal) :
    Scalar.select (IntOp.cmpi .eq (IntOp.remsi .vector (IntOp.addi (Scalar.muli (BitVec.ofNat 32 t) 256#32) (BitVec.ofNat 32 r))
      16384#32) 0#32) a b = if (256 * t + r) % 16384 = 0 then a else b := by
  have e : IntOp.addi (Scalar.muli (BitVec.ofNat 32 t) 256#32) (BitVec.ofNat 32 r) = BitVec.ofNat 32 (256 * t + r) := by
    show BitVec.ofNat 32 t * BitVec.ofNat 32 256 + BitVec.ofNat 32 r = _
    rw [← BitVec.ofNat_mul, ← BitVec.ofNat_add, Nat.mul_comm]
  have n : (BitVec.ofNat 32 (256 * t + r)).toNat = 256 * t + r := by rw [BitVec.toNat_ofNat]; omega
  have h := IntOp.remsi_eq_zero_iff .vector (x := BitVec.ofNat 32 (256 * t + r)) (by omega) 16384 (by omega) (by omega)
  rw [n, Nat.dvd_iff_mod_eq_zero] at h
  rw [e]
  unfold Scalar.select IntOp.cmpi
  by_cases hz : (256 * t + r) % 16384 = 0
  · rw [if_pos hz, h.mpr hz]
    rfl
  · rw [if_neg hz]
    have hn := fun g => hz (h.mp g)
    simp [beq_false_of_ne hn]

theorem top_word (r : ℕ) (hr : r < 256) (a b : EReal) :
    Scalar.select (IntOp.cmpi .eq (BitVec.ofNat 32 r) 0#32) a b = if r = 0 then a else b := by
  unfold Scalar.select IntOp.cmpi
  by_cases hz : r = 0
  · rw [if_pos hz, hz]
    rfl
  · have n : (BitVec.ofNat 32 r) ≠ 0#32 := fun g => hz (by
      have := congrArg BitVec.toNat g
      rw [BitVec.toNat_ofNat, Nat.mod_eq_of_lt (by omega)] at this
      exact this)
    rw [if_neg hz]
    simp [beq_false_of_ne n]

theorem Z_apply (r : Fin 256) (k : Fin 1792) :
    Z i x0 x1 x2 x3 (ix2 r k) = shifted (x0 (ix2 r k)) (before i x0 x1 x2 r k) (x3 (ix2 0 k)) := by
  have h : r.val ≠ 0 → (⟨(r.val + 256 - 1) % 256, by omega⟩ : Fin 256) = ⟨r.val - 1, by omega⟩ := fun h0 =>
    Fin.ext (by dsimp only; omega)
  unfold shifted before
  pointwise [Z, k0_pay3, last]
  rw [first_word _ _ (i 0).isLt r.isLt, top_word _ r.isLt]
  by_cases h0 : r.val = 0
  · rw [if_pos h0, if_pos h0]
  · rw [if_neg h0, if_neg h0, h h0]

theorem decay_apply (v39 v40 : FVec Ideal S256x512 .f32) (r : Fin 256) (k : Fin 512) :
    k0_pay11 v39 v40 (ix2 r k) = decay (v40 (ix2 r k) + v39 (ix2 r k)) := by
  unfold decay soft
  pointwise [k0_pay11]
  simp only [zero_sub]
  rfl

theorem lora_apply (r : Fin 256) (k : Fin 512) :
    k0_pay9 i x0 (last x1) x2 x3 x5 (ix2 r k)
      = ∑ l : Fin 128, Ideal.tanh (Z i x0 x1 x2 x3 (ix2 r ⟨1536 + l.val, by omega⟩)) * x5 (ix2 l k) := by
  have e : k0_pay3 i x0 (last x1) x2 x3 = Z i x0 x1 x2 x3 := rfl
  pointwise [k0_pay9, k0_pay7, e]

theorem start_apply (r : Fin 256) (k : Fin 512) : k0_pay10 x4 (ix2 r k) = x4 (ix2 0 k) := by
  pointwise [k0_pay10]

theorem rate_apply (r : Fin 256) (k : Fin 512) :
    k0_pay12 (k0_pay7 i x0 (last x1) x2 x3) x6 x7 (ix2 r k)
      = sigmoid (x6 (ix2 0 k) + ∑ l : Fin 128, Z i x0 x1 x2 x3 (ix2 r ⟨1536 + l.val, by omega⟩) * x7 (ix2 l k)) := by
  have e : k0_pay3 i x0 (last x1) x2 x3 = Z i x0 x1 x2 x3 := rfl
  unfold sigmoid
  pointwise [k0_pay12, k0_pay7, e]
  simp only [zero_sub]

theorem gate_apply (r : Fin 256) (k : Fin 512) :
    k0_pay14 (k0_pay13 (k0_pay8 i x0 (last x1) x2 x3)) x8 (ix2 r k)
      = ∑ l : Fin 128, sigmoid (Z i x0 x1 x2 x3 (ix2 r ⟨1664 + l.val, by omega⟩)) * x8 (ix2 l k) := by
  have e : k0_pay3 i x0 (last x1) x2 x3 = Z i x0 x1 x2 x3 := rfl
  unfold sigmoid
  pointwise [k0_pay14, k0_pay13, k0_pay8, e]
  simp only [zero_sub]

theorem key_apply (v30 v75 : FVec Ideal S256x512 .f32) (r : Fin 256) (k : Fin 512) :
    k0_pay16 v30 v75 x10 (ix2 r k) = modKey (v30 (ix2 r k)) (v75 (ix2 r k)) (x10 (ix2 0 k)) := by
  unfold modKey
  pointwise [k0_pay16]

/-! ## The step's stores: four pairs of heads -/

theorem tile (X : FVec Ideal S256x512 .f32) (w : S1x2x1x128x128.Idx → EReal) (o p : Fin 4) (q : Fin 2) (s l : Fin 128)
    (hw : ∀ (q : Fin 2) (s l : Fin 128), w (ix5 0 q 0 s l) = X (ix2 ⟨q.val * 128 + s.val, by omega⟩ ⟨128 * o.val + l.val, by omega⟩)) :
    View.TileAt (Val := Elt Ideal) (e := .f32) (S := S4x2x1x128x128) (ix5 p q 0 s l) ![o.val, 0, 0, 0, 0] S1x2x1x128x128.size w
      (X (ix2 ⟨q.val * 128 + s.val, by omega⟩ ⟨128 * p.val + l.val, by omega⟩)) := by
  intro x hx
  have h0 : (p : ℕ) = o.val + (x 0).val := hx 0
  have h1 : (q : ℕ) = 0 + (x 1).val := hx 1
  have h3 : (s : ℕ) = 0 + (x 3).val := hx 3
  have h4 : (l : ℕ) = 0 + (x 4).val := hx 4
  have b0 : (x 0).val < 1 := (x 0).isLt
  have b2 : (x 2).val < 1 := (x 2).isLt
  have e : x = (ix5 0 q 0 s l : S1x2x1x128x128.Idx) := by
    funext a
    match a with
    | ⟨0, _⟩ => exact Fin.ext (by show (x 0).val = 0; omega)
    | ⟨1, _⟩ => exact Fin.ext (h1.trans (Nat.zero_add _)).symm
    | ⟨2, _⟩ => exact Fin.ext (by show (x 2).val = 0; omega)
    | ⟨3, _⟩ => exact Fin.ext (h3.trans (Nat.zero_add _)).symm
    | ⟨4, _⟩ => exact Fin.ext (h4.trans (Nat.zero_add _)).symm
  rw [e]
  refine (hw q s l).trans (congrArg (fun k => X (ix2 _ k)) (Fin.ext ?_))
  dsimp only
  omega

/-- The four stores together hold the block's columns, a pair of heads after another. -/
theorem pairs (X : FVec Ideal S256x512 .f32) (w0 w1 w2 w3 : Vec Ideal S1x2x1x128x128 .f32) (p : Fin 4) (q : Fin 2) (s l : Fin 128)
    (h0 : ∀ (q : Fin 2) (s l : Fin 128), w0 (ix5 0 q 0 s l) = X (ix2 ⟨q.val * 128 + s.val, by omega⟩ ⟨128 * 0 + l.val, by omega⟩))
    (h1 : ∀ (q : Fin 2) (s l : Fin 128), w1 (ix5 0 q 0 s l) = X (ix2 ⟨q.val * 128 + s.val, by omega⟩ ⟨128 * 1 + l.val, by omega⟩))
    (h2 : ∀ (q : Fin 2) (s l : Fin 128), w2 (ix5 0 q 0 s l) = X (ix2 ⟨q.val * 128 + s.val, by omega⟩ ⟨128 * 2 + l.val, by omega⟩))
    (h3 : ∀ (q : Fin 2) (s l : Fin 128), w3 (ix5 0 q 0 s l) = X (ix2 ⟨q.val * 128 + s.val, by omega⟩ ⟨128 * 3 + l.val, by omega⟩)) :
    View.canon (Val := Elt Ideal) [⟨r0_10, w3⟩, ⟨r0_9, w2⟩, ⟨r0_8, w1⟩, ⟨r0_7, w0⟩] (ix5 p q 0 s l)
      = X (ix2 ⟨q.val * 128 + s.val, by omega⟩ ⟨128 * p.val + l.val, by omega⟩) := by
  refine View.canon_eq_of_allAt _ _ _ (cover0_13 w3 w2 w1 w0 _) ?_
  refine View.allAt_cons_unit _ _ _ _ _ (tile X w3 3 p q s l h3) ?_
  refine View.allAt_cons_unit _ _ _ _ _ (tile X w2 2 p q s l h2) ?_
  refine View.allAt_cons_unit _ _ _ _ _ (tile X w1 1 p q s l h1) ?_
  refine View.allAt_cons_unit _ _ _ _ _ (tile X w0 0 p q s l h0) ?_
  exact View.allAt_nil _ _

/-- The coordinates of a block of pairs. -/
theorem axes (y : S4x2x1x128x128.Idx) : ∃ (p : Fin 4) (q : Fin 2) (s l : Fin 128), y = ix5 p q 0 s l := by
  have b2 : (y 2).val < 1 := (y 2).isLt
  refine ⟨y 0, y 1, y 3, y 4, funext fun a => ?_⟩
  match a with
  | ⟨0, _⟩ => rfl
  | ⟨1, _⟩ => rfl
  | ⟨2, _⟩ => exact Fin.ext (by show (y 2).val = 0; omega)
  | ⟨3, _⟩ => rfl
  | ⟨4, _⟩ => rfl

/-! ## The step's loads -/

theorem zero2 : (![0, 0] : Fin 2 → ℕ) = fun _ => 0 := by
  funext a
  match a with
  | ⟨0, _⟩ => rfl
  | ⟨1, _⟩ => rfl

theorem load_last : View.ld (Val := Elt Ideal) x1 r0_1 = last x1 := by
  funext x
  refine View.ld_unit_apply_of (Val := Elt Ideal) (e := .f32) (S := S8x1792) x1 _ _ _ x _ fun a => ?_
  have h0 : (x 0).val < 1 := (x 0).isLt
  match a with
  | ⟨0, _⟩ => show 7 = 7 + (x 0).val; omega
  | ⟨1, _⟩ => exact (Nat.zero_add _).symm

theorem load_rows : View.ld (Val := Elt Ideal) x0 r0_0 = x0 := View.ld_unit_zero (S := S256x1792) zero2 _ x0
theorem load_first : View.ld (Val := Elt Ideal) x2 r0_2 = x2 := View.ld_unit_zero (S := S8x1792) zero2 _ x2
theorem load_mix : View.ld (Val := Elt Ideal) x3 r0_3 = x3 := View.ld_unit_zero (S := S1x1792) zero2 _ x3
theorem load_row : View.ld (Val := Elt Ideal) x4 r0_4 = x4 := View.ld_unit_zero (S := S1x512) zero2 _ x4
theorem load_up : View.ld (Val := Elt Ideal) x5 r0_5 = x5 := View.ld_unit_zero (S := S128x512) zero2 _ x5

/-! ## The step's results -/

theorem out13 (p : Fin 4) (q : Fin 2) (s l : Fin 128) :
    out0_13 i x0 x1 x2 x3 x4 x5 x6 x7 x8 x9 x10 x11 x12 (ix5 p q 0 s l)
      = Z i x0 x1 x2 x3 (ix2 ⟨q.val * 128 + s.val, by omega⟩ ⟨128 * p.val + l.val, by omega⟩) := by
  unfold_out out0_13
  rw [load_rows, load_last, load_first, load_mix]
  refine (pairs (k0_pay4 i x0 (last x1) x2 x3) _ _ _ _ p q s l ?_ ?_ ?_ ?_).trans ?_
  · intro q s l; pointwise [k0_pay19]
  · intro q s l; pointwise [k0_pay20, k0_pay21]
  · intro q s l; pointwise [k0_pay22]
  · intro q s l; pointwise [k0_pay23]
  · have e : k0_pay3 i x0 (last x1) x2 x3 = Z i x0 x1 x2 x3 := rfl
    pointwise [k0_pay4, e]

theorem out16 (p : Fin 4) (q : Fin 2) (s l : Fin 128) :
    out0_16 i x0 x1 x2 x3 x4 x5 x6 x7 x8 x9 x10 x11 x12 (ix5 p q 0 s l)
      = Z i x0 x1 x2 x3 (ix2 ⟨q.val * 128 + s.val, by omega⟩ ⟨1024 + (128 * p.val + l.val), by omega⟩) := by
  unfold_out out0_16
  rw [load_rows, load_last, load_first, load_mix]
  refine (pairs (k0_pay6 i x0 (last x1) x2 x3) _ _ _ _ p q s l ?_ ?_ ?_ ?_).trans ?_
  · intro q s l; pointwise [k0_pay33]
  · intro q s l; pointwise [k0_pay34]
  · intro q s l; pointwise [k0_pay35]
  · intro q s l; pointwise [k0_pay36]
  · have e : k0_pay3 i x0 (last x1) x2 x3 = Z i x0 x1 x2 x3 := rfl
    pointwise [k0_pay6, e]

theorem out14 (p : Fin 4) (q : Fin 2) (s l : Fin 128) :
    out0_14 i x0 x1 x2 x3 x4 x5 x6 x7 x8 x9 x10 x11 x12 (ix5 p q 0 s l)
      = decay (x4 (ix2 0 ⟨128 * p.val + l.val, by omega⟩)
          + ∑ j : Fin 128, Ideal.tanh (Z i x0 x1 x2 x3 (ix2 ⟨q.val * 128 + s.val, by omega⟩ ⟨1536 + j.val, by omega⟩))
              * x5 (ix2 j ⟨128 * p.val + l.val, by omega⟩)) := by
  unfold_out out0_14
  rw [load_rows, load_last, load_first, load_mix, load_row, load_up]
  refine (pairs (k0_pay11 (k0_pay9 i x0 (last x1) x2 x3 x5) (k0_pay10 x4)) _ _ _ _ p q s l ?_ ?_ ?_ ?_).trans ?_
  · intro q s l; pointwise [k0_pay24]
  · intro q s l; pointwise [k0_pay25]
  · intro q s l; pointwise [k0_pay26, k0_pay27]
  · intro q s l; pointwise [k0_pay28]
  · rw [decay_apply, lora_apply, start_apply]

theorem out15 (p : Fin 4) (q : Fin 2) (s l : Fin 128) :
    out0_15 i x0 x1 x2 x3 x4 x5 x6 x7 x8 x9 x10 x11 x12 (ix5 p q 0 s l)
      = modKey (Z i x0 x1 x2 x3 (ix2 ⟨q.val * 128 + s.val, by omega⟩ ⟨512 + (128 * p.val + l.val), by omega⟩))
          (sigmoid (x6 (ix2 0 ⟨128 * p.val + l.val, by omega⟩)
            + ∑ j : Fin 128, Z i x0 x1 x2 x3 (ix2 ⟨q.val * 128 + s.val, by omega⟩ ⟨1536 + j.val, by omega⟩)
                * x7 (ix2 j ⟨128 * p.val + l.val, by omega⟩)))
          (x10 (ix2 0 ⟨128 * p.val + l.val, by omega⟩)) := by
  unfold_out out0_15
  rw [load_rows, load_last, load_first, load_mix, load_row, load_up, load_row]
  refine (pairs (k0_pay16 (k0_pay5 i x0 (last x1) x2 x3) (k0_pay12 (k0_pay7 i x0 (last x1) x2 x3) x6 x7) x10) _ _ _ _ p q s l
    ?_ ?_ ?_ ?_).trans ?_
  · intro q s l; pointwise [k0_pay29]
  · intro q s l; pointwise [k0_pay30]
  · intro q s l; pointwise [k0_pay31]
  · intro q s l; pointwise [k0_pay32]
  · have e : k0_pay3 i x0 (last x1) x2 x3 = Z i x0 x1 x2 x3 := rfl
    rw [key_apply, rate_apply]
    pointwise [k0_pay5, e]

theorem out19 (r : Fin 256) (k : Fin 512) :
    out0_19 i x0 x1 x2 x3 x4 x5 x6 x7 x8 x9 x10 x11 x12 (ix2 r k)
      = ∑ l : Fin 128, sigmoid (Z i x0 x1 x2 x3 (ix2 r ⟨1664 + l.val, by omega⟩)) * x8 (ix2 l k) := by
  unfold_out out0_19
  rw [load_rows, load_last, load_first, load_mix, load_up]
  refine (View.canon_eq_of_allAt _ _ _ (cover0_19 _ _) ?_).trans (gate_apply i x0 x1 x2 x3 x8 r k)
  refine View.allAt_cons_unit _ _ _ _ _ ?_ (View.allAt_nil _ _)
  intro x hx
  refine congrArg _ (funext fun a => Fin.ext ?_)
  match a with
  | ⟨0, _⟩ => exact ((hx 0).trans (Nat.zero_add _)).symm
  | ⟨1, _⟩ => exact ((hx 1).trans (Nat.zero_add _)).symm

end Cert.Kernel6Ideal.Block

end
-- ==== Proof.PrepHost.lean ====
/- The arrays the host operations hand to the kernel that prepares the recurrence. -/
module

public import proofs.«01_k».proof.Proof.Prep
public import proofs.«01_k».proof.Proof.Gen.Kernel6Ideal.Frame
public import Idealize.ShloMosaic.Lib.Pipeline.Value
public import Idealize.ShloMosaic.Lib.Claim
public import Idealize.ShloMosaic.Lib.Routing.OpsOrder
public import Idealize.ShloMosaic.Lib.Pipeline.ValueKit.Point

@[expose] public section

set_option maxRecDepth 16384

noncomputable section

namespace Cert.Kernel6Ideal.Host

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The argument arrays. -/
abbrev Z : Vec Ideal S32768x1792 .f32 := m ((c : Thread nD τ).loc main_arg0)
abbrev Mu : Vec Ideal S1x1792 .f32 := m ((c : Thread nD τ).loc main_arg1)
abbrev W0 : Vec Ideal S1x512 .f32 := m ((c : Thread nD τ).loc main_arg2)
abbrev Wu : Vec Ideal S1x64x512 .f32 := m ((c : Thread nD τ).loc main_arg3)
abbrev A0 : Vec Ideal S1x512 .f32 := m ((c : Thread nD τ).loc main_arg4)
abbrev Au : Vec Ideal S1x64x512 .f32 := m ((c : Thread nD τ).loc main_arg5)
abbrev Gu : Vec Ideal S1x128x512 .f32 := m ((c : Thread nD τ).loc main_arg6)
abbrev Ka : Vec Ideal S1x512 .f32 := m ((c : Thread nD τ).loc main_arg8)

/-- The zeros that pad the two low-rank matrices. -/
def padding : Vec Ideal S64x512 .f32 := broadcastInDim S64x512 ![] bcast_S_S64x512 (constant (F := Ideal) S_ .f32 0x00000000#32)

/-- Two matrices, one above the other. -/
def stacked (a b : Vec Ideal S64x512 .f32) : Vec Ideal S128x512 .f32 :=
  concatenate S128x512 0 [⟨S64x512, a⟩, ⟨S64x512, b⟩] concatenates_S64x512_S64x512_S128x512_d0

/-- The rows before the sequences' first steps. -/
def firsts : Vec Ideal S2x512x1792 .f32 :=
  Host.scatter scatter_S2x512x1792_S1_S2x1792_01_1_1_0 (fun _ b => b)
    (broadcastInDim S2x512x1792 ![] bcast_S_S2x512x1792 (constant (F := Ideal) S_ .f32 0x00000000#32))
    (broadcastInDim S1 ![] bcast_S_S1 (constantI S_ 32 0#32) : IVec S1 32)
    (shapeCast S2x1792 (broadcastInDim S2x1x1792 ![] bcast_S_S2x1x1792 (constant (F := Ideal) S_ .f32 0x00000000#32) : Vec Ideal S2x1x1792 .f32)
      shapeCasts_S2x1x1792_S2x1792)

theorem V_mu : V m c main_v2 = shapeCast S1x1792 (shapeCast S1792 (Mu m c) shapeCasts_S1x1792_S1792) shapeCasts_S1792_S1x1792 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_w0 : V m c main_v4 = shapeCast S1x512 (shapeCast S512 (W0 m c) shapeCasts_S1x512_S512) shapeCasts_S512_S1x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_a0 : V m c main_v6 = shapeCast S1x512 (shapeCast S512 (A0 m c) shapeCasts_S1x512_S512) shapeCasts_S512_S1x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_ka : V m c main_v15 = shapeCast S1x512 (shapeCast S512 (Ka m c) shapeCasts_S1x512_S512) shapeCasts_S512_S1x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_wu : V m c main_v8 = stacked (shapeCast S64x512 (Wu m c) shapeCasts_S1x64x512_S64x512) padding := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  refine Eq.trans (show _ = stacked _ _ from rfl) ?_
  after_results_simp
  rfl

theorem V_au : V m c main_v10 = stacked padding (shapeCast S64x512 (Au m c) shapeCasts_S1x64x512_S64x512) := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  refine Eq.trans (show _ = stacked _ _ from rfl) ?_
  after_results_simp
  rfl

theorem V_gu : V m c main_v11 = shapeCast S128x512 (Gu m c) shapeCasts_S1x128x512_S128x512 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  rfl

theorem V_firsts : V m c main_v32 = shapeCast S1024x1792 firsts shapeCasts_S2x512x1792_S1024x1792 := by
  simp only [V, hostOps0, hostOps0_1, hostOps0_2, hostOps0_3, hostOps0_4, List.flatten_cons, List.flatten_nil, List.append_nil,
    StableHlo.TRef.nullary, StableHlo.TRef.binary, StableHlo.TRef.ternary, StableHlo.TRef.unary, StableHlo.TRef.toBuf,
    StableHlo.TRef.ofBuf, cast_eq, List.cons_append, List.nil_append]
  after_results_simp
  unfold firsts
  refine congrArg (fun x => shapeCast S1024x1792 x shapeCasts_S2x512x1792_S1024x1792) ?_
  refine congrArg (fun x => Host.scatter scatter_S2x512x1792_S1_S2x1792_01_1_1_0 (fun _ b => b) _ _ x) ?_
  rfl

theorem firsts_zero (i : S2x512x1792.Idx) : firsts i = (0 : EReal) := by
  unfold firsts
  refine Idealize.ShloMosaic.Routing.scatter_forall _ _ (fun x : EReal => x = 0) (fun _ _ _ h => h) _ _ _ (fun i => ?_) (fun j => ?_) i
  · pointwise
  · pointwise

end Cert.Kernel6Ideal.Host

end
-- ==== Proof.PrepRef.lean ====
/- The reference of the recurrence's preparation, read an element at a time. -/
module

public import proofs.«01_k».proof.Proof.Prep
public import proofs.«01_k».proof.Proof.Gen.Reference6Ideal.Read
public import Idealize.ShloMosaic.Lib.Claim

@[expose] public section

set_option maxRecDepth 16384

noncomputable section

namespace Cert.Reference6Ideal.Prep

open Cert.Reference6Ideal Cert.Reference6Ideal.Gen Cert.Reference6Ideal.Read Idealize.ShloMosaic Idealize.ShloMosaic.TcCoe
  Idealize.SL.Sem
open Cert.Prep
open Cert.Merge (sigmoid)

variable (z : Vec Ideal S32768x1792 .f32) (μ : Vec Ideal S1x1792 .f32) (w0 : Vec Ideal S1x512 .f32) (wu : Vec Ideal S1x64x512 .f32)
  (a0 : Vec Ideal S1x512 .f32) (au : Vec Ideal S1x64x512 .f32) (gu : Vec Ideal S1x128x512 .f32) (ka : Vec Ideal S1x512 .f32)

/-- The row before a step's: none at a sequence's first step. -/
def before (b : Fin 2) (t : Fin 16384) (k : Fin 1792) : EReal :=
  if t.val = 0 then 0 else z (ix2 ⟨b.val * 16384 + (t.val - 1), by omega⟩ k)

/-- A row after the token shift. -/
def mixed (b : Fin 2) (t : Fin 16384) (k : Fin 1792) : EReal :=
  shifted (z (ix2 ⟨b.val * 16384 + t.val, by omega⟩ k)) (before z b t k) (μ (ix2 0 k))

def rawDecay (b : Fin 2) (t : Fin 16384) (k : Fin 512) : EReal :=
  w0 (ix2 0 k) + ∑ l : Fin 64, Ideal.tanh (mixed z μ b t ⟨1536 + l.val, by omega⟩) * wu (ix3 0 l k)

def rate (b : Fin 2) (t : Fin 16384) (k : Fin 512) : EReal :=
  sigmoid (a0 (ix2 0 k) + ∑ l : Fin 64, mixed z μ b t ⟨1600 + l.val, by omega⟩ * au (ix3 0 l k))

def key (b : Fin 2) (t : Fin 16384) (k : Fin 512) : EReal :=
  modKey (mixed z μ b t ⟨512 + k.val, by omega⟩) (rate z μ a0 au b t k) (ka (ix2 0 k))

def gate (b : Fin 2) (t : Fin 16384) (k : Fin 512) : EReal :=
  ∑ l : Fin 128, sigmoid (mixed z μ b t ⟨1664 + l.val, by omega⟩) * gu (ix3 0 l k)

theorem mixed_apply (b : Fin 2) (t : Fin 16384) (k : Fin 1792) :
    val_main_v9 (F := Ideal) z μ (ix3 b t k) = mixed z μ b t k := by
  unfold mixed shifted before
  pointwise [val_main_v9, val_main_v8, val_main_v7, val_main_v6, val_main_v5, val_main_v4, val_main_v3, val_main_v2, val_main_v1,
    val_main_v0, val_main_cst]
  by_cases h : t.val = 0
  · rw [dif_pos (Nat.lt_one_iff.mpr h), if_pos h]
  · rw [dif_neg (fun g => h (Nat.lt_one_iff.mp g)), if_neg h]

theorem rawDecay_apply (b : Fin 2) (t : Fin 16384) (k : Fin 512) :
    val_main_v22 (F := Ideal) z μ w0 wu (ix3 b t k) = rawDecay z μ w0 wu b t k := by
  unfold rawDecay
  pointwise [val_main_v22, val_main_v21, val_main_v20, val_main_v16, val_main_v19, val_main_v17, val_main_v18, val_main_v13, mixed_apply]

theorem soft_apply (b : Fin 2) (t : Fin 16384) (k : Fin 512) :
    val_main_v24 (F := Ideal) z μ w0 wu (ix3 b t k) = soft (-(rawDecay z μ w0 wu b t k)) := by
  unfold soft
  pointwise [val_main_v24, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst, val_main_v23, rawDecay_apply]
  rw [if_neg (fun g => g rfl)]
  rfl

theorem decay_apply (b : Fin 2) (t : Fin 16384) (k : Fin 512) :
    val_main_v30 (F := Ideal) z μ w0 wu (ix3 b t k) = decay (rawDecay z μ w0 wu b t k) := by
  unfold decay
  pointwise [val_main_v30, val_main_v29, val_main_v28, val_main_v27, val_main_v26, val_main_v25, val_main_cst_0, soft_apply]

theorem rate_apply (b : Fin 2) (t : Fin 16384) (k : Fin 512) :
    val_main_v42 (F := Ideal) z μ a0 au (ix3 b t k) = rate z μ a0 au b t k := by
  unfold rate sigmoid
  pointwise [val_main_v42, val_main_v41, val_main_v40, val_main_v39, val_main_v38, val_main_v37, val_main_v36, val_main_v35,
    val_main_v34, val_main_v33, val_main_v32, val_main_v31, val_main_v14, val_main_cst_1, val_main_cst_2, mixed_apply]

theorem key_apply (b : Fin 2) (t : Fin 16384) (k : Fin 512) :
    val_main_v59 (F := Ideal) z μ a0 au ka (ix3 b t k) = key z μ a0 au ka b t k := by
  unfold key modKey
  pointwise [val_main_v59, val_main_v58, val_main_v57, val_main_v56, val_main_v55, val_main_v54, val_main_v53, val_main_v52,
    val_main_v51, val_main_v11, val_main_cst_5, val_main_cst_6, mixed_apply, rate_apply]

theorem gate_apply (b : Fin 2) (t : Fin 16384) (k : Fin 512) :
    val_main_v50 (F := Ideal) z μ gu (ix3 b t k) = gate z μ gu b t k := by
  unfold gate sigmoid
  pointwise [val_main_v50, val_main_v49, val_main_v48, val_main_v47, val_main_v46, val_main_v45, val_main_v44, val_main_v43,
    val_main_v15, val_main_cst_3, val_main_cst_4, mixed_apply]

/-! ## The results: the heads in pairs, the steps in chunks of 128 -/

/-- The step and the column an element of a result stands for. -/
def stepOf (n s : Fin 128) : Fin 16384 := ⟨n.val * 128 + s.val, by omega⟩
def colOf (p : Fin 4) (l : Fin 128) : Fin 512 := ⟨p.val * 128 + l.val, by omega⟩

theorem r_apply (p : Fin 4) (n : Fin 128) (b : Fin 2) (s l : Fin 128) :
    val_main_v61 (F := Ideal) z μ (ix5 p n b s l) = mixed z μ b (stepOf n s) ⟨(colOf p l).val, by omega⟩ := by
  pointwise [val_main_v61, val_main_v60, val_main_v10, mixed_apply]
  rfl

theorem w_apply (p : Fin 4) (n : Fin 128) (b : Fin 2) (s l : Fin 128) :
    val_main_v63 (F := Ideal) z μ w0 wu (ix5 p n b s l) = decay (rawDecay z μ w0 wu b (stepOf n s) (colOf p l)) := by
  pointwise [val_main_v63, val_main_v62, decay_apply]
  rfl

theorem k_apply (p : Fin 4) (n : Fin 128) (b : Fin 2) (s l : Fin 128) :
    val_main_v65 (F := Ideal) z μ a0 au ka (ix5 p n b s l) = key z μ a0 au ka b (stepOf n s) (colOf p l) := by
  pointwise [val_main_v65, val_main_v64, key_apply]
  rfl

theorem v_apply (p : Fin 4) (n : Fin 128) (b : Fin 2) (s l : Fin 128) :
    val_main_v67 (F := Ideal) z μ (ix5 p n b s l) = mixed z μ b (stepOf n s) ⟨1024 + (colOf p l).val, by omega⟩ := by
  pointwise [val_main_v67, val_main_v66, val_main_v12, mixed_apply]
  rfl

theorem g_apply (r : Fin 32768) (k : Fin 512) :
    val_main_v68 (F := Ideal) z μ gu (ix2 r k) = gate z μ gu ⟨r.val / 16384, by omega⟩ ⟨r.val % 16384, by omega⟩ k := by
  pointwise [val_main_v68, gate_apply]

/-! The same at any index. -/

theorem r_at (i : S4x128x2x128x128.Idx) : val_main_v61 (F := Ideal) z μ i
    = mixed z μ (i 2) (stepOf (i 1) (i 3)) ⟨(colOf (i 0) (i 4)).val, by omega⟩ := by
  idx_vars i
  exact r_apply ..

theorem w_at (i : S4x128x2x128x128.Idx) : val_main_v63 (F := Ideal) z μ w0 wu i
    = decay (rawDecay z μ w0 wu (i 2) (stepOf (i 1) (i 3)) (colOf (i 0) (i 4))) := by
  idx_vars i
  exact w_apply ..

theorem k_at (i : S4x128x2x128x128.Idx) : val_main_v65 (F := Ideal) z μ a0 au ka i
    = key z μ a0 au ka (i 2) (stepOf (i 1) (i 3)) (colOf (i 0) (i 4)) := by
  idx_vars i
  exact k_apply ..

theorem v_at (i : S4x128x2x128x128.Idx) : val_main_v67 (F := Ideal) z μ i
    = mixed z μ (i 2) (stepOf (i 1) (i 3)) ⟨1024 + (colOf (i 0) (i 4)).val, by omega⟩ := by
  idx_vars i
  exact v_apply ..

theorem g_at (i : S32768x512.Idx) : val_main_v68 (F := Ideal) z μ gu i
    = gate z μ gu ⟨(i 0).val / 16384, by have h : (i 0).val < 32768 := (i 0).isLt; omega⟩ ⟨(i 0).val % 16384, by omega⟩ (i 1) := by
  idx_vars i
  exact g_apply ..

theorem at_eq {n : ℕ} (f : Fin 2 → Fin 16384 → Fin n → EReal) {b b' : Fin 2} {t t' : Fin 16384} {k k' : Fin n} (hb : b.val = b'.val)
    (ht : t.val = t'.val) (hk : k.val = k'.val) : f b t k = f b' t' k' := by
  rw [Fin.ext hb, Fin.ext ht, Fin.ext hk]

end Cert.Reference6Ideal.Prep

end
-- ==== Proof.PrepArrays.lean ====
/- What the region of the kernel that prepares the recurrence leaves in five of its arrays, from the argument arrays. -/
module

public import proofs.«01_k».proof.Proof.PrepBlock
public import proofs.«01_k».proof.Proof.PrepHost
public import proofs.«01_k».proof.Proof.PrepRef

@[expose] public section

set_option maxRecDepth 16384

noncomputable section

namespace Cert.Kernel6Ideal.Arrays

open Cert.Kernel6Ideal Cert.Kernel6Ideal.Gen Cert.Kernel6Ideal.Host Idealize.ShloMosaic Idealize.ShloMosaic.TcCoe Idealize.SL.Sem
open Idealize.ShloMosaic.Pipeline (Dat)
open Cert.Prep
open Cert.Reference6Ideal.Prep (mixed rawDecay rate key gate stepOf colOf)

/-- Where each window stands at each grid point. -/
theorem idx : ∀ t : Fin grid0.N,
    win0_0.index t = ![t.val, 0] ∧ win0_1.index t = ![32 * t.val - 1, 0] ∧ win0_2.index t = ![t.val, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_10.index t = ![0, 0] ∧ (grid0.coords t 0).val = t.val := by
  decide +kernel

theorem idx13 : ∀ t : Fin grid0.N, win0_13.index t = ![0, t.val % 64, t.val / 64, 0, 0] := by decide +kernel
theorem idx14 : ∀ t : Fin grid0.N, win0_14.index t = ![0, t.val % 64, t.val / 64, 0, 0] := by decide +kernel
theorem idx15 : ∀ t : Fin grid0.N, win0_15.index t = ![0, t.val % 64, t.val / 64, 0, 0] := by decide +kernel
theorem idx16 : ∀ t : Fin grid0.N, win0_16.index t = ![0, t.val % 64, t.val / 64, 0, 0] := by decide +kernel
theorem idx19 : ∀ t : Fin grid0.N, win0_19.index t = ![t.val, 0] := by decide +kernel

variable (m : (ℓ : Loc nD τ sig) → Buf (Elt Ideal) ℓ) (c : Dev nD) (t : Fin 128)

/-- The sequence and the step a grid point's row belongs to. -/
def seq (r : Fin 256) : Fin 2 := ⟨(256 * t.val + r.val) / 16384, by omega⟩
def step (r : Fin 256) : Fin 16384 := ⟨(256 * t.val + r.val) % 16384, by omega⟩

theorem blk0 (r : Fin 256) (j : Fin 1792) : iblk m c 0 t (ix2 r j) = Z m c (ix2 ⟨256 * t.val + r.val, by omega⟩ j) := by
  have h : iblk m c 0 t (ix2 r j) = V m c main_arg0 (ix2 ⟨256 * t.val + r.val, by omega⟩ j) := by
    blk_ext [iblk, idx t]
  rw [h, V_main_arg0]

theorem blk1 (ht : t.val ≠ 0) (j : Fin 1792) : iblk m c 1 t (ix2 7 j) = Z m c (ix2 ⟨256 * t.val - 1, by omega⟩ j) := by
  have h : iblk m c 1 t (ix2 7 j) = V m c main_arg0 (ix2 ⟨256 * t.val - 1, by omega⟩ j) := by
    blk_ext [iblk, idx t]
  rw [h, V_main_arg0]

theorem blk2 (r : Fin 8) (j : Fin 1792) : iblk m c 2 t (ix2 r j) = (0 : EReal) := by
  have h : iblk m c 2 t (ix2 r j) = V m c main_v32 (ix2 ⟨8 * t.val + r.val, by omega⟩ j) := by
    blk_ext [iblk, idx t]
  rw [h, V_firsts]
  pointwise [firsts_zero]

theorem blk3 (j : Fin 1792) : iblk m c 3 t (ix2 0 j) = Mu m c (ix2 0 j) := by
  have h : iblk m c 3 t (ix2 0 j) = V m c main_v2 (ix2 0 j) := by
    blk_ext [iblk, idx t]
  rw [h, V_mu]
  pointwise

theorem blk4 (k : Fin 512) : iblk m c 4 t (ix2 0 k) = W0 m c (ix2 0 k) := by
  have h : iblk m c 4 t (ix2 0 k) = V m c main_v4 (ix2 0 k) := by
    blk_ext [iblk, idx t]
  rw [h, V_w0]
  pointwise

theorem blk6 (k : Fin 512) : iblk m c 6 t (ix2 0 k) = A0 m c (ix2 0 k) := by
  have h : iblk m c 6 t (ix2 0 k) = V m c main_v6 (ix2 0 k) := by
    blk_ext [iblk, idx t]
  rw [h, V_a0]
  pointwise

theorem blk10 (k : Fin 512) : iblk m c 10 t (ix2 0 k) = Ka m c (ix2 0 k) := by
  have h : iblk m c 10 t (ix2 0 k) = V m c main_v15 (ix2 0 k) := by
    blk_ext [iblk, idx t]
  rw [h, V_ka]
  pointwise

theorem blk8 (l : Fin 128) (k : Fin 512) : iblk m c 8 t (ix2 l k) = Gu m c (ix3 0 l k) := by
  have h : iblk m c 8 t (ix2 l k) = V m c main_v11 (ix2 l k) := by
    blk_ext [iblk, idx t]
  rw [h, V_gu]
  pointwise

theorem blk5 (l : Fin 128) (k : Fin 512) :
    iblk m c 5 t (ix2 l k) = if h : l.val < 64 then Wu m c (ix3 0 ⟨l.val, h⟩ k) else 0 := by
  have h : iblk m c 5 t (ix2 l k) = V m c main_v8 (ix2 l k) := by
    blk_ext [iblk, idx t]
  rw [h, V_wu]
  pointwise [stacked, padding]

theorem blk7 (l : Fin 128) (k : Fin 512) :
    iblk m c 7 t (ix2 l k) = if h : l.val < 64 then 0 else Au m c (ix3 0 ⟨l.val - 64, by omega⟩ k) := by
  have h : iblk m c 7 t (ix2 l k) = V m c main_v10 (ix2 l k) := by
    blk_ext [iblk, idx t]
  rw [h, V_au]
  pointwise [stacked, padding]

/-! ## The step's rows are the argument's -/

theorem row_eq (r : Fin 256) (k : Fin 1792) :
    Block.Z (grid0.coords t) (iblk m c 0 t) (iblk m c 1 t) (iblk m c 2 t) (iblk m c 3 t) (ix2 r k)
      = mixed (Z m c) (Mu m c) (seq t r) (step t r) k := by
  have hc : (grid0.coords t 0).val = t.val := (idx t).2.2.2.2.2.2.2.2.2.2
  have z : ∀ n n' : Fin 32768, n.val = n'.val → Z m c (ix2 n k) = Z m c (ix2 n' k) := fun n n' h => by rw [Fin.ext h]
  rw [Block.Z_apply, blk0, blk3]
  unfold mixed
  refine congrArg₂ (fun a b => shifted a b _) (z _ _ (by dsimp only [seq, step]; omega)) ?_
  unfold Block.before Cert.Reference6Ideal.Prep.before
  rw [hc]
  by_cases h : (256 * t.val + r.val) % 16384 = 0
  · rw [if_pos h, if_pos (show (step t r).val = 0 from h), blk2]
  · rw [if_neg h, if_neg (show ¬(step t r).val = 0 from h)]
    by_cases h0 : r.val = 0
    · rw [if_pos h0, blk1 m c t (fun g => h (by omega))]
      exact z _ _ (by dsimp only [seq, step]; omega)
    · rw [if_neg h0, blk0]
      exact z _ _ (by dsimp only [seq, step]; omega)

/-- The blocks the step reads beside its rows. -/
abbrev starts : Vec Ideal S1x512 .f32 := iblk m c 4 t
abbrev decayUp : Vec Ideal S128x512 .f32 := iblk m c 5 t
abbrev rateStarts : Vec Ideal S1x512 .f32 := iblk m c 6 t
abbrev rateUp : Vec Ideal S128x512 .f32 := iblk m c 7 t
abbrev gateUp : Vec Ideal S128x512 .f32 := iblk m c 8 t
abbrev gains : Vec Ideal S1x512 .f32 := iblk m c 10 t
abbrev rows : FVec Ideal S256x1792 .f32 :=
  Block.Z (grid0.coords t) (iblk m c 0 t) (iblk m c 1 t) (iblk m c 2 t) (iblk m c 3 t)

theorem decay_eq (r : Fin 256) (k : Fin 512) :
    starts m c t (ix2 0 k) + ∑ j : Fin 128, Ideal.tanh (rows m c t (ix2 r ⟨1536 + j.val, by omega⟩)) * decayUp m c t (ix2 j k)
      = rawDecay (Z m c) (Mu m c) (W0 m c) (Wu m c) (seq t r) (step t r) k := by
  unfold rawDecay
  rw [show starts m c t (ix2 0 k) = _ from blk4 m c t k, sum_upper _ (fun j => decayUp m c t (ix2 j k)) fun l hl =>
    (blk5 m c t l k).trans (dif_neg (by omega))]
  refine congrArg (_ + ·) (Finset.sum_congr rfl fun l _ => ?_)
  exact congrArg₂ (fun a b => Ideal.tanh a * b) (row_eq m c t r _) ((blk5 m c t _ k).trans (dif_pos l.isLt))

theorem rate_eq (r : Fin 256) (k : Fin 512) :
    Cert.Merge.sigmoid (rateStarts m c t (ix2 0 k) + ∑ j : Fin 128, rows m c t (ix2 r ⟨1536 + j.val, by omega⟩) * rateUp m c t (ix2 j k))
      = rate (Z m c) (Mu m c) (A0 m c) (Au m c) (seq t r) (step t r) k := by
  have e : ∀ l : Fin 64, (⟨1536 + (64 + l.val), by omega⟩ : Fin 1792) = ⟨1600 + l.val, by omega⟩ := fun l =>
    Fin.ext (by dsimp only; omega)
  have e' : ∀ l : Fin 64, (⟨64 + l.val - 64, by omega⟩ : Fin 64) = l := fun l => Fin.ext (by dsimp only; omega)
  unfold rate
  rw [show rateStarts m c t (ix2 0 k) = _ from blk6 m c t k, sum_lower _ (fun j => rateUp m c t (ix2 j k)) fun l hl =>
    (blk7 m c t l k).trans (dif_pos hl)]
  refine congrArg (fun s => Cert.Merge.sigmoid (_ + s)) (Finset.sum_congr rfl fun l _ => ?_)
  exact congrArg₂ (fun a b : EReal => a * b) ((row_eq m c t r _).trans (congrArg _ (e l)))
    (((blk7 m c t _ k).trans (dif_neg (by dsimp only; omega))).trans (congrArg (fun x => Au m c (ix3 0 x k)) (e' l)))

theorem gate_eq (r : Fin 256) (k : Fin 512) :
    ∑ l : Fin 128, Cert.Merge.sigmoid (rows m c t
        (ix2 r ⟨1664 + l.val, by omega⟩)) * gateUp m c t (ix2 l k)
      = gate (Z m c) (Mu m c) (Gu m c) (seq t r) (step t r) k := by
  unfold gate
  refine Finset.sum_congr rfl fun l _ => ?_
  exact congrArg₂ (fun a b => Cert.Merge.sigmoid a * b) (row_eq m c t r _) (blk8 m c t l k)

theorem key_eq (r : Fin 256) (k : Fin 512) :
    modKey (rows m c t (ix2 r ⟨512 + k.val, by omega⟩)) (Cert.Merge.sigmoid (rateStarts m c t (ix2 0 k) + ∑ j : Fin 128,
        rows m c t (ix2 r ⟨1536 + j.val, by omega⟩) * rateUp m c t (ix2 j k))) (gains m c t (ix2 0 k))
      = key (Z m c) (Mu m c) (A0 m c) (Au m c) (Ka m c) (seq t r) (step t r) k := by
  unfold key
  rw [show rows m c t _ = _ from row_eq m c t r _, rate_eq, show gains m c t _ = _ from blk10 m c t k]

/-! ## The arrays -/

theorem arr13 : (dats m 0 c).arrAt 13 (cfgs 0).N = Cert.Reference6Ideal.Read.val_main_v61 (F := Ideal) (Z m c) (Mu m c) := by
  refine (dats m 0 c).arrAt_eq_of_covers 13 _ (by decide +kernel) fun t hf y => ?_
  blk_simp
  rw [after0_13]
  obtain ⟨p, q, s, l, rfl⟩ := Block.axes y
  refine (Block.out13 (p := p) (q := q) (s := s) (l := l) ..).trans ((row_eq m c t ⟨q.val * 128 + s.val, by omega⟩ ⟨128 * p.val + l.val, by omega⟩).trans ?_)
  refine Eq.trans ?_ (Cert.Reference6Ideal.Prep.r_at ..).symm
  refine Cert.Reference6Ideal.Prep.at_eq (mixed (Z m c) (Mu m c)) ?_ ?_ ?_
  · unfold seq
    blk_simp [idx13 t]
    show (256 * t.val + (q.val * 128 + s.val)) / 16384 = t.val / 64 + 0
    omega
  · unfold step stepOf
    blk_simp [idx13 t]
    dsimp only
    omega
  · unfold colOf
    blk_simp [idx13 t]
    dsimp only
    omega

theorem arr14 : (dats m 0 c).arrAt 14 (cfgs 0).N = Cert.Reference6Ideal.Read.val_main_v63 (F := Ideal) (Z m c) (Mu m c) (W0 m c) (Wu m c) := by
  refine (dats m 0 c).arrAt_eq_of_covers 14 _ (by decide +kernel) fun t hf y => ?_
  blk_simp
  rw [after0_14]
  obtain ⟨p, q, s, l, rfl⟩ := Block.axes y
  refine (Block.out14 (p := p) (q := q) (s := s) (l := l) ..).trans ((congrArg decay (decay_eq m c t ⟨q.val * 128 + s.val, by omega⟩ ⟨128 * p.val + l.val, by omega⟩)).trans ?_)
  refine Eq.trans ?_ (Cert.Reference6Ideal.Prep.w_at ..).symm
  refine Cert.Reference6Ideal.Prep.at_eq (fun b u k => decay (rawDecay (Z m c) (Mu m c) (W0 m c) (Wu m c) b u k)) ?_ ?_ ?_
  · unfold seq
    blk_simp [idx14 t]
    show (256 * t.val + (q.val * 128 + s.val)) / 16384 = t.val / 64 + 0
    omega
  · unfold step stepOf
    blk_simp [idx14 t]
    dsimp only
    omega
  · unfold colOf
    blk_simp [idx14 t]
    dsimp only
    omega

theorem arr15 : (dats m 0 c).arrAt 15 (cfgs 0).N = Cert.Reference6Ideal.Read.val_main_v65 (F := Ideal) (Z m c) (Mu m c) (A0 m c) (Au m c) (Ka m c) := by
  refine (dats m 0 c).arrAt_eq_of_covers 15 _ (by decide +kernel) fun t hf y => ?_
  blk_simp
  rw [after0_15]
  obtain ⟨p, q, s, l, rfl⟩ := Block.axes y
  refine (Block.out15 (p := p) (q := q) (s := s) (l := l) ..).trans ((key_eq m c t ⟨q.val * 128 + s.val, by omega⟩ ⟨128 * p.val + l.val, by omega⟩).trans ?_)
  refine Eq.trans ?_ (Cert.Reference6Ideal.Prep.k_at ..).symm
  refine Cert.Reference6Ideal.Prep.at_eq (key (Z m c) (Mu m c) (A0 m c) (Au m c) (Ka m c)) ?_ ?_ ?_
  · unfold seq
    blk_simp [idx15 t]
    show (256 * t.val + (q.val * 128 + s.val)) / 16384 = t.val / 64 + 0
    omega
  · unfold step stepOf
    blk_simp [idx15 t]
    dsimp only
    omega
  · unfold colOf
    blk_simp [idx15 t]
    dsimp only
    omega

theorem arr16 : (dats m 0 c).arrAt 16 (cfgs 0).N = Cert.Reference6Ideal.Read.val_main_v67 (F := Ideal) (Z m c) (Mu m c) := by
  refine (dats m 0 c).arrAt_eq_of_covers 16 _ (by decide +kernel) fun t hf y => ?_
  blk_simp
  rw [after0_16]
  obtain ⟨p, q, s, l, rfl⟩ := Block.axes y
  refine (Block.out16 (p := p) (q := q) (s := s) (l := l) ..).trans ((row_eq m c t ⟨q.val * 128 + s.val, by omega⟩ ⟨1024 + (128 * p.val + l.val), by omega⟩).trans ?_)
  refine Eq.trans ?_ (Cert.Reference6Ideal.Prep.v_at ..).symm
  refine Cert.Reference6Ideal.Prep.at_eq (mixed (Z m c) (Mu m c)) ?_ ?_ ?_
  · unfold seq
    blk_simp [idx16 t]
    show (256 * t.val + (q.val * 128 + s.val)) / 16384 = t.val / 64 + 0
    omega
  · unfold step stepOf
    blk_simp [idx16 t]
    dsimp only
    omega
  · unfold colOf
    blk_simp [idx16 t]
    dsimp only
    omega

theorem arr19 : (dats m 0 c).arrAt 19 (cfgs 0).N
    = Cert.Reference6Ideal.Read.val_main_v68 (F := Ideal) (Z m c) (Mu m c) (Gu m c) := by
  refine (dats m 0 c).arrAt_eq_of_covers 19 _ (by decide +kernel) fun t hf y => ?_
  blk_simp
  rw [after0_19]
  obtain ⟨r, k, rfl⟩ : ∃ (r : Fin 256) (k : Fin 512), y = ix2 r k := by
    refine ⟨y 0, y 1, funext fun a => ?_⟩
    match a with
    | ⟨0, _⟩ => rfl
    | ⟨1, _⟩ => rfl
  refine (Block.out19 (r := r) (k := k) ..).trans ((gate_eq m c t _ _).trans ?_)
  refine Eq.trans ?_ (Cert.Reference6Ideal.Prep.g_at ..).symm
  refine Cert.Reference6Ideal.Prep.at_eq (gate (Z m c) (Mu m c) (Gu m c)) ?_ ?_ ?_
  · unfold seq
    blk_simp [idx19 t]
    dsimp only
    omega
  · unfold step
    blk_simp [idx19 t]
    dsimp only
    omega
  · blk_simp [idx19 t]

end Cert.Kernel6Ideal.Arrays

end
-- ==== Proof.PrepClaim.lean ====
/- The kernel that prepares the recurrence agrees with the reference in five of its results. -/
module

public import proofs.«01_k».proof.Proof.PrepArrays
public import proofs.«01_k».proof.Proof.Gen.Kernel6Ideal.Value
public import proofs.«01_k».proof.Proof.Gen.Reference6Ideal.Run
public import proofs.«01_k».proof.Defs

@[expose] public section

set_option maxRecDepth 16384

noncomputable section

namespace Cert.PrepClaim

open Idealize.ShloMosaic Idealize.ShloMosaic.TcCoe Idealize.SL.Sem Cert.Kernel6Ideal Cert.Kernel6Ideal.Gen Cert.Kernel6Ideal.Host
  Cert.Kernel6Ideal.Arrays Cert.Reference6Ideal.Read

theorem algebraic : Cert.algebraic_Kernel6Ideal_Reference6Ideal := by
  intro m ρ m' ρ' _ hag
  refine ⟨fun c => val_main_v61 (F := Ideal) (Z m c) (Mu m c), fun c => val_main_v63 (F := Ideal) (Z m c) (Mu m c) (W0 m c) (Wu m c),
    fun c => val_main_v65 (F := Ideal) (Z m c) (Mu m c) (A0 m c) (Au m c) (Ka m c), fun c => val_main_v67 (F := Ideal) (Z m c) (Mu m c),
    fun c => val_main_v68 (F := Ideal) (Z m c) (Mu m c) (Gu m c), ?_, ?_⟩
  · refine (θ_run Cert.Kernel6Ideal.defs _ _).mono (fun _ h c => ⟨(h c).1.trans (arr13 m c), (h c).2.1.trans (arr14 m c),
      (h c).2.2.1.trans (arr15 m c), (h c).2.2.2.1.trans (arr16 m c), (h c).2.2.2.2.2.2.1.trans (arr19 m c),
      (h c).2.2.2.2.2.2.2.2⟩) (Cert.Kernel6Ideal.Value.run_blocks m ρ)
  · refine (θ_run Cert.Reference6Ideal.defs _ _).mono (fun _ h c => ⟨(h c).1.trans ?_, (h c).2.1.trans ?_, (h c).2.2.1.trans ?_,
      (h c).2.2.2.1.trans ?_, (h c).2.2.2.2.1.trans ?_, (h c).2.2.2.2.2⟩) (Cert.Reference6Ideal.Value.run m' ρ')
    all_goals obtain ⟨h0, h1, h2, h3, h4, h5, h6, h7, h8, _⟩ := hag c
    · rw [val_main_v61_eq, h0, h1]
    · rw [val_main_v63_eq, h0, h1, h2, h3]
    · rw [val_main_v65_eq, h0, h1, h4, h5, h8]
    · rw [val_main_v67_eq, h0, h1]
    · rw [val_main_v68_eq, h0, h1, h6]

end Cert.PrepClaim

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_keys
public import proofs.«01_k».proof.Proof.Gen.Pre_finite_scores
public import proofs.«01_k».proof.Proof.Gen.Pre_finite_rows
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Attention
public import proofs.«01_k».proof.Proof.Projection
public import proofs.«01_k».proof.Proof.Sample
public import proofs.«01_k».proof.Proof.MergeClaim
public import proofs.«01_k».proof.Proof.CacheClaim
public import proofs.«01_k».proof.Proof.PrepClaim
public import Idealize.ShloMosaic.Adequacy
public import Idealize.ShloMosaic.Init

@[expose] public section

noncomputable section

namespace Cert.Proof

open Idealize.ShloMosaic Idealize.SL.Sem Cert.Kernel

/-- The attention's reference: its arguments are kept, and it has no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The projection's reference: its arguments are kept, and it has no semaphore. -/
theorem reference2_frame : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

/-- The sample batch's reference, likewise. -/
theorem reference3_frame : Cert.quiescent_Reference3Ideal := fun m ρ _ =>
  (θ_run Cert.Reference3Ideal.defs _ _).mono
    (fun r h => ⟨fun c => (h c).2.2.2.2.2.2, Idealize.ShloMosaic.sem_eq_zero_of_no_sems (by decide) r.2⟩)
    (Cert.Reference3Ideal.Value.run (F := Ideal) m ρ)

/-- The merge's reference, likewise. -/
theorem reference4_frame : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The reference of the sample's attention, likewise. -/
theorem reference5_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The reference of the recurrence's preparation, likewise. -/
theorem reference6_frame : Cert.quiescent_Reference6Ideal := fun m ρ _ =>
  (θ_run Cert.Reference6Ideal.defs _ _).mono
    (fun r h => ⟨fun c => (h c).2.2.2.2.2, Idealize.ShloMosaic.sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.Gen.facts, Cert.Pre_finite_rows.Gen.facts, Cert.Pre_finite_keys.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial,
  fun m ρ _ => Cert.Kernel5.Gen.frame m ρ, fun m ρ _ => Cert.Kernel5Ideal.Gen.frame m ρ, fun m ρ _ => Cert.Kernel5Ideal.Gen.frame m ρ,
  reference5_frame, fun m ρ _ => reference5_frame m ρ trivial,
  fun m ρ _ => Cert.Kernel6.Gen.frame m ρ, fun m ρ _ => Cert.Kernel6Ideal.Gen.frame m ρ, reference6_frame,
  Cert.Attention.preserves, Cert.Attention.algebraic, trivial, Cert.Projection.algebraic,
  trivial, Cert.Sample.algebraic, trivial, Cert.MergeClaim.algebraic,
  trivial, Cert.CacheClaim.algebraic, trivial, Cert.PrepClaim.algebraic⟩

end Cert.Proof

end
